-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v0_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4x8192x192 : Shape := ⟨4, ![4, 4, 8192, 192]⟩
abbrev S4x4x8192x128 : Shape := ⟨4, ![4, 4, 8192, 128]⟩
abbrev S4x4x256x192 : Shape := ⟨4, ![4, 4, 256, 192]⟩
abbrev S4x4x256x128 : Shape := ⟨4, ![4, 4, 256, 128]⟩
abbrev S_ : Shape := ⟨0, ![]⟩

class Facts : Prop where
  bitsLt_bf16_f32 : FTy.bits .bf16 < FTy.bits .f32
  bcast_S_S4x4x8192x192 : S_.BroadcastsInDim S4x4x8192x192 (![] : Fin 0 → Fin S4x4x8192x192.rank)
  bcast_S_S4x4x256x192 : S_.BroadcastsInDim S4x4x256x192 (![] : Fin 0 → Fin S4x4x256x192.rank)

variable [Facts]

def fn {F : FTy → Type} [FloatOps F] (main_arg0 : FVec F S4x4x8192x192 .bf16) (main_arg1 : FVec F S4x4x8192x192 .bf16) (main_arg2 : FVec F S4x4x8192x128 .bf16) (main_arg3 : FVec F S4x4x256x192 .bf16) (main_arg4 : FVec F S4x4x256x128 .bf16) : IVec S4x4x8192x192 1 × IVec S4x4x8192x192 1 × IVec S4x4x256x192 1 :=
  let main_v0 : FVec F S4x4x8192x192 .f32 := (extf .f32 · bitsLt_bf16_f32) main_arg0
  let main_v1 : FVec F S4x4x8192x192 .f32 := Host.absf main_v0
  let main_cst : FVec F S_ .f32 := constant S_ .f32 0x7F800000#32
  let main_v2 : FVec F S4x4x8192x192 .f32 := broadcastInDim S4x4x8192x192 ![] bcast_S_S4x4x8192x192 main_cst
  let main_v3 : IVec S4x4x8192x192 1 := cmpf .olt main_v1 main_v2
  let main_v4 : FVec F S4x4x8192x192 .f32 := (extf .f32 · bitsLt_bf16_f32) main_arg1
  let main_v5 : FVec F S4x4x8192x192 .f32 := Host.absf main_v4
  let main_cst_0 : FVec F S_ .f32 := constant S_ .f32 0x7F800000#32
  let main_v6 : FVec F S4x4x8192x192 .f32 := broadcastInDim S4x4x8192x192 ![] bcast_S_S4x4x8192x192 main_cst_0
  let main_v7 : IVec S4x4x8192x192 1 := cmpf .olt main_v5 main_v6
  let main_v8 : FVec F S4x4x256x192 .f32 := (extf .f32 · bitsLt_bf16_f32) main_arg3
  let main_v9 : FVec F S4x4x256x192 .f32 := Host.absf main_v8
  let main_cst_1 : FVec F S_ .f32 := constant S_ .f32 0x7F800000#32
  let main_v10 : FVec F S4x4x256x192 .f32 := broadcastInDim S4x4x256x192 ![] bcast_S_S4x4x256x192 main_cst_1
  let main_v11 : IVec S4x4x256x192 1 := cmpf .olt main_v9 main_v10
  (main_v3, main_v7, main_v11)
-- ==== Pre_routed.lean ====
abbrev S288 : Shape := ⟨1, ![288]⟩
abbrev S8x147456x128 : Shape := ⟨3, ![8, 147456, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S287 : Shape := ⟨1, ![287]⟩

class Facts : Prop where
  bcast_S_S288 : S_.BroadcastsInDim S288 (![] : Fin 0 → Fin S288.rank)
  slices_S288_S287_1 : S288.Slices ![1] S287
  slices_S288_S287_0 : S288.Slices ![0] S287
  bcast_S_S287 : S_.BroadcastsInDim S287 (![] : Fin 0 → Fin S287.rank)

variable [Facts]

def fn {F : FTy → Type} [FloatOps F] (main_arg0 : IVec S288 32) (main_arg1 : IVec S288 32) (main_arg2 : FVec F S8x147456x128 .bf16) (main_arg3 : FVec F S32x1024x2048 .f32) (main_arg4 : FVec F S32x1x2048 .f32) (main_arg5 : FVec F S32x1024x1024 .f32) (main_arg6 : FVec F S32x1x1024 .f32) : IVec S288 1 × IVec S287 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_v5 : IVec S287 32 := (extractStridedSlice S287 ![1] · slices_S288_S287_1) main_arg0
  let main_v6 : IVec S287 32 := (extractStridedSlice S287 ![0] · slices_S288_S287_0) main_arg0
  let main_v7 : IVec S287 1 := cmpi .ne main_v5 main_v6
  let main_v8 : IVec S287 32 := (extractStridedSlice S287 ![1] · slices_S288_S287_1) main_arg1
  let main_c_1 : IVec S_ 32 := constantI S_ 32 0#32
  let main_v9 : IVec S287 32 := broadcastInDim S287 ![] bcast_S_S287 main_c_1
  let main_v10 : IVec S287 1 := cmpi .sle main_v8 main_v9
  let main_v11 : IVec S287 1 := ori main_v7 main_v10
  let main_v12 : IVec S287 32 := (extractStridedSlice S287 ![0] · slices_S288_S287_0) main_arg1
  let main_c_2 : IVec S_ 32 := constantI S_ 32 0#32
  let main_v13 : IVec S287 32 := broadcastInDim S287 ![] bcast_S_S287 main_c_2
  let main_v14 : IVec S287 1 := cmpi .sgt main_v12 main_v13
  let main_v15 : IVec S287 1 := ori main_v11 main_v14
  (main_v4, main_v15)
-- ==== Kernel.lean ====
abbrev S4x4x8192x192 : Shape := ⟨4, ![4, 4, 8192, 192]⟩
abbrev S4x4x8192x128 : Shape := ⟨4, ![4, 4, 8192, 128]⟩
abbrev S4x4x256x192 : Shape := ⟨4, ![4, 4, 256, 192]⟩
abbrev S4x4x256x128 : Shape := ⟨4, ![4, 4, 256, 128]⟩
abbrev S_ : Shape := ⟨0, ![]⟩
abbrev S4x8192x512 : Shape := ⟨3, ![4, 8192, 512]⟩
abbrev S1x1x512x192 : Shape := ⟨4, ![1, 1, 512, 192]⟩
abbrev S1x1x8192x192 : Shape := ⟨4, ![1, 1, 8192, 192]⟩
abbrev S1x1x8192x128 : Shape := ⟨4, ![1, 1, 8192, 128]⟩
abbrev S1x1x256x192 : Shape := ⟨4, ![1, 1, 256, 192]⟩
abbrev S1x1x256x128 : Shape := ⟨4, ![1, 1, 256, 128]⟩
abbrev S1x512x128 : Shape := ⟨3, ![1, 512, 128]⟩
abbrev S3x512x512 : Shape := ⟨3, ![3, 512, 512]⟩
abbrev S2x512x512 : Shape := ⟨3, ![2, 512, 512]⟩
abbrev S512x128 : Shape := ⟨2, ![512, 128]⟩
abbrev S512x256 : Shape := ⟨2, ![512, 256]⟩
abbrev S512x192 : Shape := ⟨2, ![512, 192]⟩
abbrev S512x512 : Shape := ⟨2, ![512, 512]⟩
abbrev S1x512x512 : Shape := ⟨3, ![1, 512, 512]⟩
abbrev S1x32x512 : Shape := ⟨3, ![1, 32, 512]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S1x1x512x128 : Shape := ⟨4, ![1, 1, 512, 128]⟩
abbrev S256x192 : Shape := ⟨2, ![256, 192]⟩
abbrev S1x512x256 : Shape := ⟨3, ![1, 512, 256]⟩
abbrev S1x32x256 : Shape := ⟨3, ![1, 32, 256]⟩
abbrev S32x256 : Shape := ⟨2, ![32, 256]⟩
abbrev S256x128 : Shape := ⟨2, ![256, 128]⟩
abbrev S256x256 : Shape := ⟨2, ![256, 256]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4x4x8192x192, .bf16⟩
  | .hbm, ⟨1, _⟩ => ⟨S4x4x8192x192, .bf16⟩
  | .hbm, ⟨2, _⟩ => ⟨S4x4x8192x128, .bf16⟩
  | .hbm, ⟨3, _⟩ => ⟨S4x4x256x192, .bf16⟩
  | .hbm, ⟨4, _⟩ => ⟨S4x4x256x128, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4x8192x192, .f32⟩
  | .hbm, ⟨10, _⟩ => ⟨S4x4x8192x192, .f32⟩
  | .hbm, ⟨11, _⟩ => ⟨S4x4x8192x192, .f32⟩
  | .hbm, ⟨12, _⟩ => ⟨S4x4x8192x192, .bf16⟩
  | .hbm, ⟨13, _⟩ => ⟨S4x8192x512, .bf16⟩
  | .local _ .vmem, ⟨0, _⟩ => ⟨S1x1x512x192, .bf16⟩
  | .local _ .vmem, ⟨1, _⟩ => ⟨S1x1x512x192, .bf16⟩
  | .local _ .vmem, ⟨2, _⟩ => ⟨S1x1x8192x192, .bf16⟩
  | .local _ .vmem, ⟨3, _⟩ => ⟨S1x1x8192x192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x256x192, .bf16⟩
  | .local _ .vmem, ⟨7, _⟩ => ⟨S1x1x256x192, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x512x128, .bf16⟩
  | .local _ .vmem, ⟨11, _⟩ => ⟨S1x512x128, .bf16⟩
  | .local _ .vmem, ⟨12, _⟩ => ⟨S3x512x512, .f32⟩
  | .local _ .vmem, ⟨13, _⟩ => ⟨S2x512x512, .bf16⟩
  | .local _ .vmem, ⟨14, _⟩ => ⟨S512x128, .f32⟩
  | .local _ .vmem, ⟨15, _⟩ => ⟨S512x128, .f32⟩
  | .local _ .vmem, ⟨16, _⟩ => ⟨S512x256, .f32⟩
  | _, _ => ⟨S4x4x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4x8192x192 : Shape := ⟨4, ![4, 4, 8192, 192]⟩
abbrev S4x4x8192x128 : Shape := ⟨4, ![4, 4, 8192, 128]⟩
abbrev S4x4x256x192 : Shape := ⟨4, ![4, 4, 256, 192]⟩
abbrev S4x4x256x128 : Shape := ⟨4, ![4, 4, 256, 128]⟩
abbrev S4x4x8448x192 : Shape := ⟨4, ![4, 4, 8448, 192]⟩
abbrev S4x4x8448x128 : Shape := ⟨4, ![4, 4, 8448, 128]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4x128 : Shape := ⟨4, ![4, 8192, 4, 128]⟩
abbrev S4x8192x512 : Shape := ⟨3, ![4, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x4x8192x192, .bf16⟩
  | .hbm, ⟨1, _⟩ => ⟨S4x4x8192x192, .bf16⟩
  | .hbm, ⟨2, _⟩ => ⟨S4x4x8192x128, .bf16⟩
  | .hbm, ⟨3, _⟩ => ⟨S4x4x256x192, .bf16⟩
  | .hbm, ⟨4, _⟩ => ⟨S4x4x256x128, .bf16⟩
  | .hbm, ⟨5, _⟩ => ⟨S4x4x8448x192, .bf16⟩
  | .hbm, ⟨6, _⟩ => ⟨S4x4x8448x128, .bf16⟩
  | .hbm, ⟨7, _⟩ => ⟨S4x4x8192x8448, .f32⟩
  | .hbm, ⟨8, _⟩ => ⟨S_, .f32⟩
  | .hbm, ⟨9, _⟩ => ⟨S4x4x8192x8448, .f32⟩
  | .hbm, ⟨10, _⟩ => ⟨S4x4x8192x8448, .f32⟩
  | .hbm, ⟨11, _⟩ => ⟨S_, .f32⟩
  | .hbm, ⟨12, _⟩ => ⟨S4x4x8192, .f32⟩
  | .hbm, ⟨13, _⟩ => ⟨S_, .f32⟩
  | .hbm, ⟨14, _⟩ => ⟨S4x4x8192, .f32⟩
  | .hbm, ⟨15, _⟩ => ⟨S4x4x8192, .f32⟩
  | .hbm, ⟨16, _⟩ => ⟨S4x4x8192x1, .f32⟩
  | .hbm, ⟨17, _⟩ => ⟨S4x4x8192x8448, .f32⟩
  | .hbm, ⟨18, _⟩ => ⟨S4x4x8192x8448, .f32⟩
  | .hbm, ⟨19, _⟩ => ⟨S4x4x8192x8448, .f32⟩
  | .hbm, ⟨20, _⟩ => ⟨S_, .f32⟩
  | .hbm, ⟨21, _⟩ => ⟨S4x4x8192, .f32⟩
  | .hbm, ⟨22, _⟩ => ⟨S4x4x8192x1, .f32⟩
  | .hbm, ⟨23, _⟩ => ⟨S4x4x8192x8448, .f32⟩
  | .hbm, ⟨24, _⟩ => ⟨S4x4x8192x8448, .f32⟩
  | .hbm, ⟨25, _⟩ => ⟨S4x4x8192x8448, .bf16⟩
  | .hbm, ⟨26, _⟩ => ⟨S4x4x128x8192, .f32⟩
  | .hbm, ⟨27, _⟩ => ⟨S4x8192x4x128, .f32⟩
  | .hbm, ⟨28, _⟩ => ⟨S4x8192x4x128, .bf16⟩
  | .hbm, ⟨29, _⟩ => ⟨S4x8192x512, .bf16⟩
  | _, _ => ⟨S4x4x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S288 : Shape := ⟨1, ![288]⟩
abbrev S8x147456x128 : Shape := ⟨3, ![8, 147456, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S8x512x128 : Shape := ⟨3, ![8, 512, 128]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x1 : Shape := ⟨2, ![512, 1]⟩
abbrev S1x512x128 : Shape := ⟨3, ![1, 512, 128]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S8x147456x128, .bf16⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S8x147456x128, .bf16⟩
  | .local _ .vmem, ⟨0, _⟩ => ⟨S8x512x128, .bf16⟩
  | .local _ .vmem, ⟨1, _⟩ => ⟨S8x512x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S8x512x128, .bf16⟩
  | .local _ .vmem, ⟨11, _⟩ => ⟨S8x512x128, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S8x147456x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
@[reducible] def k0_t1_loop : Scf.Loop 32 :=
  let c0_i32_5 : BitVec 32 := 0#32
  let c8_i32 : BitVec 32 := 8#32
  let v20 : BitVec 32 := Scalar.addi c0_i32_5 c8_i32
  let c1_i32_6 : BitVec 32 := 1#32
  ⟨c0_i32_5, v20, c1_i32_6⟩
def k0_mult1 (k0_t1 : Fin k0_t1_loop.trips) : BitVec 32 :=
  let c0_i32_5 : BitVec 32 := 0#32
  let c1_i32_6 : BitVec 32 := 1#32
  let arg11 : BitVec 32 := Scf.iv c0_i32_5 c1_i32_6 k0_t1
  let c128_i32 : BitVec 32 := 128#32
  let v22 : BitVec 32 := Scalar.muli arg11 c128_i32
  v22
def k0_off3 (k0_t1 : Fin k0_t1_loop.trips) : Fin 3 → Nat :=
  let c0 : Index := 0#32
  let c0_i32_5 : BitVec 32 := 0#32
  let c1_i32_6 : BitVec 32 := 1#32
  let arg11 : BitVec 32 := Scf.iv c0_i32_5 c1_i32_6 k0_t1
  let c128_i32 : BitVec 32 := 128#32
  let v22 : BitVec 32 := Scalar.muli arg11 c128_i32
  let v23 : BitVec 32 := v22
  let v24 : Index := Scalar.indexCast v23
  let c0_12 : Index := 0#32
  ![0, v24.toNat, 0]
def k0_off4 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v22 : BitVec 32 := Scalar.muli arg11 c128_i32
  let v23 : BitVec 32 := v22
  let v28 : Index := Scalar.indexCast v23
  let c0_13 : Index := 0#32
  ![v28.toNat, 0]
@[reducible] def k0_t2_loop : Scf.Loop 32 :=
  let c0_i32_8 : BitVec 32 := 0#32
  let c8_i32_9 : BitVec 32 := 8#32
  let v21 : BitVec 32 := Scalar.addi c0_i32_8 c8_i32_9
  let c1_i32_10 : BitVec 32 := 1#32
  ⟨c0_i32_8, v21, c1_i32_10⟩
def k0_mult2 (k0_t2 : Fin k0_t2_loop.trips) : BitVec 32 :=
  let c0_i32_8 : BitVec 32 := 0#32
  let c1_i32_10 : BitVec 32 := 1#32
  let arg11 : BitVec 32 := Scf.iv c0_i32_8 c1_i32_10 k0_t2
  let c128_i32 : BitVec 32 := 128#32
  let v22 : BitVec 32 := Scalar.muli arg11 c128_i32
  v22
def k0_off5 (k0_t2 : Fin k0_t2_loop.trips) : Fin 3 → Nat :=
  let c0 : Index := 0#32
  let c0_i32_8 : BitVec 32 := 0#32
  let c1_i32_10 : BitVec 32 := 1#32
  let arg11 : BitVec 32 := Scf.iv c0_i32_8 c1_i32_10 k0_t2
  let c128_i32 : BitVec 32 := 128#32
  let v22 : BitVec 32 := Scalar.muli arg11 c128_i32
  let v23 : BitVec 32 := v22
  let v24 : Index := Scalar.indexCast v23
  let c0_12 : Index := 0#32
  ![0, v24.toNat, 0]
def k0_off6 (k0_t2 : Fin k0_t2_loop.trips) : Fin 2 → Nat :=
  let c0_i32_8 : BitVec 32 := 0#32
  let c1_i32_10 : BitVec 32 := 1#32
  let arg11 : BitVec 32 := Scf.iv c0_i32_8 c1_i32_10 k0_t2
  let c128_i32 : BitVec 32 := 128#32
  let v22 : BitVec 32 := Scalar.muli arg11 c128_i32
  let v23 : BitVec 32 := v22
  let v28 : Index := Scalar.indexCast v23
  let c0_13 : Index := 0#32
  ![v28.toNat, 0]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S8x147456x128 : Shape := ⟨3, ![8, 147456, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S147456x8x128 : Shape := ⟨3, ![147456, 8, 128]⟩
abbrev S288x512x1024 : Shape := ⟨3, ![288, 512, 1024]⟩
abbrev S512 : Shape := ⟨1, ![512]⟩
abbrev S1x512x1 : Shape := ⟨3, ![1, 512, 1]⟩
abbrev S288x1x1 : Shape := ⟨3, ![288, 1, 1]⟩
abbrev S288x512x1 : Shape := ⟨3, ![288, 512, 1]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S8x147456x128, .bf16⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S8x147456x128, .f32⟩
  | .hbm, ⟨8, _⟩ => ⟨S147456x8x128, .f32⟩
  | .hbm, ⟨9, _⟩ => ⟨S288x512x1024, .f32⟩
  | .hbm, ⟨10, _⟩ => ⟨S512, .i32⟩
  | .hbm, ⟨11, _⟩ => ⟨S1x512x1, .i32⟩
  | .hbm, ⟨12, _⟩ => ⟨S288x1x1, .i32⟩
  | .hbm, ⟨13, _⟩ => ⟨S288x512x1, .i32⟩
  | .hbm, ⟨14, _⟩ => ⟨S288x512x1, .i32⟩
  | .hbm, ⟨15, _⟩ => ⟨S288x512x1, .i1⟩
  | .hbm, ⟨16, _⟩ => ⟨S_, .f32⟩
  | .hbm, ⟨17, _⟩ => ⟨S_, .f32⟩
  | .hbm, ⟨18, _⟩ => ⟨S288x512x1024, .i1⟩
  | .hbm, ⟨19, _⟩ => ⟨S288x512x1024, .f32⟩
  | .hbm, ⟨20, _⟩ => ⟨S288x512x1024, .f32⟩
  | .hbm, ⟨21, _⟩ => ⟨S_, .i32⟩
  | .hbm, ⟨22, _⟩ => ⟨S288, .i32⟩
  | .hbm, ⟨23, _⟩ => ⟨S288, .i1⟩
  | .hbm, ⟨24, _⟩ => ⟨S_, .i32⟩
  | .hbm, ⟨25, _⟩ => ⟨S288, .i32⟩
  | .hbm, ⟨26, _⟩ => ⟨S288, .i32⟩
  | .hbm, ⟨27, _⟩ => ⟨S288, .i32⟩
  | .hbm, ⟨28, _⟩ => ⟨S288x1, .i32⟩
  | .hbm, ⟨29, _⟩ => ⟨S288x1024x2048, .f32⟩
  | .hbm, ⟨30, _⟩ => ⟨S288x512x2048, .f32⟩
  | .hbm, ⟨31, _⟩ => ⟨S_, .i32⟩
  | .hbm, ⟨32, _⟩ => ⟨S288, .i32⟩
  | .hbm, ⟨33, _⟩ => ⟨S288, .i1⟩
  | .hbm, ⟨34, _⟩ => ⟨S_, .i32⟩
  | .hbm, ⟨35, _⟩ => ⟨S288, .i32⟩
  | .hbm, ⟨36, _⟩ => ⟨S288, .i32⟩
  | .hbm, ⟨37, _⟩ => ⟨S288, .i32⟩
  | .hbm, ⟨38, _⟩ => ⟨S288x1, .i32⟩
  | .hbm, ⟨39, _⟩ => ⟨S288x1x2048, .f32⟩
  | .hbm, ⟨40, _⟩ => ⟨S288x512x2048, .f32⟩
  | .hbm, ⟨41, _⟩ => ⟨S288x512x2048, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S288x512x1024, .f32⟩
  | .hbm, ⟨67, _⟩ => ⟨S_, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S_, .i32⟩
  | .hbm, ⟨75, _⟩ => ⟨S288, .i32⟩
  | .hbm, ⟨76, _⟩ => ⟨S288, .i32⟩
  | .hbm, ⟨77, _⟩ => ⟨S288, .i32⟩
  | .hbm, ⟨78, _⟩ => ⟨S288x1, .i32⟩
  | .hbm, ⟨79, _⟩ => ⟨S288x1024x1024, .f32⟩
  | .hbm, ⟨80, _⟩ => ⟨S288x512x1024, .f32⟩
  | .hbm, ⟨81, _⟩ => ⟨S_, .i32⟩
  | .hbm, ⟨82, _⟩ => ⟨S288, .i32⟩
  | .hbm, ⟨83, _⟩ => ⟨S288, .i1⟩
  | .hbm, ⟨84, _⟩ => ⟨S_, .i32⟩
  | .hbm, ⟨85, _⟩ => ⟨S288, .i32⟩
  | .hbm, ⟨86, _⟩ => ⟨S288, .i32⟩
  | .hbm, ⟨87, _⟩ => ⟨S288, .i32⟩
  | .hbm, ⟨88, _⟩ => ⟨S288x1, .i32⟩
  | .hbm, ⟨89, _⟩ => ⟨S288x1x1024, .f32⟩
  | .hbm, ⟨90, _⟩ => ⟨S288x512x1024, .f32⟩
  | .hbm, ⟨91, _⟩ => ⟨S288x512x1024, .f32⟩
  | .hbm, ⟨92, _⟩ => ⟨S288x1x1, .i32⟩
  | .hbm, ⟨93, _⟩ => ⟨S_, .i32⟩
  | .hbm, ⟨94, _⟩ => ⟨S288x1x1, .i32⟩
  | .hbm, ⟨95, _⟩ => ⟨S288x1x1, .i1⟩
  | .hbm, ⟨96, _⟩ => ⟨S_, .f32⟩
  | .hbm, ⟨97, _⟩ => ⟨S_, .f32⟩
  | .hbm, ⟨98, _⟩ => ⟨S288x512x1024, .i1⟩
  | .hbm, ⟨99, _⟩ => ⟨S288x512x1024, .f32⟩
  | .hbm, ⟨100, _⟩ => ⟨S288x512x1024, .f32⟩
  | .hbm, ⟨101, _⟩ => ⟨S288x512x1024, .bf16⟩
  | .hbm, ⟨102, _⟩ => ⟨S147456x8x128, .bf16⟩
  | .hbm, ⟨103, _⟩ => ⟨S8x147456x128, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== Kernel3.lean ====
abbrev S4x4x32768x128 : Shape := ⟨4, ![4, 4, 32768, 128]⟩
abbrev S32768x4 : Shape := ⟨2, ![32768, 4]⟩
abbrev S32768x1024 : Shape := ⟨2, ![32768, 1024]⟩
abbrev S4x1x1024 : Shape := ⟨3, ![4, 1, 1024]⟩
abbrev S4x4x512x128 : Shape := ⟨4, ![4, 4, 512, 128]⟩
abbrev S512x4 : Shape := ⟨2, ![512, 4]⟩
abbrev S512x1024 : Shape := ⟨2, ![512, 1024]⟩
abbrev S1x1x1024 : Shape := ⟨3, ![1, 1, 1024]⟩
abbrev S1x1024 : Shape := ⟨2, ![1, 1024]⟩
abbrev S1x1x512x128 : Shape := ⟨4, ![1, 1, 512, 128]⟩
abbrev S512x128 : Shape := ⟨2, ![512, 128]⟩
abbrev S512x1 : Shape := ⟨2, ![512, 1]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x4x32768x128, .i32⟩
  | .hbm, ⟨1, _⟩ => ⟨S32768x4, .f32⟩
  | .hbm, ⟨2, _⟩ => ⟨S32768x1024, .f32⟩
  | .hbm, ⟨3, _⟩ => ⟨S4x1x1024, .f32⟩
  | .hbm, ⟨4, _⟩ => ⟨S32768x1024, .f32⟩
  | .local _ .vmem, ⟨0, _⟩ => ⟨S4x4x512x128, .i32⟩
  | .local _ .vmem, ⟨1, _⟩ => ⟨S4x4x512x128, .i32⟩
  | .local _ .vmem, ⟨2, _⟩ => ⟨S512x4, .f32⟩
  | .local _ .vmem, ⟨3, _⟩ => ⟨S512x4, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S4x4x32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x4x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x4x32768x128 : Shape := ⟨4, ![4, 4, 32768, 128]⟩
abbrev S32768x4 : Shape := ⟨2, ![32768, 4]⟩
abbrev S32768x1024 : Shape := ⟨2, ![32768, 1024]⟩
abbrev S4x1x1024 : Shape := ⟨3, ![4, 1, 1024]⟩
abbrev S_ : Shape := ⟨0, ![]⟩
abbrev S8x4x32768x128 : Shape := ⟨4, ![8, 4, 32768, 128]⟩
abbrev S4x32768x8x128 : Shape := ⟨4, ![4, 32768, 8, 128]⟩
abbrev S4x32768x1024 : Shape := ⟨3, ![4, 32768, 1024]⟩
abbrev S4x32768 : Shape := ⟨2, ![4, 32768]⟩
abbrev S4x32768x1 : Shape := ⟨3, ![4, 32768, 1]⟩
abbrev S4x8192x1024 : Shape := ⟨3, ![4, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4x32768x128, .i32⟩
  | .hbm, ⟨1, _⟩ => ⟨S32768x4, .f32⟩
  | .hbm, ⟨2, _⟩ => ⟨S32768x1024, .f32⟩
  | .hbm, ⟨3, _⟩ => ⟨S4x1x1024, .f32⟩
  | .hbm, ⟨4, _⟩ => ⟨S_, .i32⟩
  | .hbm, ⟨5, _⟩ => ⟨S4x4x32768x128, .i32⟩
  | .hbm, ⟨6, _⟩ => ⟨S4x4x32768x128, .i32⟩
  | .hbm, ⟨7, _⟩ => ⟨S4x4x32768x128, .f32⟩
  | .hbm, ⟨8, _⟩ => ⟨S_, .i32⟩
  | .hbm, ⟨9, _⟩ => ⟨S4x4x32768x128, .i32⟩
  | .hbm, ⟨10, _⟩ => ⟨S4x4x32768x128, .i32⟩
  | .hbm, ⟨11, _⟩ => ⟨S4x4x32768x128, .f32⟩
  | .hbm, ⟨12, _⟩ => ⟨S8x4x32768x128, .f32⟩
  | .hbm, ⟨13, _⟩ => ⟨S4x32768x8x128, .f32⟩
  | .hbm, ⟨14, _⟩ => ⟨S4x32768x1024, .f32⟩
  | .hbm, ⟨15, _⟩ => ⟨S4x32768, .f32⟩
  | .hbm, ⟨16, _⟩ => ⟨S4x32768x1, .f32⟩
  | .hbm, ⟨17, _⟩ => ⟨S4x32768x1024, .f32⟩
  | .hbm, ⟨18, _⟩ => ⟨S4x32768x1024, .f32⟩
  | .hbm, ⟨19, _⟩ => ⟨S_, .f32⟩
  | .hbm, ⟨20, _⟩ => ⟨S32768x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S32768x1024, .f32⟩
  | _, _ => ⟨S4x4x32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S32768x1024 : Shape := ⟨2, ![32768, 1024]⟩
abbrev S4x1x1024 : Shape := ⟨3, ![4, 1, 1024]⟩
abbrev S1x1024 : Shape := ⟨2, ![1, 1024]⟩
abbrev S1024x1536 : Shape := ⟨2, ![1024, 1536]⟩
abbrev S1024x512 : Shape := ⟨2, ![1024, 512]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S8192x256 : Shape := ⟨2, ![8192, 256]⟩
abbrev S8192x128 : Shape := ⟨2, ![8192, 128]⟩
abbrev S32768x1536 : Shape := ⟨2, ![32768, 1536]⟩
abbrev S4x4x8192x192 : Shape := ⟨4, ![4, 4, 8192, 192]⟩
abbrev S4x4x8192x128 : Shape := ⟨4, ![4, 4, 8192, 128]⟩
abbrev S512x1024 : Shape := ⟨2, ![512, 1024]⟩
abbrev S1x1x1024 : Shape := ⟨3, ![1, 1, 1024]⟩
abbrev S512x256 : Shape := ⟨2, ![512, 256]⟩
abbrev S512x128 : Shape := ⟨2, ![512, 128]⟩
abbrev S512x1536 : Shape := ⟨2, ![512, 1536]⟩
abbrev S1x4x512x192 : Shape := ⟨4, ![1, 4, 512, 192]⟩
abbrev S1x4x512x128 : Shape := ⟨4, ![1, 4, 512, 128]⟩
abbrev S512x512 : Shape := ⟨2, ![512, 512]⟩
abbrev S512 : Shape := ⟨1, ![512]⟩
abbrev S512x1 : Shape := ⟨2, ![512, 1]⟩
abbrev S512x192 : Shape := ⟨2, ![512, 192]⟩
abbrev S1x1x512x192 : Shape := ⟨4, ![1, 1, 512, 192]⟩
abbrev S1x1x512x128 : Shape := ⟨4, ![1, 1, 512, 128]⟩

abbrev nBuf : Space → Nat
  | .hbm => 21
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .bf16⟩
  | .hbm, ⟨5, _⟩ => ⟨S1024x512, .bf16⟩
  | .hbm, ⟨6, _⟩ => ⟨S1x256, .f32⟩
  | .hbm, ⟨7, _⟩ => ⟨S256x1024, .bf16⟩
  | .hbm, ⟨8, _⟩ => ⟨S1x128, .f32⟩
  | .hbm, ⟨9, _⟩ => ⟨S128x1024, .bf16⟩
  | .hbm, ⟨10, _⟩ => ⟨S8192x256, .f32⟩
  | .hbm, ⟨11, _⟩ => ⟨S8192x256, .f32⟩
  | .hbm, ⟨12, _⟩ => ⟨S8192x128, .f32⟩
  | .hbm, ⟨13, _⟩ => ⟨S1x256, .f32⟩
  | .hbm, ⟨14, _⟩ => ⟨S1x256, .f32⟩
  | .hbm, ⟨15, _⟩ => ⟨S1x128, .f32⟩
  | .hbm, ⟨16, _⟩ => ⟨S1x128, .f32⟩
  | .hbm, ⟨17, _⟩ => ⟨S32768x1536, .bf16⟩
  | .hbm, ⟨18, _⟩ => ⟨S4x4x8192x192, .bf16⟩
  | .hbm, ⟨19, _⟩ => ⟨S4x4x8192x192, .bf16⟩
  | .hbm, ⟨20, _⟩ => ⟨S4x4x8192x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1x256, .f32⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | .local _ .vmem, ⟨19, _⟩ => ⟨S1x256, .f32⟩
  | .local _ .vmem, ⟨20, _⟩ => ⟨S1x256, .f32⟩
  | .local _ .vmem, ⟨21, _⟩ => ⟨S1x128, .f32⟩
  | .local _ .vmem, ⟨22, _⟩ => ⟨S1x128, .f32⟩
  | .local _ .vmem, ⟨23, _⟩ => ⟨S512x1536, .bf16⟩
  | .local _ .vmem, ⟨24, _⟩ => ⟨S512x1536, .bf16⟩
  | .local _ .vmem, ⟨25, _⟩ => ⟨S1x4x512x192, .bf16⟩
  | .local _ .vmem, ⟨26, _⟩ => ⟨S1x4x512x192, .bf16⟩
  | .local _ .vmem, ⟨27, _⟩ => ⟨S1x4x512x192, .bf16⟩
  | .local _ .vmem, ⟨28, _⟩ => ⟨S1x4x512x192, .bf16⟩
  | .local _ .vmem, ⟨29, _⟩ => ⟨S1x4x512x128, .bf16⟩
  | .local _ .vmem, ⟨30, _⟩ => ⟨S1x4x512x128, .bf16⟩
  | .local _ .vmem, ⟨31, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_19 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_20 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1536 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x512x192 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x512x192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S32768x1024 : Shape := ⟨2, ![32768, 1024]⟩
abbrev S4x1x1024 : Shape := ⟨3, ![4, 1, 1024]⟩
abbrev S1x1024 : Shape := ⟨2, ![1, 1024]⟩
abbrev S1024x1536 : Shape := ⟨2, ![1024, 1536]⟩
abbrev S1024x512 : Shape := ⟨2, ![1024, 512]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S8192x256 : Shape := ⟨2, ![8192, 256]⟩
abbrev S8192x128 : Shape := ⟨2, ![8192, 128]⟩
abbrev S_ : Shape := ⟨0, ![]⟩
abbrev S32768 : Shape := ⟨1, ![32768]⟩
abbrev S32768x1 : Shape := ⟨2, ![32768, 1]⟩
abbrev S4x8192x1024 : Shape := ⟨3, ![4, 8192, 1024]⟩
abbrev S32768x1536 : Shape := ⟨2, ![32768, 1536]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .bf16⟩
  | .hbm, ⟨5, _⟩ => ⟨S1024x512, .bf16⟩
  | .hbm, ⟨6, _⟩ => ⟨S1x256, .f32⟩
  | .hbm, ⟨7, _⟩ => ⟨S256x1024, .bf16⟩
  | .hbm, ⟨8, _⟩ => ⟨S1x128, .f32⟩
  | .hbm, ⟨9, _⟩ => ⟨S128x1024, .bf16⟩
  | .hbm, ⟨10, _⟩ => ⟨S8192x256, .f32⟩
  | .hbm, ⟨11, _⟩ => ⟨S8192x256, .f32⟩
  | .hbm, ⟨12, _⟩ => ⟨S8192x128, .f32⟩
  | .hbm, ⟨13, _⟩ => ⟨S1x256, .f32⟩
  | .hbm, ⟨14, _⟩ => ⟨S1x256, .f32⟩
  | .hbm, ⟨15, _⟩ => ⟨S1x128, .f32⟩
  | .hbm, ⟨16, _⟩ => ⟨S1x128, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S32768x1024, .f32⟩
  | .hbm, ⟨41, _⟩ => ⟨S1024x1536, .f32⟩
  | .hbm, ⟨42, _⟩ => ⟨S32768x1536, .f32⟩
  | .hbm, ⟨43, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== Proof.Body.lean ====
/-
  The body of the attention call as a structured program: row groups inside a softmax step, softmax steps inside a sweep over key chunks.
  Everything here is stated for any signature, so that both programs of the certificate use it.
-/
module

public import Idealize.ShloMosaic.Lib.Pipeline
public import Idealize.ShloMosaic.Lib.VecWindow
public import Idealize.ShloMosaic.PureOps

@[expose] public section

noncomputable section

namespace Cert.Flash

open Idealize.ShloMosaic Idealize.SL.Sem

abbrev SQ : Shape := ⟨4, ![1, 1, 512, 192]⟩
abbrev SK : Shape := ⟨4, ![1, 1, 8192, 192]⟩
abbrev SV : Shape := ⟨4, ![1, 1, 8192, 128]⟩
abbrev SKC : Shape := ⟨4, ![1, 1, 256, 192]⟩
abbrev SVC : Shape := ⟨4, ![1, 1, 256, 128]⟩
abbrev SO : Shape := ⟨3, ![1, 512, 128]⟩
abbrev SS : Shape := ⟨3, ![3, 512, 512]⟩
abbrev SP : Shape := ⟨3, ![2, 512, 512]⟩
abbrev SM : Shape := ⟨2, ![512, 128]⟩
abbrev SA : Shape := ⟨2, ![512, 256]⟩
abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩
abbrev Sh1 (a : ℕ) : Shape := ⟨1, ![a]⟩

variable {F : FTy → Type} [FloatOps F]

/-- A width of a score chunk: 512 for the keys of the latent stream, 256 for the keys of the context. -/
structure Width (F : FTy → Type) [FloatOps F] where
  W : ℕ
  pos : 0 < W
  le : W ≤ 512
  reduces : (Sh2 32 W).Reduces [1] (Sh1 32)
  tile : FVec F (Sh2 32 128) .f32 → FVec F (Sh2 32 W) .f32

theorem conc4 : Shape.Concatenates [Sh2 32 128, Sh2 32 128, Sh2 32 128, Sh2 32 128] (Sh2 32 512) 1 := by decide
theorem conc2 : Shape.Concatenates [Sh2 32 128, Sh2 32 128] (Sh2 32 256) 1 := by decide
theorem concA : Shape.Concatenates [SM, SM] SA 1 := by decide

/-- The width of a latent chunk. -/
def w512 : Width F where
  W := 512
  pos := by decide
  le := by decide
  reduces := by decide
  tile v := concatenate (Sh2 32 512) 1 [⟨Sh2 32 128, v⟩, ⟨Sh2 32 128, v⟩, ⟨Sh2 32 128, v⟩, ⟨Sh2 32 128, v⟩] conc4

/-- The width of the context chunk. -/
def w256 : Width F where
  W := 256
  pos := by decide
  le := by decide
  reduces := by decide
  tile v := concatenate (Sh2 32 256) 1 [⟨Sh2 32 128, v⟩, ⟨Sh2 32 128, v⟩] conc2

theorem cast_drop (r W : ℕ) : (Sh3 1 r W).ShapeCasts (Sh2 r W) := by
  simp [Shape.ShapeCasts, Shape.numel, Fin.prod_univ_succ]

theorem cast_add (r W : ℕ) : (Sh2 r W).ShapeCasts (Sh3 1 r W) := by
  simp [Shape.ShapeCasts, Shape.numel, Fin.prod_univ_succ]

theorem cast_drop2 (r W : ℕ) : (Sh4 1 1 r W).ShapeCasts (Sh2 r W) := by
  simp [Shape.ShapeCasts, Shape.numel, Fin.prod_univ_succ]

theorem cast_self (s : Shape) : s.ShapeCasts s := rfl

/-! ## The values -/

/-- The running maximum of a row group after a chunk, from the group's scores and its maximum so far. -/
def mNew (w : Width F) (s : Vec F (Sh3 1 32 w.W) .f32) (m : Vec F (Sh2 32 128) .f32) : FVec F (Sh2 32 128) .f32 :=
  maximumf m (broadcastTo (Sh2 32 128) (shapeCast (Sh2 32 1)
    (multiReduction .maximumf [1] (Sh1 32) (shapeCast (Sh2 32 w.W) s (cast_drop 32 w.W)) 0xFF800000#32 w.reduces (.inl rfl) rfl) (by decide)) (by decide))

/-- The factor by which the row group's sums are rescaled. -/
def alNew (w : Width F) (s : Vec F (Sh3 1 32 w.W) .f32) (m : Vec F (Sh2 32 128) .f32) : FVec F (Sh2 32 128) .f32 :=
  shapeCast (Sh2 32 128) (exp2 (subf m (mNew w s m))) (cast_self _)

/-- The row group's weights. -/
def pNew (w : Width F) (s : Vec F (Sh3 1 32 w.W) .f32) (m : Vec F (Sh2 32 128) .f32) : FVec F (Sh3 1 32 w.W) .bf16 :=
  shapeCast (Sh3 1 32 w.W) (exp2 (truncf .bf16 (subf (shapeCast (Sh2 32 w.W) s (cast_drop 32 w.W)) (w.tile (mNew w s m))) (by decide))) (cast_add 32 w.W)

/-- A chunk's scores from the query block and the chunk's keys. -/
def scoresOf (W : ℕ) (k : Vec F (Sh4 1 1 W 192) .bf16) (q : Vec F SQ .bf16) : FVec F (Sh2 512 W) .f32 :=
  matmul (DotDims.transposedRhs 512 192 W) none (shapeCast (Sh2 512 192) q (cast_drop2 512 192)) (shapeCast (Sh2 W 192) k (cast_drop2 W 192))
    (constant (Sh2 512 W) .f32 0x00000000#32)

/-- A chunk's values with a first column of ones to their right. -/
def valsOf (W : ℕ) (hi : (Sh2 W 128).Iotas .tc 32 [1]) (hc : Shape.Concatenates [Sh2 W 128, Sh2 W 128] (Sh2 W 256) 1) (v : Vec F (Sh4 1 1 W 128) .bf16) : FVec F (Sh2 W 256) .bf16 :=
  concatenate (Sh2 W 256) 1 [⟨Sh2 W 128, shapeCast (Sh2 W 128) v (cast_drop2 W 128)⟩, ⟨Sh2 W 128, truncf .bf16 (select (cmpi .eq (iota .tc (Sh2 W 128) 32 [1] hi)
    (broadcast (Sh2 W 128) 0#32)) (broadcast (Sh2 W 128) (Scalar.ofBits .f32 0x3F800000#32)) (broadcast (Sh2 W 128) (Scalar.ofBits .f32 0x00000000#32) : FVec F (Sh2 W 128) .f32)) (by decide)⟩] hc

/-- The weighted values of a chunk, with the sum of the weights in column 128. -/
def weightedOf (W : ℕ) (hi : (Sh2 W 128).Iotas .tc 32 [1]) (hc : Shape.Concatenates [Sh2 W 128, Sh2 W 128] (Sh2 W 256) 1) (v : Vec F (Sh4 1 1 W 128) .bf16) (p : Vec F (Sh3 1 512 W) .bf16) : FVec F SA .f32 :=
  matmul (DotDims.plain 512 W 256) none (shapeCast (Sh2 512 W) p (cast_drop 512 W)) (valsOf W hi hc v) (constant SA .f32 0x00000000#32)

/-- The accumulator after a step: the old one and the last chunk's product, rescaled. -/
def accNew (al : Vec F SM .f32) (acc : Vec F SA .f32) (prod : FVec F SA .f32) : FVec F SA .f32 :=
  shapeCast SA (mulf (concatenate SA 1 [⟨SM, al⟩, ⟨SM, al⟩] concA) (addf acc prod)) (cast_self _)

/-- The output block from the accumulator and the last product. -/
def outOf (acc : Vec F SA .f32) (prod : FVec F SA .f32) : FVec F SO .bf16 :=
  shapeCast SO (truncf .bf16 (divf (extractStridedSlice SM ![0, 0] (addf acc prod) (by decide))
    (broadcastTo SM (extractStridedSlice (Sh2 512 1) ![0, 128] (addf acc prod) (by decide)) (by decide))) (by decide)) (cast_add 512 128)

/-! ## The program -/

variable {nD : Nat} {τ : Topo} {sig : RefSig} {Λ : Labels}

/-- The memrefs the body works on. -/
structure Refs (sig : RefSig) where
  q : Memref sig .tc .vmem SQ .bf16
  k : Memref sig .tc .vmem SK .bf16
  v : Memref sig .tc .vmem SV .bf16
  kc : Memref sig .tc .vmem SKC .bf16
  vc : Memref sig .tc .vmem SVC .bf16
  o : Memref sig .tc .vmem SO .bf16
  s : Memref sig .tc .vmem SS .f32
  p : Memref sig .tc .vmem SP .bf16
  al : Memref sig .tc .vmem SM .f32
  m : Memref sig .tc .vmem SM .f32
  acc : Memref sig .tc .vmem SA .f32
  ho : o.IsWhole
  hp : p.IsWhole

/-- A load of a window. -/
abbrev ld {s : Shape} {e : EltTy} (M : Memref sig .tc .vmem s e) (off size : Fin s.rank → ℕ) (inb : ∀ a, off a + size a ≤ s.size a)
    (h : 0 < (Rect.unit off size inb).shape.numel) : Prog (TpuEff nD τ sig (Elt F) Λ .tc) ((Rect.unit off size inb).shape.Idx → Elt F e) :=
  Prog.lift (.load M (Rect.unit off size inb).toLoadRect (View.loadsAt_vmem h))

/-- A store over a window. -/
abbrev st {s : Shape} {e : EltTy} (M : Memref sig .tc .vmem s e) (off size : Fin s.rank → ℕ) (inb : ∀ a, off a + size a ≤ s.size a)
    (h : (M.access (Rect.unit off size inb)).Stores Finset.univ) (x : (Rect.unit off size inb).shape.Idx → Elt F e) : Prog (TpuEff nD τ sig (Elt F) Λ .tc) PUnit :=
  Prog.lift (.store M (Rect.unit off size inb) x Finset.univ h (.inl rfl))

theorem numel2_pos {a b : ℕ} (ha : 0 < a) (hb : 0 < b) : 0 < (Sh2 a b).numel := by
  simp [Shape.numel, Fin.prod_univ_succ, ha, hb]

theorem numel3_pos {a b c : ℕ} (ha : 0 < a) (hb : 0 < b) (hc : 0 < c) : 0 < (Sh3 a b c).numel := by
  simp [Shape.numel, Fin.prod_univ_succ, ha, hb, hc]

theorem inb_m (g : ℕ) : ∀ a, (![32 * (g % 16), 0] : Fin 2 → ℕ) a + (Sh2 32 128).size a ≤ SM.size a := by
  intro a; fin_cases a
  · show 32 * (g % 16) + 32 ≤ 512; omega
  · show 0 + 128 ≤ 128; omega

theorem inb_s {W : ℕ} (le : W ≤ 512) (c g : ℕ) : ∀ a, (![c % 3, 32 * (g % 16), 0] : Fin 3 → ℕ) a + (Sh3 1 32 W).size a ≤ SS.size a := by
  intro a; fin_cases a
  · show c % 3 + 1 ≤ 3; omega
  · show 32 * (g % 16) + 32 ≤ 512; omega
  · show 0 + W ≤ 512; omega

theorem inb_p {W : ℕ} (le : W ≤ 512) (c g : ℕ) : ∀ a, (![c % 2, 32 * (g % 16), 0] : Fin 3 → ℕ) a + (Sh3 1 32 W).size a ≤ SP.size a := by
  intro a; fin_cases a
  · show c % 2 + 1 ≤ 2; omega
  · show 32 * (g % 16) + 32 ≤ 512; omega
  · show 0 + W ≤ 512; omega

theorem inb_sW {W : ℕ} (le : W ≤ 512) (c : ℕ) : ∀ a, (![c % 3, 0, 0] : Fin 3 → ℕ) a + (Sh3 1 512 W).size a ≤ SS.size a := by
  intro a; fin_cases a
  · show c % 3 + 1 ≤ 3; omega
  · show 0 + 512 ≤ 512; omega
  · show 0 + W ≤ 512; omega

theorem inb_pW {W : ℕ} (le : W ≤ 512) (c : ℕ) : ∀ a, (![c % 2, 0, 0] : Fin 3 → ℕ) a + (Sh3 1 512 W).size a ≤ SP.size a := by
  intro a; fin_cases a
  · show c % 2 + 1 ≤ 2; omega
  · show 0 + 512 ≤ 512; omega
  · show 0 + W ≤ 512; omega

theorem inb_k (c : ℕ) : ∀ a, (![0, 0, 512 * (c % 16), 0] : Fin 4 → ℕ) a + (Sh4 1 1 512 192).size a ≤ SK.size a := by
  intro a; fin_cases a
  · show 0 + 1 ≤ 1; omega
  · show 0 + 1 ≤ 1; omega
  · show 512 * (c % 16) + 512 ≤ 8192; omega
  · show 0 + 192 ≤ 192; omega

theorem inb_v (c : ℕ) : ∀ a, (![0, 0, 512 * (c % 16), 0] : Fin 4 → ℕ) a + (Sh4 1 1 512 128).size a ≤ SV.size a := by
  intro a; fin_cases a
  · show 0 + 1 ≤ 1; omega
  · show 0 + 1 ≤ 1; omega
  · show 512 * (c % 16) + 512 ≤ 8192; omega
  · show 0 + 128 ≤ 128; omega

theorem packed_p {W : ℕ} (le : W ≤ 512) (c g : ℕ) : (Rect.unit (s := SP) ![c % 2, 32 * (g % 16), 0] (Sh3 1 32 W).size (inb_p le c g)).PackedRows (EltTy.packing .bf16) :=
  Or.inr ⟨by decide, rfl, Or.inl ⟨⟨16 * (g % 16), by show 32 * (g % 16) = 2 * (16 * (g % 16)); omega⟩, ⟨16, rfl⟩⟩⟩

theorem pos_m : 0 < (Sh2 32 128).numel := numel2_pos (by decide) (by decide)

theorem pos_w (w : Width F) : 0 < (Sh3 1 32 w.W).numel := numel3_pos Nat.one_pos (by decide) w.pos

theorem pos_S {W : ℕ} (pos : 0 < W) : 0 < (Sh3 1 512 W).numel := numel3_pos Nat.one_pos (by decide) pos

theorem pos4 {W D : ℕ} (pos : 0 < W) (h : 0 < D) : 0 < (Sh4 1 1 W D).numel := by
  simp [Shape.numel, Fin.prod_univ_succ, pos, h]

variable (R : Refs sig)

/-- One row group of the softmax step of chunk `c`. -/
def grp (w : Width F) (c g : ℕ) : Prog (TpuEff nD τ sig (Elt F) Λ .tc) PUnit := do
  let s ← ld R.s ![c % 3, 32 * (g % 16), 0] (Sh3 1 32 w.W).size (inb_s w.le c g) (pos_w w)
  let m ← ld R.m ![32 * (g % 16), 0] (Sh2 32 128).size (inb_m g) pos_m
  let _ ← ld R.al ![32 * (g % 16), 0] (Sh2 32 128).size (inb_m g) pos_m
  st R.al ![32 * (g % 16), 0] (Sh2 32 128).size (inb_m g) (View.stores_vmem_bits_univ pos_m rfl) (alNew w s m)
  let _ ← ld R.m ![32 * (g % 16), 0] (Sh2 32 128).size (inb_m g) pos_m
  st R.m ![32 * (g % 16), 0] (Sh2 32 128).size (inb_m g) (View.stores_vmem_bits_univ pos_m rfl) (shapeCast (Sh2 32 128) (mNew w s m) (cast_self _))
  let _ ← ld R.p ![c % 2, 32 * (g % 16), 0] (Sh3 1 32 w.W).size (inb_p w.le c g) (pos_w w)
  st R.p ![c % 2, 32 * (g % 16), 0] (Sh3 1 32 w.W).size (inb_p w.le c g)
    (View.stores_vmem (pos_w w) (R.hp.storeExact_slice rfl _ (packed_p w.le c g)) (fun _ => rfl)) (pNew w s m)

/-- `n` runs of a program with a counter, from `i` on. -/
def steps (f : ℕ → Prog (TpuEff nD τ sig (Elt F) Λ .tc) PUnit) : ℕ → ℕ → Prog (TpuEff nD τ sig (Elt F) Λ .tc) PUnit
  | _, 0 => pure ⟨⟩
  | i, n + 1 => do f i; steps f (i + 1) n

/-- The softmax step of chunk `c`. -/
def softmax (w : Width F) (c : ℕ) : Prog (TpuEff nD τ sig (Elt F) Λ .tc) PUnit := steps (grp R w c) 0 16

/-- The scores of latent chunk `c`. -/
def scores (c : ℕ) : Prog (TpuEff nD τ sig (Elt F) Λ .tc) PUnit := do
  let k ← ld R.k ![0, 0, 512 * (c % 16), 0] (Sh4 1 1 512 192).size (inb_k c) (pos4 (by decide) (by decide))
  let q ← ld R.q ![0, 0, 0, 0] SQ.size (by decide) (pos4 (by decide) (by decide))
  let _ ← ld R.s ![c % 3, 0, 0] (Sh3 1 512 512).size (inb_sW (W := 512) (by decide) c) (pos_S (by decide))
  st R.s ![c % 3, 0, 0] (Sh3 1 512 512).size (inb_sW (W := 512) (by decide) c) (View.stores_vmem_bits_univ (pos_S (by decide)) rfl) (shapeCast (Sh3 1 512 512) (scoresOf 512 k q) (cast_add 512 512))

/-- The scores of the context chunk. -/
def scoresCtx : Prog (TpuEff nD τ sig (Elt F) Λ .tc) PUnit := do
  let k ← ld R.kc ![0, 0, 0, 0] SKC.size (by decide) (pos4 (by decide) (by decide))
  let q ← ld R.q ![0, 0, 0, 0] SQ.size (by decide) (pos4 (by decide) (by decide))
  let _ ← ld R.s ![16 % 3, 0, 0] (Sh3 1 512 256).size (inb_sW (W := 256) (by decide) 16) (pos_S (by decide))
  st R.s ![16 % 3, 0, 0] (Sh3 1 512 256).size (inb_sW (W := 256) (by decide) 16) (View.stores_vmem_bits_univ (pos_S (by decide)) rfl) (shapeCast (Sh3 1 512 256) (scoresOf 256 k q) (cast_add 512 256))

/-- The weighted values of latent chunk `c`. -/
def weighted (c : ℕ) : Prog (TpuEff nD τ sig (Elt F) Λ .tc) (FVec F SA .f32) := do
  let v ← ld R.v ![0, 0, 512 * (c % 16), 0] (Sh4 1 1 512 128).size (inb_v c) (pos4 (by decide) (by decide))
  let p ← ld R.p ![c % 2, 0, 0] (Sh3 1 512 512).size (inb_pW (W := 512) (by decide) c) (pos_S (by decide))
  pure (weightedOf 512 (by decide) (by decide) v p)

/-- The accumulator rescaled, with the last chunk's product. -/
def rescale (prod : FVec F SA .f32) : Prog (TpuEff nD τ sig (Elt F) Λ .tc) PUnit := do
  let al ← ld R.al ![0, 0] SM.size (by decide) (numel2_pos (by decide) (by decide))
  let acc ← ld R.acc ![0, 0] SA.size (by decide) (numel2_pos (by decide) (by decide))
  let _ ← ld R.acc ![0, 0] SA.size (by decide) (numel2_pos (by decide) (by decide))
  st R.acc ![0, 0] SA.size (by decide) (View.stores_vmem_bits_univ (numel2_pos (by decide) (by decide)) rfl) (accNew al acc prod)

/-- Latent chunk `c + 1`, with the scores of the chunk after it. -/
def chunk (c : ℕ) : Prog (TpuEff nD τ sig (Elt F) Λ .tc) PUnit := do
  let prod ← weighted R c
  scores R (c + 2)
  softmax R w512 (c + 1)
  rescale R prod

/-- The start: the maxima at minus infinity, the sums at zero, and the scores of the first chunk. -/
def start : Prog (TpuEff nD τ sig (Elt F) Λ .tc) PUnit := do
  let _ ← ld R.m ![0, 0] SM.size (by decide) (numel2_pos (by decide) (by decide))
  st R.m ![0, 0] SM.size (by decide) (View.stores_vmem_bits_univ (numel2_pos (by decide) (by decide)) rfl) (shapeCast SM (broadcast SM (Scalar.ofBits .f32 0xFF800000#32)) (cast_self _))
  let _ ← ld R.acc ![0, 0] SA.size (by decide) (numel2_pos (by decide) (by decide))
  st R.acc ![0, 0] SA.size (by decide) (View.stores_vmem_bits_univ (numel2_pos (by decide) (by decide)) rfl) (shapeCast SA (broadcast SA (Scalar.ofBits .f32 0x00000000#32)) (cast_self _))

/-- The last latent chunk, with the scores of the context. -/
def chunkLast : Prog (TpuEff nD τ sig (Elt F) Λ .tc) PUnit := do
  let prod ← weighted R 14
  scoresCtx R
  softmax R w512 15
  rescale R prod

/-- The context chunk. -/
def chunkCtx : Prog (TpuEff nD τ sig (Elt F) Λ .tc) PUnit := do
  let prod ← weighted R 15
  softmax R w256 16
  rescale R prod

/-- The end: the last product and the quotient. -/
def finish : Prog (TpuEff nD τ sig (Elt F) Λ .tc) PUnit := do
  let acc ← ld R.acc ![0, 0] SA.size (by decide) (numel2_pos (by decide) (by decide))
  let v ← ld R.vc ![0, 0, 0, 0] SVC.size (by decide) (pos4 (by decide) (by decide))
  let p ← ld R.p ![16 % 2, 0, 0] (Sh3 1 512 256).size (inb_pW (W := 256) (by decide) 16) (pos_S (by decide))
  let _ ← ld R.o ![0, 0, 0] SO.size (by decide) (pos_S (by decide))
  st R.o ![0, 0, 0] SO.size (by decide) (View.stores_vmem (pos_S (by decide)) (R.ho.storeExact_slice rfl _ (by decide)) (fun _ => rfl))
    (outOf acc (weightedOf 256 (by decide) (by decide) v p))

/-- The whole body. -/
def body : Prog (TpuEff nD τ sig (Elt F) Λ .tc) PUnit := do
  start R
  scores R 0
  scores R 1
  softmax R w512 0
  steps (chunk R) 0 14
  chunkLast R
  chunkCtx R
  finish R

end Cert.Flash

end
-- ==== Proof.Runs.lean ====
/-
  What running a program on the body's memrefs does to their contents, as a function of the contents: each load and store once, then programs one after another.
-/
module

public import proofs.«01_k».proof.Proof.Body
public import Idealize.ShloMosaic.Lib.Exec
public import Idealize.ShloMosaic.Lib.Claim

@[expose] public section

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {nD : Nat} {τ : Topo} {sig : RefSig} {Λ : Labels}
variable {U : Type} [URA U]

local notation "𝕄" => MT nD τ sig Unit (Elt F) ℕ U ℕ

/-- The contents of the body's memrefs. -/
structure St (F : FTy → Type) where
  q : Vec F SQ .bf16
  k : Vec F SK .bf16
  v : Vec F SV .bf16
  kc : Vec F SKC .bf16
  vc : Vec F SVC .bf16
  o : Vec F SO .bf16
  s : Vec F SS .f32
  p : Vec F SP .bf16
  al : Vec F SM .f32
  m : Vec F SM .f32
  acc : Vec F SA .f32

section Single

variable (defs : Defs nD τ sig (Elt F) Λ) (c : Dev nD) (E : Set ℕ)
variable {s : Shape} {e : EltTy} (M : Memref sig .tc .vmem s e) (x : s.Idx → Elt F e)

/-- A load of a window reads the window of the contents. -/
theorem wp_ld (off size : Fin s.rank → ℕ) (inb : ∀ a, off a + size a ≤ s.size a) (h : 0 < (Rect.unit off size inb).shape.numel)
    (K : ((Rect.unit off size inb).shape.Idx → Elt F e) → sProp 𝕄) :
    iprop(owns (c : Thread nD τ) M fullShare x ∗ (owns (c : Thread nD τ) M fullShare x -∗ K (VecWindow.window x off size inb)))
      ⊢ wp frame (wpE defs Variants.none (c : Thread nD τ) none) E (ld M off size inb h) K := by
  unfold owns
  iintro ⟨⟨%f, %hf, H⟩, Hk⟩
  iapply (wp_load Variants.none (c : Thread nD τ) none E (m := M) (k := Prog.ret) (View.setOn_subset_set _ _)) $$ H
  iintro H
  iapply (le_wp_ret _ _ _ _ _)
  rw [View.readAt_unit M.view f inb rfl inb, hf]
  iapply Hk
  iexists f
  isplitr
  · ipureintro; exact hf
  iexact H

/-- A store over a window leaves the contents with the window put there. -/
theorem wp_st (off size : Fin s.rank → ℕ) (inb : ∀ a, off a + size a ≤ s.size a) (h : (M.access (Rect.unit off size inb)).Stores Finset.univ)
    (w : (Rect.unit off size inb).shape.Idx → Elt F e) (K : PUnit → sProp 𝕄) :
    iprop(owns (c : Thread nD τ) M fullShare x ∗ (owns (c : Thread nD τ) M fullShare (VecWindow.put x off size w) -∗ K ⟨⟩))
      ⊢ wp frame (wpE defs Variants.none (c : Thread nD τ) none) E (st M off size inb h w) K := by
  unfold owns
  iintro ⟨⟨%f, %hf, H⟩, Hk⟩
  iapply (wp_store_writes₀ Variants.none (c : Thread nD τ) none E (m := M) (r := Rect.unit off size inb) (w := w) (k := Prog.ret) (View.set_slice_subset _ _)) $$ H
  iintro H
  iapply (le_wp_ret _ _ _ _ _)
  iapply Hk
  iexists _
  isplitr
  swap
  · iexact H
  ipureintro
  rw [View.read_writes_cons_put M.view f inb w [] rfl, View.writes_nil, hf]

end Single

variable (R : Refs sig)

/-- The memrefs held at the contents `σ`. -/
def Own (c : Dev nD) (σ : St F) : sProp 𝕄 :=
  iprop(owns (c : Thread nD τ) R.q fullShare σ.q ∗ owns (c : Thread nD τ) R.k fullShare σ.k ∗ owns (c : Thread nD τ) R.v fullShare σ.v ∗ owns (c : Thread nD τ) R.kc fullShare σ.kc ∗ owns (c : Thread nD τ) R.vc fullShare σ.vc ∗ owns (c : Thread nD τ) R.o fullShare σ.o ∗ owns (c : Thread nD τ) R.s fullShare σ.s ∗ owns (c : Thread nD τ) R.p fullShare σ.p ∗ owns (c : Thread nD τ) R.al fullShare σ.al ∗ owns (c : Thread nD τ) R.m fullShare σ.m ∗ owns (c : Thread nD τ) R.acc fullShare σ.acc)

/-- Running `p` turns contents `σ` into `(f σ).2` and returns `(f σ).1`. -/
def Runs (U : Type) [URA U] (defs : Defs nD τ sig (Elt F) Λ) {α : Type} (p : Prog (TpuEff nD τ sig (Elt F) Λ .tc) α) (f : St F → α × St F) : Prop :=
  ∀ (c : Dev nD) (E : Set ℕ) (σ : St F) (K : α → sProp (MT nD τ sig Unit (Elt F) ℕ U ℕ)),
    iprop(Own R c σ ∗ (Own R c (f σ).2 -∗ K (f σ).1)) ⊢ wp frame (wpE defs Variants.none (c : Thread nD τ) none) E p K

variable {R} {defs : Defs nD τ sig (Elt F) Λ} {α β : Type}

/-- A program that only returns. -/
theorem Runs.ret (a : α) : Runs R U defs (pure a) (fun σ => (a, σ)) := by
  intro c E σ K
  iintro ⟨H, Hk⟩
  iapply (le_wp_ret _ _ _ _ _)
  iapply Hk
  iexact H

/-- One program and then another. -/
theorem Runs.bind {p : Prog (TpuEff nD τ sig (Elt F) Λ .tc) α} {g : α → Prog (TpuEff nD τ sig (Elt F) Λ .tc) β} {f : St F → α × St F} {h : α → St F → β × St F}
    (hp : Runs R U defs p f) (hg : ∀ a, Runs R U defs (g a) (h a)) : Runs R U defs (p >>= g) (fun σ => h (f σ).1 (f σ).2) := by
  intro c E σ K
  rw [wp_bind]
  iintro ⟨H, Hk⟩
  iapply (hp c E σ _)
  isplitl [H]
  · iexact H
  iintro H
  iapply (hg _ c E _ K)
  isplitl [H]
  · iexact H
  iexact Hk

/-- A load of `q`. -/
theorem Runs.ld_q (off size : Fin SQ.rank → ℕ) (inb : ∀ a, off a + size a ≤ SQ.size a) (h : 0 < (Rect.unit off size inb).shape.numel) :
    Runs R U defs (ld R.q off size inb h) (fun σ => (VecWindow.window σ.q off size inb, σ)) := by
  intro c E σ K
  unfold Own
  iintro ⟨⟨Hq, Hk, Hv, Hkc, Hvc, Ho, Hs, Hp, Hal, Hm, Hacc⟩, HK⟩
  iapply (wp_ld defs c E R.q σ.q off size inb h K)
  isplitl [Hq]; · iexact Hq
  iintro Hq
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `k`. -/
theorem Runs.ld_k (off size : Fin SK.rank → ℕ) (inb : ∀ a, off a + size a ≤ SK.size a) (h : 0 < (Rect.unit off size inb).shape.numel) :
    Runs R U defs (ld R.k off size inb h) (fun σ => (VecWindow.window σ.k off size inb, σ)) := by
  intro c E σ K
  unfold Own
  iintro ⟨⟨Hq, Hk, Hv, Hkc, Hvc, Ho, Hs, Hp, Hal, Hm, Hacc⟩, HK⟩
  iapply (wp_ld defs c E R.k σ.k off size inb h K)
  isplitl [Hk]; · iexact Hk
  iintro Hk
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `v`. -/
theorem Runs.ld_v (off size : Fin SV.rank → ℕ) (inb : ∀ a, off a + size a ≤ SV.size a) (h : 0 < (Rect.unit off size inb).shape.numel) :
    Runs R U defs (ld R.v off size inb h) (fun σ => (VecWindow.window σ.v off size inb, σ)) := by
  intro c E σ K
  unfold Own
  iintro ⟨⟨Hq, Hk, Hv, Hkc, Hvc, Ho, Hs, Hp, Hal, Hm, Hacc⟩, HK⟩
  iapply (wp_ld defs c E R.v σ.v off size inb h K)
  isplitl [Hv]; · iexact Hv
  iintro Hv
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `kc`. -/
theorem Runs.ld_kc (off size : Fin SKC.rank → ℕ) (inb : ∀ a, off a + size a ≤ SKC.size a) (h : 0 < (Rect.unit off size inb).shape.numel) :
    Runs R U defs (ld R.kc off size inb h) (fun σ => (VecWindow.window σ.kc off size inb, σ)) := by
  intro c E σ K
  unfold Own
  iintro ⟨⟨Hq, Hk, Hv, Hkc, Hvc, Ho, Hs, Hp, Hal, Hm, Hacc⟩, HK⟩
  iapply (wp_ld defs c E R.kc σ.kc off size inb h K)
  isplitl [Hkc]; · iexact Hkc
  iintro Hkc
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `vc`. -/
theorem Runs.ld_vc (off size : Fin SVC.rank → ℕ) (inb : ∀ a, off a + size a ≤ SVC.size a) (h : 0 < (Rect.unit off size inb).shape.numel) :
    Runs R U defs (ld R.vc off size inb h) (fun σ => (VecWindow.window σ.vc off size inb, σ)) := by
  intro c E σ K
  unfold Own
  iintro ⟨⟨Hq, Hk, Hv, Hkc, Hvc, Ho, Hs, Hp, Hal, Hm, Hacc⟩, HK⟩
  iapply (wp_ld defs c E R.vc σ.vc off size inb h K)
  isplitl [Hvc]; · iexact Hvc
  iintro Hvc
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `o`. -/
theorem Runs.ld_o (off size : Fin SO.rank → ℕ) (inb : ∀ a, off a + size a ≤ SO.size a) (h : 0 < (Rect.unit off size inb).shape.numel) :
    Runs R U defs (ld R.o off size inb h) (fun σ => (VecWindow.window σ.o off size inb, σ)) := by
  intro c E σ K
  unfold Own
  iintro ⟨⟨Hq, Hk, Hv, Hkc, Hvc, Ho, Hs, Hp, Hal, Hm, Hacc⟩, HK⟩
  iapply (wp_ld defs c E R.o σ.o off size inb h K)
  isplitl [Ho]; · iexact Ho
  iintro Ho
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `o`. -/
theorem Runs.st_o (off size : Fin SO.rank → ℕ) (inb : ∀ a, off a + size a ≤ SO.size a) (h : (R.o.access (Rect.unit off size inb)).Stores Finset.univ)
    (w : (Rect.unit off size inb).shape.Idx → Elt F .bf16) :
    Runs R U defs (st R.o off size inb h w) (fun σ => (⟨⟩, { σ with o := VecWindow.put σ.o off size w })) := by
  intro c E σ K
  unfold Own
  iintro ⟨⟨Hq, Hk, Hv, Hkc, Hvc, Ho, Hs, Hp, Hal, Hm, Hacc⟩, HK⟩
  iapply (wp_st defs c E R.o σ.o off size inb h w K)
  isplitl [Ho]; · iexact Ho
  iintro Ho
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `s`. -/
theorem Runs.ld_s (off size : Fin SS.rank → ℕ) (inb : ∀ a, off a + size a ≤ SS.size a) (h : 0 < (Rect.unit off size inb).shape.numel) :
    Runs R U defs (ld R.s off size inb h) (fun σ => (VecWindow.window σ.s off size inb, σ)) := by
  intro c E σ K
  unfold Own
  iintro ⟨⟨Hq, Hk, Hv, Hkc, Hvc, Ho, Hs, Hp, Hal, Hm, Hacc⟩, HK⟩
  iapply (wp_ld defs c E R.s σ.s off size inb h K)
  isplitl [Hs]; · iexact Hs
  iintro Hs
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `s`. -/
theorem Runs.st_s (off size : Fin SS.rank → ℕ) (inb : ∀ a, off a + size a ≤ SS.size a) (h : (R.s.access (Rect.unit off size inb)).Stores Finset.univ)
    (w : (Rect.unit off size inb).shape.Idx → Elt F .f32) :
    Runs R U defs (st R.s off size inb h w) (fun σ => (⟨⟩, { σ with s := VecWindow.put σ.s off size w })) := by
  intro c E σ K
  unfold Own
  iintro ⟨⟨Hq, Hk, Hv, Hkc, Hvc, Ho, Hs, Hp, Hal, Hm, Hacc⟩, HK⟩
  iapply (wp_st defs c E R.s σ.s off size inb h w K)
  isplitl [Hs]; · iexact Hs
  iintro Hs
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `p`. -/
theorem Runs.ld_p (off size : Fin SP.rank → ℕ) (inb : ∀ a, off a + size a ≤ SP.size a) (h : 0 < (Rect.unit off size inb).shape.numel) :
    Runs R U defs (ld R.p off size inb h) (fun σ => (VecWindow.window σ.p off size inb, σ)) := by
  intro c E σ K
  unfold Own
  iintro ⟨⟨Hq, Hk, Hv, Hkc, Hvc, Ho, Hs, Hp, Hal, Hm, Hacc⟩, HK⟩
  iapply (wp_ld defs c E R.p σ.p off size inb h K)
  isplitl [Hp]; · iexact Hp
  iintro Hp
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `p`. -/
theorem Runs.st_p (off size : Fin SP.rank → ℕ) (inb : ∀ a, off a + size a ≤ SP.size a) (h : (R.p.access (Rect.unit off size inb)).Stores Finset.univ)
    (w : (Rect.unit off size inb).shape.Idx → Elt F .bf16) :
    Runs R U defs (st R.p off size inb h w) (fun σ => (⟨⟩, { σ with p := VecWindow.put σ.p off size w })) := by
  intro c E σ K
  unfold Own
  iintro ⟨⟨Hq, Hk, Hv, Hkc, Hvc, Ho, Hs, Hp, Hal, Hm, Hacc⟩, HK⟩
  iapply (wp_st defs c E R.p σ.p off size inb h w K)
  isplitl [Hp]; · iexact Hp
  iintro Hp
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `al`. -/
theorem Runs.ld_al (off size : Fin SM.rank → ℕ) (inb : ∀ a, off a + size a ≤ SM.size a) (h : 0 < (Rect.unit off size inb).shape.numel) :
    Runs R U defs (ld R.al off size inb h) (fun σ => (VecWindow.window σ.al off size inb, σ)) := by
  intro c E σ K
  unfold Own
  iintro ⟨⟨Hq, Hk, Hv, Hkc, Hvc, Ho, Hs, Hp, Hal, Hm, Hacc⟩, HK⟩
  iapply (wp_ld defs c E R.al σ.al off size inb h K)
  isplitl [Hal]; · iexact Hal
  iintro Hal
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `al`. -/
theorem Runs.st_al (off size : Fin SM.rank → ℕ) (inb : ∀ a, off a + size a ≤ SM.size a) (h : (R.al.access (Rect.unit off size inb)).Stores Finset.univ)
    (w : (Rect.unit off size inb).shape.Idx → Elt F .f32) :
    Runs R U defs (st R.al off size inb h w) (fun σ => (⟨⟩, { σ with al := VecWindow.put σ.al off size w })) := by
  intro c E σ K
  unfold Own
  iintro ⟨⟨Hq, Hk, Hv, Hkc, Hvc, Ho, Hs, Hp, Hal, Hm, Hacc⟩, HK⟩
  iapply (wp_st defs c E R.al σ.al off size inb h w K)
  isplitl [Hal]; · iexact Hal
  iintro Hal
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `m`. -/
theorem Runs.ld_m (off size : Fin SM.rank → ℕ) (inb : ∀ a, off a + size a ≤ SM.size a) (h : 0 < (Rect.unit off size inb).shape.numel) :
    Runs R U defs (ld R.m off size inb h) (fun σ => (VecWindow.window σ.m off size inb, σ)) := by
  intro c E σ K
  unfold Own
  iintro ⟨⟨Hq, Hk, Hv, Hkc, Hvc, Ho, Hs, Hp, Hal, Hm, Hacc⟩, HK⟩
  iapply (wp_ld defs c E R.m σ.m off size inb h K)
  isplitl [Hm]; · iexact Hm
  iintro Hm
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `m`. -/
theorem Runs.st_m (off size : Fin SM.rank → ℕ) (inb : ∀ a, off a + size a ≤ SM.size a) (h : (R.m.access (Rect.unit off size inb)).Stores Finset.univ)
    (w : (Rect.unit off size inb).shape.Idx → Elt F .f32) :
    Runs R U defs (st R.m off size inb h w) (fun σ => (⟨⟩, { σ with m := VecWindow.put σ.m off size w })) := by
  intro c E σ K
  unfold Own
  iintro ⟨⟨Hq, Hk, Hv, Hkc, Hvc, Ho, Hs, Hp, Hal, Hm, Hacc⟩, HK⟩
  iapply (wp_st defs c E R.m σ.m off size inb h w K)
  isplitl [Hm]; · iexact Hm
  iintro Hm
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A load of `acc`. -/
theorem Runs.ld_acc (off size : Fin SA.rank → ℕ) (inb : ∀ a, off a + size a ≤ SA.size a) (h : 0 < (Rect.unit off size inb).shape.numel) :
    Runs R U defs (ld R.acc off size inb h) (fun σ => (VecWindow.window σ.acc off size inb, σ)) := by
  intro c E σ K
  unfold Own
  iintro ⟨⟨Hq, Hk, Hv, Hkc, Hvc, Ho, Hs, Hp, Hal, Hm, Hacc⟩, HK⟩
  iapply (wp_ld defs c E R.acc σ.acc off size inb h K)
  isplitl [Hacc]; · iexact Hacc
  iintro Hacc
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

/-- A store to `acc`. -/
theorem Runs.st_acc (off size : Fin SA.rank → ℕ) (inb : ∀ a, off a + size a ≤ SA.size a) (h : (R.acc.access (Rect.unit off size inb)).Stores Finset.univ)
    (w : (Rect.unit off size inb).shape.Idx → Elt F .f32) :
    Runs R U defs (st R.acc off size inb h w) (fun σ => (⟨⟩, { σ with acc := VecWindow.put σ.acc off size w })) := by
  intro c E σ K
  unfold Own
  iintro ⟨⟨Hq, Hk, Hv, Hkc, Hvc, Ho, Hs, Hp, Hal, Hm, Hacc⟩, HK⟩
  iapply (wp_st defs c E R.acc σ.acc off size inb h w K)
  isplitl [Hacc]; · iexact Hacc
  iintro Hacc
  iapply HK
  isplitl [Hq]; · iexact Hq
  isplitl [Hk]; · iexact Hk
  isplitl [Hv]; · iexact Hv
  isplitl [Hkc]; · iexact Hkc
  isplitl [Hvc]; · iexact Hvc
  isplitl [Ho]; · iexact Ho
  isplitl [Hs]; · iexact Hs
  isplitl [Hp]; · iexact Hp
  isplitl [Hal]; · iexact Hal
  isplitl [Hm]; · iexact Hm
  iexact Hacc

end Cert.Flash

end
-- ==== Proof.Steps.lean ====
/-
  The contents after each part of the body, as functions of the contents before it, and the triple of the whole body.
-/
module

public import proofs.«01_k».proof.Proof.Runs

@[expose] public section

noncomputable section

namespace Cert.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {U : Type} [URA U]

/-- The scores of row group `g` in slot `c % 3`. -/
def sWin (w : Width F) (c g : ℕ) (σ : St F) : Vec F (Sh3 1 32 w.W) .f32 :=
  VecWindow.window σ.s ![c % 3, 32 * (g % 16), 0] (Sh3 1 32 w.W).size (inb_s w.le c g)

/-- The maxima of row group `g`. -/
def mWin (g : ℕ) (σ : St F) : Vec F (Sh2 32 128) .f32 :=
  VecWindow.window σ.m ![32 * (g % 16), 0] (Sh2 32 128).size (inb_m g)

/-- One row group of the softmax step. -/
def grpF (w : Width F) (c g : ℕ) (σ : St F) : St F :=
  { σ with
    al := VecWindow.put σ.al ![32 * (g % 16), 0] (Sh2 32 128).size (alNew w (sWin w c g σ) (mWin g σ))
    m := VecWindow.put σ.m ![32 * (g % 16), 0] (Sh2 32 128).size (shapeCast (Sh2 32 128) (mNew w (sWin w c g σ) (mWin g σ)) (cast_self _))
    p := VecWindow.put σ.p ![c % 2, 32 * (g % 16), 0] (Sh3 1 32 w.W).size (pNew w (sWin w c g σ) (mWin g σ)) }

/-- `n` steps from `i` on. -/
def stepsF (f : ℕ → St F → St F) : ℕ → ℕ → St F → St F
  | _, 0, σ => σ
  | i, n + 1, σ => stepsF f (i + 1) n (f i σ)

/-- The softmax step of chunk `c`. -/
def softmaxF (w : Width F) (c : ℕ) : St F → St F := stepsF (grpF w c) 0 16

/-- The scores of latent chunk `c`. -/
def scoresF (c : ℕ) (σ : St F) : St F :=
  { σ with s := VecWindow.put σ.s ![c % 3, 0, 0] (Sh3 1 512 512).size (shapeCast (Sh3 1 512 512)
      (scoresOf 512 (VecWindow.window σ.k ![0, 0, 512 * (c % 16), 0] (Sh4 1 1 512 192).size (inb_k c)) (VecWindow.window σ.q ![0, 0, 0, 0] SQ.size (by decide))) (cast_add 512 512)) }

/-- The scores of the context. -/
def scoresCtxF (σ : St F) : St F :=
  { σ with s := VecWindow.put σ.s ![16 % 3, 0, 0] (Sh3 1 512 256).size (shapeCast (Sh3 1 512 256)
      (scoresOf 256 (VecWindow.window σ.kc ![0, 0, 0, 0] SKC.size (by decide)) (VecWindow.window σ.q ![0, 0, 0, 0] SQ.size (by decide))) (cast_add 512 256)) }

/-- The weighted values of latent chunk `c`. -/
def weightedF (c : ℕ) (σ : St F) : FVec F SA .f32 :=
  weightedOf 512 (by decide) (by decide) (VecWindow.window σ.v ![0, 0, 512 * (c % 16), 0] (Sh4 1 1 512 128).size (inb_v c))
    (VecWindow.window σ.p ![c % 2, 0, 0] (Sh3 1 512 512).size (inb_pW (W := 512) (by decide) c))

/-- The rescaled accumulator. -/
def rescaleF (prod : FVec F SA .f32) (σ : St F) : St F :=
  { σ with acc := VecWindow.put σ.acc ![0, 0] SA.size (accNew (VecWindow.window σ.al ![0, 0] SM.size (by decide)) (VecWindow.window σ.acc ![0, 0] SA.size (by decide)) prod) }

/-- Latent chunk `c + 1`. -/
def chunkF (c : ℕ) (σ : St F) : St F := rescaleF (weightedF c σ) (softmaxF w512 (c + 1) (scoresF (c + 2) σ))

/-- The start. -/
def startF (σ : St F) : St F :=
  { σ with
    m := VecWindow.put σ.m ![0, 0] SM.size (shapeCast SM (broadcast SM (Scalar.ofBits .f32 0xFF800000#32)) (cast_self _))
    acc := VecWindow.put σ.acc ![0, 0] SA.size (shapeCast SA (broadcast SA (Scalar.ofBits .f32 0x00000000#32)) (cast_self _)) }

/-- The last latent chunk. -/
def chunkLastF (σ : St F) : St F := rescaleF (weightedF 14 σ) (softmaxF w512 15 (scoresCtxF σ))

/-- The context chunk. -/
def chunkCtxF (σ : St F) : St F := rescaleF (weightedF 15 σ) (softmaxF w256 16 σ)

/-- The last product. -/
def weightedCtxF (σ : St F) : FVec F SA .f32 :=
  weightedOf 256 (by decide) (by decide) (VecWindow.window σ.vc ![0, 0, 0, 0] SVC.size (by decide))
    (VecWindow.window σ.p ![16 % 2, 0, 0] (Sh3 1 512 256).size (inb_pW (W := 256) (by decide) 16))

/-- The end. -/
def finishF (σ : St F) : St F :=
  { σ with o := VecWindow.put σ.o ![0, 0, 0] SO.size (outOf (VecWindow.window σ.acc ![0, 0] SA.size (by decide)) (weightedCtxF σ)) }

/-- The whole body. -/
def bodyF (σ : St F) : St F :=
  finishF (chunkCtxF (chunkLastF (stepsF chunkF 0 14 (softmaxF w512 0 (scoresF 1 (scoresF 0 (startF σ)))))))

attribute [local irreducible] VecWindow.window VecWindow.put

variable (R : Refs sig) {defs : Defs nD τ sig (Elt F) Λ}

/-- The same program with its effect written otherwise. -/
theorem Runs.congr {α : Type} {p : Prog (TpuEff nD τ sig (Elt F) Λ .tc) α} {f f' : St F → α × St F} (h : Runs R U defs p f) (e : f = f') : Runs R U defs p f' := e ▸ h

theorem runs_grp (w : Width F) (c g : ℕ) : Runs R U defs (grp R w c g) (fun σ => (⟨⟩, grpF w c g σ)) := by
  apply Runs.congr
  · exact Runs.bind (Runs.ld_s _ _ _ _) fun s => Runs.bind (Runs.ld_m _ _ _ _) fun m => Runs.bind (Runs.ld_al _ _ _ _) fun _ =>
      Runs.bind (Runs.st_al _ _ _ _ _) fun _ => Runs.bind (Runs.ld_m _ _ _ _) fun _ => Runs.bind (Runs.st_m _ _ _ _ _) fun _ =>
      Runs.bind (Runs.ld_p _ _ _ _) fun _ => Runs.st_p _ _ _ _ _
  · rfl

theorem runs_steps {f : ℕ → Prog (TpuEff nD τ sig (Elt F) Λ .tc) PUnit} {fF : ℕ → St F → St F} (h : ∀ i, Runs R U defs (f i) (fun σ => (⟨⟩, fF i σ))) :
    ∀ n i, Runs R U defs (steps f i n) (fun σ => (⟨⟩, stepsF fF i n σ))
  | 0, i => Runs.ret _
  | n + 1, i => Runs.bind (h i) fun _ => runs_steps h n (i + 1)

theorem runs_softmax (w : Width F) (c : ℕ) : Runs R U defs (softmax R w c) (fun σ => (⟨⟩, softmaxF w c σ)) :=
  runs_steps R (runs_grp R w c) 16 0

theorem runs_scores (c : ℕ) : Runs R U defs (scores R c) (fun σ => (⟨⟩, scoresF c σ)) := by
  apply Runs.congr
  · exact Runs.bind (Runs.ld_k _ _ _ _) fun _ => Runs.bind (Runs.ld_q _ _ _ _) fun _ => Runs.bind (Runs.ld_s _ _ _ _) fun _ => Runs.st_s _ _ _ _ _
  · rfl

theorem runs_scoresCtx : Runs R U defs (scoresCtx R) (fun σ => (⟨⟩, scoresCtxF σ)) := by
  apply Runs.congr
  · exact Runs.bind (Runs.ld_kc _ _ _ _) fun _ => Runs.bind (Runs.ld_q _ _ _ _) fun _ => Runs.bind (Runs.ld_s _ _ _ _) fun _ => Runs.st_s _ _ _ _ _
  · rfl

theorem runs_weighted (c : ℕ) : Runs R U defs (weighted R c) (fun σ => (weightedF c σ, σ)) := by
  apply Runs.congr
  · exact Runs.bind (Runs.ld_v _ _ _ _) fun _ => Runs.bind (Runs.ld_p _ _ _ _) fun _ => Runs.ret _
  · rfl

theorem runs_rescale (prod : FVec F SA .f32) : Runs R U defs (rescale R prod) (fun σ => (⟨⟩, rescaleF prod σ)) := by
  apply Runs.congr
  · exact Runs.bind (Runs.ld_al _ _ _ _) fun _ => Runs.bind (Runs.ld_acc _ _ _ _) fun _ => Runs.bind (Runs.ld_acc _ _ _ _) fun _ => Runs.st_acc _ _ _ _ _
  · rfl

theorem runs_start : Runs R U defs (start R) (fun σ => (⟨⟩, startF σ)) := by
  apply Runs.congr
  · exact Runs.bind (Runs.ld_m _ _ _ _) fun _ => Runs.bind (Runs.st_m _ _ _ _ _) fun _ => Runs.bind (Runs.ld_acc _ _ _ _) fun _ => Runs.st_acc _ _ _ _ _
  · rfl

theorem runs_finish : Runs R U defs (finish R) (fun σ => (⟨⟩, finishF σ)) := by
  apply Runs.congr
  · exact Runs.bind (Runs.ld_acc _ _ _ _) fun _ => Runs.bind (Runs.ld_vc _ _ _ _) fun _ => Runs.bind (Runs.ld_p _ _ _ _) fun _ =>
      Runs.bind (Runs.ld_o _ _ _ _) fun _ => Runs.st_o _ _ _ _ _
  · rfl

attribute [local irreducible] grp steps softmax scores scoresCtx weighted rescale start finish softmaxF scoresF scoresCtxF weightedF rescaleF startF finishF stepsF

theorem runs_chunk (c : ℕ) : Runs R U defs (chunk R c) (fun σ => (⟨⟩, chunkF c σ)) := by
  unfold chunk
  apply Runs.congr
  · exact Runs.bind (runs_weighted R c) fun prod => Runs.bind (runs_scores R (c + 2)) fun _ => Runs.bind (runs_softmax R w512 (c + 1)) fun _ => runs_rescale R prod
  · rfl

theorem runs_chunkLast : Runs R U defs (chunkLast R) (fun σ => (⟨⟩, chunkLastF σ)) := by
  unfold chunkLast
  apply Runs.congr
  · exact Runs.bind (runs_weighted R 14) fun prod => Runs.bind (runs_scoresCtx R) fun _ => Runs.bind (runs_softmax R w512 15) fun _ => runs_rescale R prod
  · rfl

theorem runs_chunkCtx : Runs R U defs (chunkCtx R) (fun σ => (⟨⟩, chunkCtxF σ)) := by
  unfold chunkCtx
  apply Runs.congr
  · exact Runs.bind (runs_weighted R 15) fun prod => Runs.bind (runs_softmax R w256 16) fun _ => runs_rescale R prod
  · rfl

attribute [local irreducible] chunk chunkLast chunkCtx chunkF chunkLastF chunkCtxF

/-- The whole body turns contents `σ` into `bodyF σ`. -/
theorem runs_body : Runs R U defs (body R) (fun σ => (⟨⟩, bodyF σ)) := by
  unfold body
  apply Runs.congr
  · exact Runs.bind (runs_start R) fun _ => Runs.bind (runs_scores R 0) fun _ => Runs.bind (runs_scores R 1) fun _ => Runs.bind (runs_softmax R w512 0) fun _ =>
    Runs.bind (runs_steps R (runs_chunk R) 14 0) fun _ => Runs.bind (runs_chunkLast R) fun _ => Runs.bind (runs_chunkCtx R) fun _ => runs_finish R
  · rfl

end Cert.Flash

end
-- ==== Proof.Online.lean ====
/-
  The algebra of the online softmax over the extended reals: rescaling by the difference of two maxima, and the quotient at the end.
-/
module

public import Idealize.ShloMosaic.PureOps.Ideal

@[expose] public section

noncomputable section

namespace Cert.Flash

open Idealize.ShloMosaic

/-- A power of two is never negative. -/
theorem exp2_nonneg (x : EReal) : 0 ≤ Ideal.exp2 x := by
  induction x with
  | bot => simp
  | top => simp
  | coe r => rw [Ideal.exp2_coe]; exact EReal.coe_nonneg.2 (Real.rpow_nonneg (by norm_num) r)

/-- The rescaling factor is finite. -/
theorem exp2_sub_ne_top {a b : EReal} (h : a ≤ b) : Ideal.exp2 (a - b) ≠ ⊤ := by
  induction b with
  | top => rw [EReal.sub_top]; simp
  | bot => rw [le_bot_iff.1 h, EReal.bot_sub]; simp
  | coe r =>
    induction a with
    | bot => rw [EReal.bot_sub]; simp
    | top => exact absurd (top_le_iff.1 h) (EReal.coe_ne_top r)
    | coe q => rw [← EReal.coe_sub, Ideal.exp2_coe]; exact EReal.coe_ne_top _

/-- Rescaling a weight from one maximum to a larger one. -/
theorem exp2_rescale {s a b : EReal} (h1 : s ≤ a) (h2 : a ≤ b) : Ideal.exp2 (a - b) * Ideal.exp2 (s - a) = Ideal.exp2 (s - b) := by
  induction s with
  | bot => rw [EReal.bot_sub, EReal.bot_sub]; simp
  | top =>
    obtain rfl := top_le_iff.1 h1
    obtain rfl := top_le_iff.1 h2
    rw [EReal.sub_top]; simp
  | coe s =>
    induction b with
    | top => rw [EReal.sub_top, EReal.sub_top]; simp
    | bot => exact absurd (le_bot_iff.1 (h1.trans h2)) (EReal.coe_ne_bot s)
    | coe b =>
      induction a with
      | top => exact absurd (top_le_iff.1 h2) (EReal.coe_ne_top b)
      | bot => exact absurd (le_bot_iff.1 h1) (EReal.coe_ne_bot s)
      | coe a =>
        rw [← EReal.coe_sub, ← EReal.coe_sub, ← EReal.coe_sub, Ideal.exp2_coe, Ideal.exp2_coe, Ideal.exp2_coe, ← EReal.coe_mul]
        have h := Real.rpow_add (x := 2) (by norm_num) (a - b) (s - a)
        rw [show a - b + (s - a) = s - b by ring] at h
        exact congrArg _ h.symm

/-- A finite factor that is not negative goes into a sum. -/
theorem mul_sum_of_nonneg {ι : Type} {a : EReal} (h0 : 0 ≤ a) (h1 : a ≠ ⊤) (t : Finset ι) (f : ι → EReal) : a * ∑ i ∈ t, f i = ∑ i ∈ t, a * f i := by
  classical
  induction t using Finset.induction_on with
  | empty => simp
  | insert i t hi ih => rw [Finset.sum_insert hi, Finset.sum_insert hi, EReal.left_distrib_of_nonneg_of_ne_top h0 h1, ih]

/-- The running maximum of the first `n` scores. -/
def top (S : ℕ → EReal) (n : ℕ) : EReal := (Finset.range n).sup S

theorem le_top {S : ℕ → EReal} {n k : ℕ} (h : k < n) : S k ≤ top S n := Finset.le_sup (Finset.mem_range.2 h)

theorem top_mono (S : ℕ → EReal) {n k : ℕ} (h : n ≤ k) : top S n ≤ top S k := Finset.sup_mono (Finset.range_mono h)

/-- The weighted sum of the first `n` values against the maximum `m`. -/
def part (S V : ℕ → EReal) (n : ℕ) (m : EReal) : EReal := ∑ k ∈ Finset.range n, Ideal.exp2 (S k - m) * V k

/-- Rescaling a weighted sum to a larger maximum. -/
theorem part_rescale (S V : ℕ → EReal) {n : ℕ} {a b : EReal} (h1 : top S n ≤ a) (h2 : a ≤ b) : Ideal.exp2 (a - b) * part S V n a = part S V n b := by
  unfold part
  rw [mul_sum_of_nonneg (exp2_nonneg _) (exp2_sub_ne_top h2)]
  refine Finset.sum_congr rfl fun k hk => ?_
  rw [← mul_assoc, exp2_rescale ((le_top (Finset.mem_range.1 hk)).trans h1) h2]

/-- A weighted sum and the one after it. -/
theorem part_add (S V : ℕ → EReal) (n w : ℕ) (m : EReal) :
    part S V n m + ∑ k ∈ Finset.range w, Ideal.exp2 (S (n + k) - m) * V (n + k) = part S V (n + w) m :=
  (Finset.sum_range_add _ n w).symm

/-- The maximum of the first `n + w` scores. -/
theorem top_add (S : ℕ → EReal) (n w : ℕ) : top S (n + w) = max (top S n) ((Finset.range w).sup fun k => S (n + k)) := by
  apply le_antisymm
  · refine Finset.sup_le fun k hk => ?_
    have hk := Finset.mem_range.1 hk
    by_cases h : k < n
    · exact (le_top h).trans (le_max_left _ _)
    · obtain ⟨i, rfl⟩ := Nat.exists_eq_add_of_le (Nat.le_of_not_lt h)
      exact le_trans (Finset.le_sup (f := fun k => S (n + k)) (Finset.mem_range.2 (by omega : i < w))) (le_max_right _ _)
  · refine max_le (top_mono S (Nat.le_add_right n w)) (Finset.sup_le fun k hk => le_top ?_)
    have hk := Finset.mem_range.1 hk
    omega

/-- Finite scores have one of them as their maximum, also after scaling all by a positive factor. -/
theorem exists_top (t : ℕ → ℝ) {n : ℕ} (hn : 0 < n) : ∃ k < n, ∀ c : ℝ, 0 < c → top (fun i => ((t i * c : ℝ) : EReal)) n = ((t k * c : ℝ) : EReal) := by
  obtain ⟨k, hk, h⟩ := Finset.exists_max_image (Finset.range n) t ⟨0, Finset.mem_range.2 hn⟩
  refine ⟨k, Finset.mem_range.1 hk, fun c hc => le_antisymm (Finset.sup_le fun i hi => ?_) (le_top (S := fun i => ((t i * c : ℝ) : EReal)) (Finset.mem_range.1 hk))⟩
  exact EReal.coe_le_coe_iff.2 (mul_le_mul_of_nonneg_right (h i hi) hc.le)

/-- A power of two is the exponential of the same number times the logarithm of two. -/
theorem exp2_eq_exp (x c : ℝ) : Ideal.exp2 (((x * (c / Real.log 2) : ℝ)) : EReal) = Ideal.exp ((x * c : ℝ) : EReal) := by
  rw [Ideal.exp2_coe, Ideal.exp_coe]
  congr 1
  rw [show Real.rpow 2 (x * (c / Real.log 2)) = Real.exp (Real.log 2 * (x * (c / Real.log 2))) from Real.rpow_def_of_pos (by norm_num) _]
  congr 1
  have : Real.log 2 ≠ 0 := (Real.log_pos (by norm_num)).ne'
  field_simp

/-- The quotient of the two weighted sums in base two is the softmax-weighted sum in base e. -/
theorem softmax_eq (t : ℕ → ℝ) (V : ℕ → EReal) {n : ℕ} (hn : 0 < n) {c : ℝ} (hc : 0 < c) :
    Ideal.div (part (fun i => ((t i * (c / Real.log 2) : ℝ) : EReal)) V n (top (fun i => ((t i * (c / Real.log 2) : ℝ) : EReal)) n))
        (part (fun i => ((t i * (c / Real.log 2) : ℝ) : EReal)) (fun _ => 1) n (top (fun i => ((t i * (c / Real.log 2) : ℝ) : EReal)) n))
      = ∑ i ∈ Finset.range n, V i * Ideal.div (Ideal.exp (((t i * c : ℝ) : EReal) - top (fun i => ((t i * c : ℝ) : EReal)) n))
          (∑ k ∈ Finset.range n, Ideal.exp (((t k * c : ℝ) : EReal) - top (fun i => ((t i * c : ℝ) : EReal)) n)) := by
  obtain ⟨m, hm, h⟩ := exists_top t hn
  have hl : 0 < Real.log 2 := Real.log_pos (by norm_num)
  rw [h c hc, h (c / Real.log 2) (div_pos hc hl)]
  have he (i : ℕ) : Ideal.exp2 (((t i * (c / Real.log 2) : ℝ) : EReal) - ((t m * (c / Real.log 2) : ℝ) : EReal)) = ((Real.exp ((t i - t m) * c) : ℝ) : EReal) := by
    rw [← EReal.coe_sub, ← sub_mul, exp2_eq_exp, Ideal.exp_coe]
  have he' (i : ℕ) : Ideal.exp (((t i * c : ℝ) : EReal) - ((t m * c : ℝ) : EReal)) = ((Real.exp ((t i - t m) * c) : ℝ) : EReal) := by
    rw [← EReal.coe_sub, ← sub_mul, Ideal.exp_coe]
  unfold part
  simp only [he, he', mul_one]
  have hs : (∑ k ∈ Finset.range n, ((Real.exp ((t k - t m) * c) : ℝ) : EReal)) = ((∑ k ∈ Finset.range n, Real.exp ((t k - t m) * c) : ℝ) : EReal) :=
    (map_sum (⟨⟨Real.toEReal, EReal.coe_zero⟩, EReal.coe_add⟩ : ℝ →+ EReal) _ _).symm
  have hp : 0 < ∑ k ∈ Finset.range n, Real.exp ((t k - t m) * c) := Finset.sum_pos (fun _ _ => Real.exp_pos _) ⟨0, Finset.mem_range.2 hn⟩
  rw [hs, Ideal.div_coe hp.ne']
  simp only [Ideal.div_coe hp.ne']
  rw [mul_comm, mul_sum_of_nonneg (EReal.coe_nonneg.2 (one_div_pos.2 hp).le) (EReal.coe_ne_top _)]
  refine Finset.sum_congr rfl fun i _ => ?_
  rw [mul_comm, mul_right_comm, mul_comm]

end Cert.Flash

end
-- ==== Proof.Reads.lean ====
/-
  The values of the body read at an index over the extended reals.
-/
module

public import proofs.«01_k».proof.Proof.Steps
public import proofs.«01_k».proof.Proof.Online
public import Idealize.ShloMosaic.Lib.Pointwise
public import Idealize.ShloMosaic.Lib.VecWindow

@[expose] public section

set_option maxRecDepth 16384

noncomputable section

namespace Cert.Flash

open Idealize.ShloMosaic

/-- The word of minus infinity is the least extended real. -/
theorem ofBits_bot : Ideal.ofBits .f32 0xFF800000#32 = (⊥ : EReal) := by
  unfold Ideal.ofBits; simp [Ideal.ieee]

/-- The new maximum of a row: the old one and the greatest of its scores. -/
theorem mNew_at {w : Width Ideal} (hw : w = w512 ∨ w = w256) (s : Vec Ideal (Sh3 1 32 w.W) .f32) (m : Vec Ideal (Sh2 32 128) .f32) (r : Fin 32) (l : Fin 128) :
    mNew w s m (ix2 r l) = max (m (ix2 r l)) (Finset.univ.sup fun j : Fin w.W => s (ix3 0 r j)) := by
  rcases hw with rfl | rfl <;> (pointwise [mNew, w512, w256]; rw [ofBits_bot]; rfl)

/-- The rescaling factor of a row. -/
theorem alNew_at {w : Width Ideal} (hw : w = w512 ∨ w = w256) (s : Vec Ideal (Sh3 1 32 w.W) .f32) (m : Vec Ideal (Sh2 32 128) .f32) (r : Fin 32) (l : Fin 128) :
    alNew w s m (ix2 r l) = Ideal.exp2 (m (ix2 r l) - mNew w s m (ix2 r l)) := by
  rcases hw with rfl | rfl <;> (pointwise [alNew]; rfl)

/-- The weights of a row. -/
theorem pNew_at {w : Width Ideal} (hw : w = w512 ∨ w = w256) (s : Vec Ideal (Sh3 1 32 w.W) .f32) (m : Vec Ideal (Sh2 32 128) .f32) (r : Fin 32) (j : Fin w.W)
    (f : EReal) (hf : ∀ l, mNew w s m (ix2 r l) = f) :
    pNew w s m (ix3 0 r j) = Ideal.exp2 (s (ix3 0 r j) - f) := by
  rcases hw with rfl | rfl
  · unfold pNew w512 at *
    pointwise
    simp only [hf, dite_eq_ite, ite_self]
    rfl
  · unfold pNew w256 at *
    pointwise
    simp only [hf, dite_eq_ite, ite_self]
    rfl

/-- A score: the product of a query and a key. -/
theorem scoresOf_at512 (k : Vec Ideal (Sh4 1 1 512 192) .bf16) (q : Vec Ideal SQ .bf16) (r : Fin 512) (j : Fin 512) :
    scoresOf 512 k q (ix2 r j) = ∑ d : Fin 192, q (ix4 0 0 r d) * k (ix4 0 0 j d) := by
  pointwise [scoresOf]

theorem scoresOf_at256 (k : Vec Ideal (Sh4 1 1 256 192) .bf16) (q : Vec Ideal SQ .bf16) (r : Fin 512) (j : Fin 256) :
    scoresOf 256 k q (ix2 r j) = ∑ d : Fin 192, q (ix4 0 0 r d) * k (ix4 0 0 j d) := by
  pointwise [scoresOf]

theorem cast512_at (x : FVec Ideal (Sh2 512 512) .f32) (r j : Fin 512) : shapeCast (Sh3 1 512 512) x (cast_add 512 512) (ix3 0 r j) = x (ix2 r j) := by
  pointwise

theorem cast256_at (x : FVec Ideal (Sh2 512 256) .f32) (r : Fin 512) (j : Fin 256) : shapeCast (Sh3 1 512 256) x (cast_add 512 256) (ix3 0 r j) = x (ix2 r j) := by
  pointwise

/-- The choice of one at lane zero of the right half. -/
theorem pick_zero (n : ℕ) (h : n < 256) (a b : EReal) : Scalar.select (IntOp.cmpi CmpIPredicate.eq (BitVec.ofNat 32 (n - 128)) 0#32) a b = if n - 128 = 0 then a else b := by
  have e : (BitVec.ofNat 32 (n - 128) = 0#32) ↔ n - 128 = 0 := by
    rw [← BitVec.toNat_inj, BitVec.toNat_ofNat, Nat.mod_eq_of_lt (by omega)]; simp
  by_cases hn : n - 128 = 0
  · rw [if_pos hn, hn]; rfl
  · rw [if_neg hn]
    have : ¬ (BitVec.ofNat 32 (n - 128) = 0#32) := fun h => hn (e.1 h)
    have ht := beq_eq_false_iff_ne.2 this
    show (if BitVec.ofBool (BitVec.ofNat 32 (n - 128) == 0#32) = 1#1 then a else b) = b
    rw [ht]; rfl

/-- A lane of a value row with the column of ones to its right. -/
def lane (v : Fin 128 → EReal) (l : Fin 256) : EReal := if h : l.val < 128 then v ⟨l.val, h⟩ else if l.val = 128 then 1 else 0

theorem weightedOf_at512 (hi hc) (v : Vec Ideal (Sh4 1 1 512 128) .bf16) (p : Vec Ideal (Sh3 1 512 512) .bf16) (r : Fin 512) (l : Fin 256) :
    weightedOf 512 hi hc v p (ix2 r l) = ∑ j : Fin 512, p (ix3 0 r j) * lane (fun l => v (ix4 0 0 j l)) l := by
  pointwise [weightedOf, valsOf, lane]
  refine Finset.sum_congr rfl fun x _ => ?_
  by_cases h : l.val < 128
  · simp only [dif_pos h]
  · rw [dif_neg h, dif_neg h, pick_zero _ l.isLt]
    have e : (l.val - 128 = 0) = (l.val = 128) := propext ⟨fun _ => by omega, fun _ => by omega⟩
    simp only [e]

theorem weightedOf_at256 (hi hc) (v : Vec Ideal (Sh4 1 1 256 128) .bf16) (p : Vec Ideal (Sh3 1 512 256) .bf16) (r : Fin 512) (l : Fin 256) :
    weightedOf 256 hi hc v p (ix2 r l) = ∑ j : Fin 256, p (ix3 0 r j) * lane (fun l => v (ix4 0 0 j l)) l := by
  pointwise [weightedOf, valsOf, lane]
  refine Finset.sum_congr rfl fun x _ => ?_
  by_cases h : l.val < 128
  · simp only [dif_pos h]
  · rw [dif_neg h, dif_neg h, pick_zero _ l.isLt]
    have e : (l.val - 128 = 0) = (l.val = 128) := propext ⟨fun _ => by omega, fun _ => by omega⟩
    simp only [e]

theorem accNew_at (al : Vec Ideal SM .f32) (acc : Vec Ideal SA .f32) (prod : FVec Ideal SA .f32) (r : Fin 512) (l : Fin 256) (a : EReal) (ha : ∀ l, al (ix2 r l) = a) :
    accNew al acc prod (ix2 r l) = a * (acc (ix2 r l) + prod (ix2 r l)) := by
  pointwise [accNew]
  split <;> rw [ha]

theorem outOf_at (acc : Vec Ideal SA .f32) (prod : FVec Ideal SA .f32) (r : Fin 512) (l : Fin 128) :
    outOf acc prod (ix3 0 r l) = Ideal.div (acc (ix2 r ⟨l.val, by omega⟩) + prod (ix2 r ⟨l.val, by omega⟩)) (acc (ix2 r 128) + prod (ix2 r 128)) := by
  pointwise [outOf]

end Cert.Flash

end
-- ==== Proof.Group.lean ====
/-
  The softmax step of one chunk over the extended reals: after its sixteen row groups the maxima, the rescaling factors and the weights of all rows are the new ones.
-/
module

public import proofs.«01_k».proof.Proof.Reads

@[expose] public section

noncomputable section

namespace Cert.Flash

open Idealize.ShloMosaic

/-! ## Windows and puts at an index -/

section Win

variable {α : Type} {A B C D n W : ℕ}

theorem win2 (x : (Sh2 B C).Idx → α) (b : ℕ) (inb) (r : Fin n) (j : Fin W) (r' : Fin B) (j' : Fin C) (hr : r'.val = b + r.val) (hj : j'.val = j.val) :
    VecWindow.window x ![b, 0] (Sh2 n W).size inb (ix2 r j) = x (ix2 r' j') := by
  refine congrArg x (funext fun i => Fin.ext ?_)
  match i with
  | ⟨0, _⟩ => show b + 1 * r.val = r'.val; omega
  | ⟨1, _⟩ => show 0 + 1 * j.val = j'.val; omega

theorem win3 (x : (Sh3 A B C).Idx → α) (a b : ℕ) (inb) (r : Fin n) (j : Fin W) (a' : Fin A) (r' : Fin B) (j' : Fin C) (ha : a'.val = a) (hr : r'.val = b + r.val) (hj : j'.val = j.val) :
    VecWindow.window x ![a, b, 0] (Sh3 1 n W).size inb (ix3 0 r j) = x (ix3 a' r' j') := by
  refine congrArg x (funext fun i => Fin.ext ?_)
  match i with
  | ⟨0, _⟩ => show a + 1 * 0 = a'.val; omega
  | ⟨1, _⟩ => show b + 1 * r.val = r'.val; omega
  | ⟨2, _⟩ => show 0 + 1 * j.val = j'.val; omega

theorem win4 (x : (Sh4 1 1 B C).Idx → α) (b : ℕ) (inb) (r : Fin n) (j : Fin W) (r' : Fin B) (j' : Fin C) (hr : r'.val = b + r.val) (hj : j'.val = j.val) :
    VecWindow.window x ![0, 0, b, 0] (Sh4 1 1 n W).size inb (ix4 0 0 r j) = x (ix4 0 0 r' j') := by
  refine congrArg x (funext fun i => Fin.ext ?_)
  match i with
  | ⟨0, _⟩ => show 0 + 1 * 0 = 0; omega
  | ⟨1, _⟩ => show 0 + 1 * 0 = 0; omega
  | ⟨2, _⟩ => show b + 1 * r.val = r'.val; omega
  | ⟨3, _⟩ => show 0 + 1 * j.val = j'.val; omega

theorem put2_in (x : (Sh2 B C).Idx → α) (b : ℕ) (w : (Sh2 n W).Idx → α) (r : Fin n) (j : Fin W) (r' : Fin B) (j' : Fin C) (hr : r'.val = b + r.val) (hj : j'.val = j.val) :
    VecWindow.put x ![b, 0] (Sh2 n W).size w (ix2 r' j') = w (ix2 r j) := by
  unfold VecWindow.put
  rw [dif_pos fun i => by
    match i with
    | ⟨0, _⟩ => show b ≤ r'.val ∧ r'.val < b + n; omega
    | ⟨1, _⟩ => show 0 ≤ j'.val ∧ j'.val < 0 + W; omega]
  refine congrArg w (funext fun i => Fin.ext ?_)
  match i with
  | ⟨0, _⟩ => show r'.val - b = r.val; omega
  | ⟨1, _⟩ => show j'.val - 0 = j.val; omega

theorem put2_out (x : (Sh2 B C).Idx → α) (b : ℕ) (w : (Sh2 n W).Idx → α) (r' : Fin B) (j' : Fin C) (h : r'.val < b ∨ b + n ≤ r'.val) :
    VecWindow.put x ![b, 0] (Sh2 n W).size w (ix2 r' j') = x (ix2 r' j') := by
  unfold VecWindow.put
  rw [dif_neg fun hall => by
    have : b ≤ r'.val ∧ r'.val < b + n := hall 0
    omega]

theorem put3_in (x : (Sh3 A B C).Idx → α) (a b : ℕ) (w : (Sh3 1 n W).Idx → α) (r : Fin n) (j : Fin W) (a' : Fin A) (r' : Fin B) (j' : Fin C) (ha : a'.val = a) (hr : r'.val = b + r.val) (hj : j'.val = j.val) :
    VecWindow.put x ![a, b, 0] (Sh3 1 n W).size w (ix3 a' r' j') = w (ix3 0 r j) := by
  unfold VecWindow.put
  rw [dif_pos fun i => by
    match i with
    | ⟨0, _⟩ => show a ≤ a'.val ∧ a'.val < a + 1; omega
    | ⟨1, _⟩ => show b ≤ r'.val ∧ r'.val < b + n; omega
    | ⟨2, _⟩ => show 0 ≤ j'.val ∧ j'.val < 0 + W; omega]
  refine congrArg w (funext fun i => Fin.ext ?_)
  match i with
  | ⟨0, _⟩ => show a'.val - a = 0; omega
  | ⟨1, _⟩ => show r'.val - b = r.val; omega
  | ⟨2, _⟩ => show j'.val - 0 = j.val; omega

theorem put3_out (x : (Sh3 A B C).Idx → α) (a b : ℕ) (w : (Sh3 1 n W).Idx → α) (a' : Fin A) (r' : Fin B) (j' : Fin C) (h : a'.val ≠ a ∨ r'.val < b ∨ b + n ≤ r'.val) :
    VecWindow.put x ![a, b, 0] (Sh3 1 n W).size w (ix3 a' r' j') = x (ix3 a' r' j') := by
  unfold VecWindow.put
  rw [dif_neg fun hall => by
    have h0 : a ≤ a'.val ∧ a'.val < a + 1 := hall 0
    have h1 : b ≤ r'.val ∧ r'.val < b + n := hall 1
    omega]

end Win

/-- One more step at the end. -/
theorem stepsF_succ {F : FTy → Type} (f : ℕ → St F → St F) (n : ℕ) : ∀ i σ, stepsF f i (n + 1) σ = f (i + n) (stepsF f i n σ) := by
  induction n with
  | zero => intro i σ; rfl
  | succ n ih =>
    intro i σ
    show stepsF f (i + 1) (n + 1) (f i σ) = f (i + (n + 1)) (stepsF f (i + 1) n (f i σ))
    rw [ih, show i + 1 + n = i + (n + 1) by omega]

/-- A column of a score slot that a chunk of width `w` uses. -/
def col {F : FTy → Type} [FloatOps F] (w : Width F) (j : Fin w.W) : Fin 512 := ⟨j.val, j.isLt.trans_le w.le⟩

/-- The slot of the scores of chunk `c`, and of its weights. -/
def slotS (c : ℕ) : Fin 3 := ⟨c % 3, Nat.mod_lt _ (by omega)⟩
def slotP (c : ℕ) : Fin 2 := ⟨c % 2, Nat.mod_lt _ (by omega)⟩

/-- After `n` row groups of chunk `c` from `σ₀`, whose maxima are `f` and whose scores are `S`: the first `32 n` rows are done and the others as they were. -/
structure Done (w : Width Ideal) (c : ℕ) (f : Fin 512 → EReal) (S : Fin 512 → Fin w.W → EReal) (σ₀ : St Ideal) (n : ℕ) (σ : St Ideal) : Prop where
  rest : σ = { σ₀ with m := σ.m, al := σ.al, p := σ.p }
  mNew : ∀ r l, r.val < 32 * n → σ.m (ix2 r l) = max (f r) (Finset.univ.sup (S r))
  mOld : ∀ r l, 32 * n ≤ r.val → σ.m (ix2 r l) = f r
  al : ∀ r l, r.val < 32 * n → σ.al (ix2 r l) = Ideal.exp2 (f r - max (f r) (Finset.univ.sup (S r)))
  p : ∀ r j, r.val < 32 * n → σ.p (ix3 (slotP c) r (col w j)) = Ideal.exp2 (S r j - max (f r) (Finset.univ.sup (S r)))

section

variable {w : Width Ideal} (hw : w = w512 ∨ w = w256) {c : ℕ} {f : Fin 512 → EReal} {S : Fin 512 → Fin w.W → EReal} {σ₀ : St Ideal}
  (hS : ∀ r j, σ₀.s (ix3 (slotS c) r (col w j)) = S r j)

include hw hS in
/-- One more row group. -/
theorem Done.step {n : ℕ} (hn : n < 16) {σ : St Ideal} (h : Done w c f S σ₀ n σ) : Done w c f S σ₀ (n + 1) (grpF w c n σ) := by
  have hg : n % 16 = n := Nat.mod_eq_of_lt hn
  have hs : σ.s = σ₀.s := by rw [h.rest]
  have hsw (r : Fin 32) (r' : Fin 512) (hr : r'.val = 32 * (n % 16) + r.val) (j : Fin w.W) : sWin w c n σ (ix3 0 r j) = S r' j :=
    (win3 σ.s (c % 3) (32 * (n % 16)) _ r j (slotS c) r' (col w j) rfl hr rfl).trans ((congrFun hs _).trans (hS r' j))
  have hmw (r : Fin 32) (r' : Fin 512) (hr : r'.val = 32 * (n % 16) + r.val) (l : Fin 128) : mWin n σ (ix2 r l) = f r' :=
    (win2 σ.m (32 * (n % 16)) _ r l r' l hr rfl).trans (h.mOld r' l (by omega))
  have hmn (r : Fin 32) (r' : Fin 512) (hr : r'.val = 32 * (n % 16) + r.val) (l : Fin 128) :
      Flash.mNew w (sWin w c n σ) (mWin n σ) (ix2 r l) = max (f r') (Finset.univ.sup (S r')) := by
    rw [mNew_at hw, hmw r r' hr l]
    exact congrArg _ (congrArg _ (funext fun j => hsw r r' hr j))
  have row (r' : Fin 512) (h1 : r'.val < 32 * (n + 1)) (h2 : ¬ r'.val < 32 * n) : ∃ r : Fin 32, r'.val = 32 * (n % 16) + r.val :=
    ⟨⟨r'.val - 32 * n, by omega⟩, by show r'.val = 32 * (n % 16) + (r'.val - 32 * n); omega⟩
  refine ⟨?_, fun r l hr => ?_, fun r l hr => ?_, fun r l hr => ?_, fun r j hr => ?_⟩
  · show ({ σ with al := _, m := _, p := _ } : St Ideal) = _
    rw [h.rest]
    rfl
  · by_cases h2 : r.val < 32 * n
    · exact (put2_out σ.m (32 * (n % 16)) _ r l (by omega)).trans (h.mNew r l h2)
    · obtain ⟨r0, e⟩ := row r hr h2
      refine (put2_in σ.m (32 * (n % 16)) _ r0 l r l e rfl).trans ?_
      rw [shapeCast_id]
      exact hmn r0 r e l
  · exact (put2_out σ.m (32 * (n % 16)) _ r l (by omega)).trans (h.mOld r l (by omega))
  · by_cases h2 : r.val < 32 * n
    · exact (put2_out σ.al (32 * (n % 16)) _ r l (by omega)).trans (h.al r l h2)
    · obtain ⟨r0, e⟩ := row r hr h2
      refine (put2_in σ.al (32 * (n % 16)) _ r0 l r l e rfl).trans ?_
      rw [alNew_at hw, hmn r0 r e l, hmw r0 r e l]
  · by_cases h2 : r.val < 32 * n
    · exact (put3_out σ.p (c % 2) (32 * (n % 16)) _ (slotP c) r (col w j) (by omega)).trans (h.p r j h2)
    · obtain ⟨r0, e⟩ := row r hr h2
      refine (put3_in σ.p (c % 2) (32 * (n % 16)) _ r0 j (slotP c) r (col w j) rfl e rfl).trans ?_
      rw [pNew_at hw _ _ r0 j _ (hmn r0 r e), hsw r0 r e]

include hw hS in
/-- The whole softmax step of a chunk. -/
theorem softmax_done (hm : ∀ r l, σ₀.m (ix2 r l) = f r) : Done w c f S σ₀ 16 (softmaxF w c σ₀) := by
  have key : ∀ n ≤ 16, Done w c f S σ₀ n (stepsF (grpF w c) 0 n σ₀) := by
    intro n
    induction n with
    | zero => exact fun _ => ⟨rfl, fun r l h => absurd h (by omega), fun r l _ => hm r l, fun r l h => absurd h (by omega), fun r j h => absurd h (by omega)⟩
    | succ n ih =>
      intro hn
      rw [stepsF_succ, Nat.zero_add]
      exact (ih (by omega)).step hw hS (by omega)
  exact key 16 le_rfl

end

end Cert.Flash

end
-- ==== Proof.Chunks.lean ====
/-
  The whole body over the extended reals: after each chunk the maxima, the weights and the accumulator are those of all keys up to that chunk, and the block written at the
  end is the quotient of the two sums.
-/
module

public import proofs.«01_k».proof.Proof.Group

@[expose] public section

noncomputable section

namespace Cert.Flash

open Idealize.ShloMosaic

theorem sup_fin (W : ℕ) (g : ℕ → EReal) : (Finset.univ.sup fun j : Fin W => g j.val) = (Finset.range W).sup g :=
  le_antisymm (Finset.sup_le fun j _ => Finset.le_sup (f := g) (Finset.mem_range.2 j.isLt))
    (Finset.sup_le fun j hj => Finset.le_sup (f := fun j : Fin W => g j.val) (Finset.mem_univ (⟨j, Finset.mem_range.1 hj⟩ : Fin W)))

/-- Row `n` of the keys of both streams, one after the other. -/
def row2 {C : ℕ} (x : (Sh4 1 1 8192 C).Idx → EReal) (y : (Sh4 1 1 256 C).Idx → EReal) (n : ℕ) (d : Fin C) : EReal :=
  if h : n < 8192 then x (ix4 0 0 ⟨n, h⟩ d) else if h : n - 8192 < 256 then y (ix4 0 0 ⟨n - 8192, h⟩ d) else 0

theorem row2_left {C : ℕ} (x : (Sh4 1 1 8192 C).Idx → EReal) (y : (Sh4 1 1 256 C).Idx → EReal) {n : ℕ} (i : Fin 8192) (h : i.val = n) (d : Fin C) :
    x (ix4 0 0 i d) = row2 x y n d := by
  subst h; unfold row2; rw [dif_pos i.isLt]

theorem row2_right {C : ℕ} (x : (Sh4 1 1 8192 C).Idx → EReal) (y : (Sh4 1 1 256 C).Idx → EReal) {n : ℕ} (i : Fin 256) (h : 8192 + i.val = n) (d : Fin C) :
    y (ix4 0 0 i d) = row2 x y n d := by
  subst h; unfold row2; rw [dif_neg (by omega), dif_pos (by omega)]
  exact congrArg (fun i => y (ix4 0 0 i d)) (Fin.ext (Nat.add_sub_cancel_left (n := 8192) (m := i.val)).symm)

/-- The score of query row `r` and key `n`. -/
def score (σ : St Ideal) (r : Fin 512) (n : ℕ) : EReal := ∑ d : Fin 192, σ.q (ix4 0 0 r d) * row2 (C := 192) σ.k σ.kc n d

/-- Lane `l` of value row `n` with the column of ones. -/
def vlane (σ : St Ideal) (l : Fin 256) (n : ℕ) : EReal := lane (row2 (C := 128) σ.v σ.vc n) l

/-- The input blocks are those of `σ₀`. -/
structure Same (σ₀ σ : St Ideal) : Prop where
  q : σ.q = σ₀.q
  k : σ.k = σ₀.k
  v : σ.v = σ₀.v
  kc : σ.kc = σ₀.kc
  vc : σ.vc = σ₀.vc

/-- The scores of chunk `c` stand in their slot. -/
def Scored (σ₀ : St Ideal) (w : Width Ideal) (c : ℕ) (σ : St Ideal) : Prop := ∀ r j, σ.s (ix3 (slotS c) r (col w j)) = score σ₀ r (512 * c + j.val)

/-- Chunk `c`, of `W` keys, has had its softmax step; the accumulator has the chunks before it. -/
structure Inv (σ₀ : St Ideal) (w : Width Ideal) (c : ℕ) (σ : St Ideal) : Prop where
  same : Same σ₀ σ
  m : ∀ r l, σ.m (ix2 r l) = top (score σ₀ r) (512 * c + w.W)
  p : ∀ r j, σ.p (ix3 (slotP c) r (col w j)) = Ideal.exp2 (score σ₀ r (512 * c + j.val) - top (score σ₀ r) (512 * c + w.W))
  acc : ∀ r l, σ.acc (ix2 r l) = part (score σ₀ r) (vlane σ₀ l) (512 * c) (top (score σ₀ r) (512 * c + w.W))

theorem top_chunk (S : ℕ → EReal) (n W : ℕ) : max (top S n) (Finset.univ.sup fun j : Fin W => S (n + j.val)) = top S (n + W) := by
  rw [sup_fin W fun j => S (n + j), top_add]

/-- The scores of a latent chunk are put in its slot. -/
theorem scoresF_scored (σ₀ σ : St Ideal) (h : Same σ₀ σ) {c : ℕ} (hc : c < 16) : Scored σ₀ w512 c (scoresF c σ) := by
  intro r j
  refine (put3_in σ.s (c % 3) 0 _ r j (slotS c) r (col w512 j) rfl (Nat.zero_add _).symm rfl).trans ?_
  refine (cast512_at _ r j).trans ((scoresOf_at512 _ _ r j).trans ?_)
  refine Finset.sum_congr rfl fun d _ => ?_
  have hj : j.val < 512 := j.isLt
  refine congrArg₂ (· * ·) ((win4 σ.q 0 _ r d r d (Nat.zero_add _).symm rfl).trans (congrFun h.q _)) ?_
  refine (win4 σ.k (512 * (c % 16)) _ (j : Fin 512) d ⟨512 * c + j.val, by omega⟩ d (by rw [Nat.mod_eq_of_lt hc]) rfl).trans ((congrFun h.k _).trans ?_)
  exact row2_left σ₀.k σ₀.kc _ rfl d

/-- Another slot keeps its scores. -/
theorem scoresF_other (σ₀ σ : St Ideal) (w : Width Ideal) {c e : ℕ} (he : e % 3 ≠ c % 3) (h : Scored σ₀ w e σ) : Scored σ₀ w e (scoresF c σ) := fun r j =>
  (put3_out σ.s (c % 3) 0 _ (slotS e) r (col w j) (.inl he)).trans (h r j)

theorem scoresCtxF_scored (σ₀ σ : St Ideal) (h : Same σ₀ σ) : Scored σ₀ w256 16 (scoresCtxF σ) := by
  intro r j
  refine (put3_in σ.s (16 % 3) 0 _ r j (slotS 16) r (col w256 j) rfl (Nat.zero_add _).symm rfl).trans ?_
  refine (cast256_at _ r j).trans ((scoresOf_at256 _ _ r j).trans ?_)
  refine Finset.sum_congr rfl fun d _ => ?_
  refine congrArg₂ (· * ·) ((win4 σ.q 0 _ r d r d (Nat.zero_add _).symm rfl).trans (congrFun h.q _)) ?_
  refine (win4 σ.kc 0 _ (j : Fin 256) d j d (Nat.zero_add _).symm rfl).trans ((congrFun h.kc _).trans ?_)
  exact row2_right σ₀.k σ₀.kc (j : Fin 256) rfl d

theorem scoresCtxF_other (σ₀ σ : St Ideal) (w : Width Ideal) {e : ℕ} (he : e % 3 ≠ 16 % 3) (h : Scored σ₀ w e σ) : Scored σ₀ w e (scoresCtxF σ) := fun r j =>
  (put3_out σ.s (16 % 3) 0 _ (slotS e) r (col w j) (.inl he)).trans (h r j)

/-- The weighted values of a chunk, added to those of the chunks before it. -/
theorem weighted_part (σ₀ σ : St Ideal) {c : ℕ} (hc : c < 16) (h : Inv σ₀ w512 c σ) (r : Fin 512) (l : Fin 256) :
    σ.acc (ix2 r l) + weightedF c σ (ix2 r l) = part (score σ₀ r) (vlane σ₀ l) (512 * (c + 1)) (top (score σ₀ r) (512 * (c + 1))) := by
  rw [h.acc, show 512 * (c + 1) = 512 * c + 512 by ring, ← part_add, Finset.sum_range]
  refine congrArg _ ?_
  unfold weightedF
  rw [weightedOf_at512]
  refine Finset.sum_congr rfl fun j _ => ?_
  rw [win3 σ.p (c % 2) 0 _ r j (slotP c) r j rfl (Nat.zero_add _).symm rfl]
  refine congrArg₂ _ (h.p r j) ?_
  unfold vlane
  refine congrArg (lane · l) (funext fun d => ?_)
  rw [win4 σ.v (512 * (c % 16)) _ j d ⟨512 * c + j.val, by omega⟩ d (by rw [Nat.mod_eq_of_lt hc]) rfl, h.same.v]
  exact row2_left σ₀.v σ₀.vc _ rfl d

theorem weighted_part_ctx (σ₀ σ : St Ideal) (h : Inv σ₀ w256 16 σ) (r : Fin 512) (l : Fin 256) :
    σ.acc (ix2 r l) + weightedCtxF σ (ix2 r l) = part (score σ₀ r) (vlane σ₀ l) 8448 (top (score σ₀ r) 8448) := by
  rw [h.acc]
  refine Eq.trans ?_ (part_add (score σ₀ r) (vlane σ₀ l) 8192 256 (top (score σ₀ r) 8448))
  rw [Finset.sum_range]
  refine congrArg _ ?_
  unfold weightedCtxF
  rw [weightedOf_at256]
  refine Finset.sum_congr rfl fun j _ => ?_
  rw [win3 σ.p (16 % 2) 0 _ r j (slotP 16) r (col (w256 (F := Ideal)) j) rfl (Nat.zero_add _).symm rfl]
  refine congrArg₂ _ (h.p r j) ?_
  unfold vlane
  refine congrArg (lane · l) (funext fun d => ?_)
  rw [win4 σ.vc 0 _ j d j d (Nat.zero_add _).symm rfl, h.same.vc]
  exact row2_right σ₀.v σ₀.vc _ rfl d

end Cert.Flash

end
-- ==== Proof.Sweep.lean ====
/-
  The sweep over the chunks, and what the body leaves in its output block.
-/
module

public import proofs.«01_k».proof.Proof.Chunks

@[expose] public section

noncomputable section

namespace Cert.Flash

open Idealize.ShloMosaic

/-- The accumulator after the rescaling. -/
theorem rescaleF_acc (prod : FVec Ideal SA .f32) (σ : St Ideal) (r : Fin 512) (l : Fin 256) (a : EReal) (ha : ∀ l, σ.al (ix2 r l) = a) :
    (rescaleF prod σ).acc (ix2 r l) = a * (σ.acc (ix2 r l) + prod (ix2 r l)) := by
  refine (put2_in σ.acc 0 _ r l r l (Nat.zero_add _).symm rfl).trans ?_
  refine (accNew_at _ _ _ r l a fun l => (win2 σ.al 0 _ r l r l (Nat.zero_add _).symm rfl).trans (ha l)).trans ?_
  exact congrArg (fun x => a * (x + prod (ix2 r l))) (win2 σ.acc 0 _ r l r l (Nat.zero_add _).symm rfl)

/-- The rescaling touches the accumulator alone. -/
theorem rescaleF_rest (prod : FVec Ideal SA .f32) (σ : St Ideal) :
    (rescaleF prod σ).m = σ.m ∧ (rescaleF prod σ).p = σ.p ∧ (rescaleF prod σ).s = σ.s ∧ (∀ σ₀, Same σ₀ σ → Same σ₀ (rescaleF prod σ)) :=
  ⟨rfl, rfl, rfl, fun _ h => ⟨h.q, h.k, h.v, h.kc, h.vc⟩⟩

/-- Contents that agree on all but the scores, the maxima, the factors and the weights. -/
theorem agree {σ₀ σ υ : St Ideal} (h : Same σ₀ σ) (s m al p) (e : υ = { σ with s := s, m := m, al := al, p := p }) : Same σ₀ υ ∧ υ.acc = σ.acc ∧ υ.s = s := by
  subst e; exact ⟨⟨h.q, h.k, h.v, h.kc, h.vc⟩, rfl, rfl⟩

/-- What the softmax step of chunk `c + 1` gives, and then the rescaling of what the chunks up to `c` gave. -/
theorem Inv.rescale {σ₀ σ τ υ : St Ideal} {w : Width Ideal} {c : ℕ} (hc : c < 16) (h : Inv σ₀ w512 c σ) (hτ : τ = { σ with s := τ.s })
    (hd : Done w (c + 1) (fun r => top (score σ₀ r) (512 * (c + 1))) (fun r j => score σ₀ r (512 * (c + 1) + j.val)) τ 16 υ) :
    Inv σ₀ w (c + 1) (rescaleF (weightedF c σ) υ) ∧ (rescaleF (weightedF c σ) υ).s = τ.s := by
  obtain ⟨hrest, hmn, -, hal, hp⟩ := hd
  simp only [top_chunk] at hmn hal hp
  obtain ⟨hsame, hacc, hs⟩ := agree (υ := υ) h.same τ.s υ.m υ.al υ.p (by rw [hrest, hτ])
  obtain ⟨e1, e2, e3, e4⟩ := rescaleF_rest (weightedF c σ) υ
  refine ⟨⟨e4 _ hsame, fun r l => ?_, fun r j => ?_, fun r l => ?_⟩, e3.trans hs⟩
  · rw [e1]; exact hmn r l (by omega)
  · rw [e2]; exact hp r j (by omega)
  · rw [rescaleF_acc _ _ r l _ fun l => hal r l (by omega), hacc, weighted_part σ₀ σ hc h]
    exact part_rescale _ _ le_rfl (top_mono _ (Nat.le_add_right _ _))

/-- One chunk: the softmax step of chunk `c + 1` and the rescaling of what the chunks up to `c` gave. -/
theorem Inv.step {σ₀ σ τ : St Ideal} {w : Width Ideal} (hw : w = w512 ∨ w = w256) {c : ℕ} (hc : c < 16) (h : Inv σ₀ w512 c σ) (hτ : τ = { σ with s := τ.s })
    (hs : Scored σ₀ w (c + 1) τ) :
    Inv σ₀ w (c + 1) (rescaleF (weightedF c σ) (softmaxF w (c + 1) τ)) ∧ (rescaleF (weightedF c σ) (softmaxF w (c + 1) τ)).s = τ.s := by
  have hm : ∀ r l, τ.m (ix2 r l) = top (score σ₀ r) (512 * (c + 1)) := by rw [hτ]; exact h.m
  exact h.rescale hc hτ (softmax_done hw hs hm)

/-- The first chunk. -/
theorem inv_zero (σ : St Ideal) : Inv σ w512 0 (softmaxF w512 0 (scoresF 1 (scoresF 0 (startF σ)))) ∧ Scored σ w512 1 (softmaxF w512 0 (scoresF 1 (scoresF 0 (startF σ)))) := by
  have hsame : Same σ (startF σ) := ⟨rfl, rfl, rfl, rfl, rfl⟩
  have h0 : Scored σ w512 0 (scoresF 1 (scoresF 0 (startF σ))) := scoresF_other _ _ _ (by decide) (scoresF_scored _ _ hsame (by omega))
  have h1 : Scored σ w512 1 (scoresF 1 (scoresF 0 (startF σ))) := scoresF_scored _ _ ⟨rfl, rfl, rfl, rfl, rfl⟩ (by omega)
  have hm : ∀ r l, (scoresF 1 (scoresF 0 (startF σ))).m (ix2 r l) = top (score σ r) (512 * 0) := fun r l =>
    (put2_in σ.m 0 _ r l r l (Nat.zero_add _).symm rfl).trans ofBits_bot
  have ha : ∀ r l, (scoresF 1 (scoresF 0 (startF σ))).acc (ix2 r l) = 0 := fun r l =>
    (put2_in σ.acc 0 _ r l r l (Nat.zero_add _).symm rfl).trans (Ideal.ofBits_zero .f32)
  have hd := softmax_done (.inl rfl) (f := fun r => top (score σ r) (512 * 0)) (S := fun r j => score σ r (512 * 0 + j.val)) h0 hm
  obtain ⟨hrest, hmn, -, -, hp⟩ := hd
  simp only [top_chunk] at hmn hp
  have hin : Same σ (scoresF 1 (scoresF 0 (startF σ))) := ⟨rfl, rfl, rfl, rfl, rfl⟩
  generalize scoresF 1 (scoresF 0 (startF σ)) = τ at *
  generalize softmaxF w512 0 τ = υ at *
  refine ⟨⟨?_, fun r l => hmn r l (by omega), fun r j => hp r j (by omega), fun r l => ?_⟩, fun r j => ?_⟩
  · rw [hrest]; exact ⟨hin.q, hin.k, hin.v, hin.kc, hin.vc⟩
  · rw [hrest]; exact (ha r l).trans (by simp [part])
  · rw [hrest]; exact h1 r j

/-- One latent chunk, with the scores of the chunk after it. -/
theorem chunk_inv {σ₀ σ : St Ideal} {c : ℕ} (hc : c < 14) (h : Inv σ₀ w512 c σ ∧ Scored σ₀ w512 (c + 1) σ) :
    Inv σ₀ w512 (c + 1) (chunkF c σ) ∧ Scored σ₀ w512 (c + 2) (chunkF c σ) := by
  have h2 := h.1.step (.inl rfl) (by omega) (τ := scoresF (c + 2) σ) rfl (scoresF_other _ _ _ (by omega) h.2)
  refine ⟨h2.1, fun r j => ?_⟩
  exact (congrFun h2.2 _).trans (scoresF_scored σ₀ σ h.1.same (c := c + 2) (by omega) r j)

/-- The last latent chunk. -/
theorem chunkLast_inv {σ υ : St Ideal} (h : Inv σ w512 14 υ ∧ Scored σ w512 15 υ) : Inv σ w512 15 (chunkLastF υ) ∧ Scored σ w256 16 (chunkLastF υ) := by
  have h15 := h.1.step (.inl rfl) (by omega) (τ := scoresCtxF υ) rfl (scoresCtxF_other _ _ _ (by decide) h.2)
  exact ⟨h15.1, fun r j => (congrFun h15.2 _).trans (scoresCtxF_scored σ υ h.1.same r j)⟩

/-- The context chunk. -/
theorem chunkCtx_inv {σ υ : St Ideal} (h : Inv σ w512 15 υ ∧ Scored σ w256 16 υ) : Inv σ w256 16 (chunkCtxF υ) :=
  (h.1.step (.inr rfl) (by omega) (τ := υ) rfl h.2).1

/-- The latent chunks but the last. -/
def sweepF (σ : St Ideal) (n : ℕ) : St Ideal := stepsF chunkF 0 n (softmaxF w512 0 (scoresF 1 (scoresF 0 (startF σ))))

theorem sweepF_succ (σ : St Ideal) (n : ℕ) : sweepF σ (n + 1) = chunkF n (sweepF σ n) := by
  unfold sweepF
  rw [stepsF_succ, Nat.zero_add]

theorem sweepF_zero (σ : St Ideal) : sweepF σ 0 = softmaxF w512 0 (scoresF 1 (scoresF 0 (startF σ))) := by
  unfold sweepF
  rw [stepsF]

theorem sweep_inv (σ : St Ideal) : ∀ n ≤ 14, Inv σ w512 n (sweepF σ n) ∧ Scored σ w512 (n + 1) (sweepF σ n) := by
  intro n
  induction n with
  | zero => intro _; rw [sweepF_zero]; exact inv_zero σ
  | succ n ih => intro hn; rw [sweepF_succ]; exact chunk_inv (by omega) (ih (by omega))

/-- The quotient for query row `r` and lane `l`: the weighted values by the sum of the weights. -/
def attend (σ : St Ideal) (r : Fin 512) (l : Fin 128) : EReal :=
  Ideal.div (part (score σ r) (fun n => row2 (C := 128) σ.v σ.vc n l) 8448 (top (score σ r) 8448))
    (part (score σ r) (fun _ => 1) 8448 (top (score σ r) 8448))

/-- The end: the quotient goes to the output block. -/
theorem finishF_out {σ ω : St Ideal} (h : Inv σ w256 16 ω) (r : Fin 512) (l : Fin 128) : (finishF ω).o (ix3 0 r l) = attend σ r l := by
  have hw := weighted_part_ctx σ ω h r
  have e1 : vlane σ ⟨l.val, by omega⟩ = fun n => row2 (C := 128) σ.v σ.vc n l := funext fun n => by
    unfold vlane lane; rw [dif_pos l.isLt]
  have e2 : vlane σ 128 = fun _ => 1 := funext fun n => by
    unfold vlane lane; rw [dif_neg (by decide)]; exact if_pos rfl
  refine (put3_in ω.o 0 0 _ r l 0 r l rfl (Nat.zero_add _).symm rfl).trans ?_
  refine (outOf_at _ _ r l).trans ?_
  rw [win2 ω.acc 0 _ r _ r ⟨l.val, by omega⟩ (Nat.zero_add _).symm rfl, win2 ω.acc 0 _ r _ r 128 (Nat.zero_add _).symm rfl]
  unfold attend
  refine congrArg₂ Ideal.div ((hw _).trans ?_) ((hw _).trans ?_)
  · rw [e1]
  · rw [e2]

theorem finishF_same {σ ω : St Ideal} (h : Same σ ω) : Same σ (finishF ω) := ⟨h.q, h.k, h.v, h.kc, h.vc⟩

theorem bodyF_sweep (σ : St Ideal) : bodyF σ = finishF (chunkCtxF (chunkLastF (sweepF σ 14))) := by
  unfold bodyF sweepF
  rfl

/-- What the body leaves in the output block, and that it leaves the input blocks as they were. -/
theorem bodyF_out (σ : St Ideal) : (∀ r l, (bodyF σ).o (ix3 0 r l) = attend σ r l) ∧ Same σ (bodyF σ) := by
  rw [bodyF_sweep]
  have h := chunkCtx_inv (chunkLast_inv (sweep_inv σ 14 le_rfl))
  exact ⟨finishF_out h, finishF_same h.same⟩

end Cert.Flash

end
-- ==== Proof.Flat.lean ====
/-
  The body once more, as one line of loads and stores: every part takes the program that comes after it.
-/
module

public import proofs.«01_k».proof.Proof.Steps

@[expose] public section

noncomputable section

namespace Cert.Flash

open Idealize.ShloMosaic Idealize.SL Idealize.SL.Sem

variable {F : FTy → Type} [FloatOps F]
variable {nD : Nat} {τ : Topo} {sig : RefSig} {Λ : Labels}

/-- A load of a window, and then `k` of it. -/
abbrev ldK {s : Shape} {e : EltTy} (M : Memref sig .tc .vmem s e) (off size : Fin s.rank → ℕ) (inb : ∀ a, off a + size a ≤ s.size a)
    (h : 0 < (Rect.unit off size inb).shape.numel) (k : ((Rect.unit off size inb).shape.Idx → Elt F e) → Prog (TpuEff nD τ sig (Elt F) Λ .tc) PUnit) : Prog (TpuEff nD τ sig (Elt F) Λ .tc) PUnit :=
  .op (.load M (Rect.unit off size inb).toLoadRect (View.loadsAt_vmem h)) k

/-- A store over a window, and then `k`. -/
abbrev stK {s : Shape} {e : EltTy} (M : Memref sig .tc .vmem s e) (off size : Fin s.rank → ℕ) (inb : ∀ a, off a + size a ≤ s.size a)
    (h : (M.access (Rect.unit off size inb)).Stores Finset.univ) (x : (Rect.unit off size inb).shape.Idx → Elt F e) (k : Prog (TpuEff nD τ sig (Elt F) Λ .tc) PUnit) : Prog (TpuEff nD τ sig (Elt F) Λ .tc) PUnit :=
  .op (.store M (Rect.unit off size inb) x Finset.univ h (.inl rfl)) fun _ => k

variable (R : Refs sig)

/-- One row group of the softmax step of chunk `c`, and then `k`. -/
def grpK (w : Width F) (c g : ℕ) (k : Prog (TpuEff nD τ sig (Elt F) Λ .tc) PUnit) : Prog (TpuEff nD τ sig (Elt F) Λ .tc) PUnit :=
  ldK R.s ![c % 3, 32 * (g % 16), 0] (Sh3 1 32 w.W).size (inb_s w.le c g) (pos_w w) fun s =>
  ldK R.m ![32 * (g % 16), 0] (Sh2 32 128).size (inb_m g) pos_m fun m =>
  ldK R.al ![32 * (g % 16), 0] (Sh2 32 128).size (inb_m g) pos_m fun _ =>
  stK R.al ![32 * (g % 16), 0] (Sh2 32 128).size (inb_m g) (View.stores_vmem_bits_univ pos_m rfl) (alNew w s m) <|
  ldK R.m ![32 * (g % 16), 0] (Sh2 32 128).size (inb_m g) pos_m fun _ =>
  stK R.m ![32 * (g % 16), 0] (Sh2 32 128).size (inb_m g) (View.stores_vmem_bits_univ pos_m rfl) (shapeCast (Sh2 32 128) (mNew w s m) (cast_self _)) <|
  ldK R.p ![c % 2, 32 * (g % 16), 0] (Sh3 1 32 w.W).size (inb_p w.le c g) (pos_w w) fun _ =>
  stK R.p ![c % 2, 32 * (g % 16), 0] (Sh3 1 32 w.W).size (inb_p w.le c g) (View.stores_vmem (pos_w w) (R.hp.storeExact_slice rfl _ (packed_p w.le c g)) (fun _ => rfl)) (pNew w s m) <| k

/-- `n` runs of a program with a counter, from `i` on, and then `k`. -/
def stepsK (f : ℕ → Prog (TpuEff nD τ sig (Elt F) Λ .tc) PUnit → Prog (TpuEff nD τ sig (Elt F) Λ .tc) PUnit) : ℕ → ℕ → Prog (TpuEff nD τ sig (Elt F) Λ .tc) PUnit → Prog (TpuEff nD τ sig (Elt F) Λ .tc) PUnit
  | _, 0, k => k
  | i, n + 1, k => f i (stepsK f (i + 1) n k)

/-- The softmax step of chunk `c`, and then `k`. -/
def softmaxK (w : Width F) (c : ℕ) (k : Prog (TpuEff nD τ sig (Elt F) Λ .tc) PUnit) : Prog (TpuEff nD τ sig (Elt F) Λ .tc) PUnit := stepsK (grpK R w c) 0 16 k

/-- The scores of latent chunk `c`, and then `k`. -/
def scoresK (c : ℕ) (k : Prog (TpuEff nD τ sig (Elt F) Λ .tc) PUnit) : Prog (TpuEff nD τ sig (Elt F) Λ .tc) PUnit :=
  ldK R.k ![0, 0, 512 * (c % 16), 0] (Sh4 1 1 512 192).size (inb_k c) (pos4 (by decide) (by decide)) fun kk =>
  ldK R.q ![0, 0, 0, 0] SQ.size (by decide) (pos4 (by decide) (by decide)) fun q =>
  ldK R.s ![c % 3, 0, 0] (Sh3 1 512 512).size (inb_sW (W := 512) (by decide) c) (pos_S (by decide)) fun _ =>
  stK R.s ![c % 3, 0, 0] (Sh3 1 512 512).size (inb_sW (W := 512) (by decide) c) (View.stores_vmem_bits_univ (pos_S (by decide)) rfl) (shapeCast (Sh3 1 512 512) (scoresOf 512 kk q) (cast_add 512 512)) <| k

/-- The scores of the context chunk, and then `k`. -/
def scoresCtxK (k : Prog (TpuEff nD τ sig (Elt F) Λ .tc) PUnit) : Prog (TpuEff nD τ sig (Elt F) Λ .tc) PUnit :=
  ldK R.kc ![0, 0, 0, 0] SKC.size (by decide) (pos4 (by decide) (by decide)) fun kk =>
  ldK R.q ![0, 0, 0, 0] SQ.size (by decide) (pos4 (by decide) (by decide)) fun q =>
  ldK R.s ![16 % 3, 0, 0] (Sh3 1 512 256).size (inb_sW (W := 256) (by decide) 16) (pos_S (by decide)) fun _ =>
  stK R.s ![16 % 3, 0, 0] (Sh3 1 512 256).size (inb_sW (W := 256) (by decide) 16) (View.stores_vmem_bits_univ (pos_S (by decide)) rfl) (shapeCast (Sh3 1 512 256) (scoresOf 256 kk q) (cast_add 512 256)) <| k

/-- The weighted values of latent chunk `c`, and then `k`. -/
def weightedK (c : ℕ) (k : FVec F SA .f32 → Prog (TpuEff nD τ sig (Elt F) Λ .tc) PUnit) : Prog (TpuEff nD τ sig (Elt F) Λ .tc) PUnit :=
  ldK R.v ![0, 0, 512 * (c % 16), 0] (Sh4 1 1 512 128).size (inb_v c) (pos4 (by decide) (by decide)) fun v =>
  ldK R.p ![c % 2, 0, 0] (Sh3 1 512 512).size (inb_pW (W := 512) (by decide) c) (pos_S (by decide)) fun p =>
  k (weightedOf 512 (by decide) (by decide) v p)

/-- The accumulator rescaled, with the last chunk's product, and then `k`. -/
def rescaleK (prod : FVec F SA .f32) (k : Prog (TpuEff nD τ sig (Elt F) Λ .tc) PUnit) : Prog (TpuEff nD τ sig (Elt F) Λ .tc) PUnit :=
  ldK R.al ![0, 0] SM.size (by decide) (numel2_pos (by decide) (by decide)) fun al =>
  ldK R.acc ![0, 0] SA.size (by decide) (numel2_pos (by decide) (by decide)) fun acc =>
  ldK R.acc ![0, 0] SA.size (by decide) (numel2_pos (by decide) (by decide)) fun _ =>
  stK R.acc ![0, 0] SA.size (by decide) (View.stores_vmem_bits_univ (numel2_pos (by decide) (by decide)) rfl) (accNew al acc prod) <| k

/-- Latent chunk `c + 1`, and then `k`. -/
def chunkK (c : ℕ) (k : Prog (TpuEff nD τ sig (Elt F) Λ .tc) PUnit) : Prog (TpuEff nD τ sig (Elt F) Λ .tc) PUnit :=
  weightedK R c fun prod => scoresK R (c + 2) (softmaxK R w512 (c + 1) (rescaleK R prod k))

/-- The start: the maxima at minus infinity, the sums at zero, and the scores of the first chunk, and then `k`. -/
def startK (k : Prog (TpuEff nD τ sig (Elt F) Λ .tc) PUnit) : Prog (TpuEff nD τ sig (Elt F) Λ .tc) PUnit :=
  ldK R.m ![0, 0] SM.size (by decide) (numel2_pos (by decide) (by decide)) fun _ =>
  stK R.m ![0, 0] SM.size (by decide) (View.stores_vmem_bits_univ (numel2_pos (by decide) (by decide)) rfl) (shapeCast SM (broadcast SM (Scalar.ofBits .f32 0xFF800000#32)) (cast_self _)) <|
  ldK R.acc ![0, 0] SA.size (by decide) (numel2_pos (by decide) (by decide)) fun _ =>
  stK R.acc ![0, 0] SA.size (by decide) (View.stores_vmem_bits_univ (numel2_pos (by decide) (by decide)) rfl) (shapeCast SA (broadcast SA (Scalar.ofBits .f32 0x00000000#32)) (cast_self _)) <| k

/-- The last latent chunk, and then `k`. -/
def chunkLastK (k : Prog (TpuEff nD τ sig (Elt F) Λ .tc) PUnit) : Prog (TpuEff nD τ sig (Elt F) Λ .tc) PUnit :=
  weightedK R 14 fun prod => scoresCtxK R (softmaxK R w512 15 (rescaleK R prod k))

/-- The context chunk, and then `k`. -/
def chunkCtxK (k : Prog (TpuEff nD τ sig (Elt F) Λ .tc) PUnit) : Prog (TpuEff nD τ sig (Elt F) Λ .tc) PUnit :=
  weightedK R 15 fun prod => softmaxK R w256 16 (rescaleK R prod k)

/-- The end: the last product and the quotient. -/
def finishK : Prog (TpuEff nD τ sig (Elt F) Λ .tc) PUnit :=
  ldK R.acc ![0, 0] SA.size (by decide) (numel2_pos (by decide) (by decide)) fun acc =>
  ldK R.vc ![0, 0, 0, 0] SVC.size (by decide) (pos4 (by decide) (by decide)) fun v =>
  ldK R.p ![16 % 2, 0, 0] (Sh3 1 512 256).size (inb_pW (W := 256) (by decide) 16) (pos_S (by decide)) fun p =>
  ldK R.o ![0, 0, 0] SO.size (by decide) (pos_S (by decide)) fun _ =>
  stK R.o ![0, 0, 0] SO.size (by decide) (View.stores_vmem (pos_S (by decide)) (R.ho.storeExact_slice rfl _ (by decide)) (fun _ => rfl)) (outOf acc (weightedOf 256 (by decide) (by decide) v p)) <| pure ⟨⟩

/-- The whole body in one line of loads and stores. -/
def bodyK : Prog (TpuEff nD τ sig (Elt F) Λ .tc) PUnit :=
  startK R (scoresK R 0 (scoresK R 1 (softmaxK R w512 0 (stepsK (chunkK R) 0 14 (chunkLastK R (chunkCtxK R (finishK R)))))))

/-! Each part in one line is the part and then the rest. -/

theorem grpK_eq (w : Width F) (c g : ℕ) (k : Prog (TpuEff nD τ sig (Elt F) Λ .tc) PUnit) : grpK R w c g k = grp R w c g >>= fun _ => k := rfl

theorem stepsK_eq {f : ℕ → Prog (TpuEff nD τ sig (Elt F) Λ .tc) PUnit} {fK : ℕ → Prog (TpuEff nD τ sig (Elt F) Λ .tc) PUnit → Prog (TpuEff nD τ sig (Elt F) Λ .tc) PUnit} (h : ∀ i k, fK i k = f i >>= fun _ => k) :
    ∀ (n i : ℕ) (k : Prog (TpuEff nD τ sig (Elt F) Λ .tc) PUnit), stepsK fK i n k = steps f i n >>= fun _ => k
  | 0, _, _ => rfl
  | n + 1, i, k => by
    rw [stepsK, steps, h, stepsK_eq h n, bind_assoc]

theorem softmaxK_eq (w : Width F) (c : ℕ) (k : Prog (TpuEff nD τ sig (Elt F) Λ .tc) PUnit) : softmaxK R w c k = softmax R w c >>= fun _ => k := stepsK_eq (grpK_eq R w c) 16 0 k

theorem scoresK_eq (c : ℕ) (k : Prog (TpuEff nD τ sig (Elt F) Λ .tc) PUnit) : scoresK R c k = scores R c >>= fun _ => k := rfl

theorem scoresCtxK_eq (k : Prog (TpuEff nD τ sig (Elt F) Λ .tc) PUnit) : scoresCtxK R k = scoresCtx R >>= fun _ => k := rfl

theorem weightedK_eq (c : ℕ) (k : FVec F SA .f32 → Prog (TpuEff nD τ sig (Elt F) Λ .tc) PUnit) : weightedK R c k = weighted R c >>= k := rfl

theorem rescaleK_eq (prod : FVec F SA .f32) (k : Prog (TpuEff nD τ sig (Elt F) Λ .tc) PUnit) : rescaleK R prod k = rescale R prod >>= fun _ => k := rfl

theorem startK_eq (k : Prog (TpuEff nD τ sig (Elt F) Λ .tc) PUnit) : startK R k = start R >>= fun _ => k := rfl

theorem finishK_eq : (finishK R : Prog (TpuEff nD τ sig (Elt F) Λ .tc) PUnit) = finish R := rfl

theorem chunkK_eq (c : ℕ) (k : Prog (TpuEff nD τ sig (Elt F) Λ .tc) PUnit) : chunkK R c k = chunk R c >>= fun _ => k := by
  unfold chunkK chunk
  simp only [weightedK_eq, scoresK_eq, softmaxK_eq, rescaleK_eq, bind_assoc]

theorem chunkLastK_eq (k : Prog (TpuEff nD τ sig (Elt F) Λ .tc) PUnit) : chunkLastK R k = chunkLast R >>= fun _ => k := by
  unfold chunkLastK chunkLast
  simp only [weightedK_eq, scoresCtxK_eq, softmaxK_eq, rescaleK_eq, bind_assoc]

theorem chunkCtxK_eq (k : Prog (TpuEff nD τ sig (Elt F) Λ .tc) PUnit) : chunkCtxK R k = chunkCtx R >>= fun _ => k := by
  unfold chunkCtxK chunkCtx
  simp only [weightedK_eq, softmaxK_eq, rescaleK_eq, bind_assoc]

/-- The body in one line is the body. -/
theorem bodyK_eq : (bodyK R : Prog (TpuEff nD τ sig (Elt F) Λ .tc) PUnit) = body R := by
  unfold bodyK body
  simp only [startK_eq, scoresK_eq, softmaxK_eq, stepsK_eq (chunkK_eq R), chunkLastK_eq, chunkCtxK_eq, finishK_eq]

end Cert.Flash

end
-- ==== Proof.Same.lean ====
/-
  The printed body is the body written in parts.
-/
module

public import proofs.«01_k».proof.Proof.Flat
public import proofs.«01_k».proof.Proof.Gen.KernelIdeal

@[expose] public section

noncomputable section

namespace Cert.Flash

open Idealize.ShloMosaic Idealize.SL.Sem Cert.KernelIdeal Cert.KernelIdeal.Gen

variable {F : FTy → Type} [FloatOps F]

set_option maxRecDepth 1000000 in
set_option maxHeartbeats 0 in
/-- The printed body is the same line of loads and stores. -/
theorem cc0_eq_bodyK (i : grid0.Coords) (arg3 : Memref sig .tc .vmem S1x1x512x192 .bf16) (harg3 : arg3.IsWhole) (arg4 : Memref sig .tc .vmem S1x1x8192x192 .bf16) (harg4 : arg4.IsWhole) (arg5 : Memref sig .tc .vmem S1x1x8192x128 .bf16) (harg5 : arg5.IsWhole) (arg6 : Memref sig .tc .vmem S1x1x256x192 .bf16) (harg6 : arg6.IsWhole) (arg7 : Memref sig .tc .vmem S1x1x256x128 .bf16) (harg7 : arg7.IsWhole) (arg8 : Memref sig .tc .vmem S1x512x128 .bf16) (harg8 : arg8.IsWhole) (arg9 : Memref sig .tc .vmem S3x512x512 .f32) (harg9 : arg9.IsWhole) (arg10 : Memref sig .tc .vmem S2x512x512 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) :
   cc0_mla_flash_attention (F := F) i arg3 harg3 arg4 harg4 arg5 harg5 arg6 harg6 arg7 harg7 arg8 harg8 arg9 harg9 arg10 harg10 arg11 harg11 arg12 harg12 arg13 harg13
    = bodyK ⟨arg3, arg4, arg5, arg6, arg7, arg8, arg9, arg10, arg11, arg12, arg13, harg8, harg10⟩ := rfl

/-- The printed body is the body in parts. -/
theorem cc0_eq_body (i : grid0.Coords) (arg3 : Memref sig .tc .vmem S1x1x512x192 .bf16) (harg3 : arg3.IsWhole) (arg4 : Memref sig .tc .vmem S1x1x8192x192 .bf16) (harg4 : arg4.IsWhole) (arg5 : Memref sig .tc .vmem S1x1x8192x128 .bf16) (harg5 : arg5.IsWhole) (arg6 : Memref sig .tc .vmem S1x1x256x192 .bf16) (harg6 : arg6.IsWhole) (arg7 : Memref sig .tc .vmem S1x1x256x128 .bf16) (harg7 : arg7.IsWhole) (arg8 : Memref sig .tc .vmem S1x512x128 .bf16) (harg8 : arg8.IsWhole) (arg9 : Memref sig .tc .vmem S3x512x512 .f32) (harg9 : arg9.IsWhole) (arg10 : Memref sig .tc .vmem S2x512x512 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x256 .f32) (harg13 : arg13.IsWhole) :
   cc0_mla_flash_attention (F := F) i arg3 harg3 arg4 harg4 arg5 harg5 arg6 harg6 arg7 harg7 arg8 harg8 arg9 harg9 arg10 harg10 arg11 harg11 arg12 harg12 arg13 harg13
    = body ⟨arg3, arg4, arg5, arg6, arg7, arg8, arg9, arg10, arg11, arg12, arg13, harg8, harg10⟩ :=
  (cc0_eq_bodyK (F := F) i arg3 harg3 arg4 harg4 arg5 harg5 arg6 harg6 arg7 harg7 arg8 harg8 arg9 harg9 arg10 harg10 arg11 harg11 arg12 harg12 arg13 harg13).trans (bodyK_eq _)

end Cert.Flash

end
-- ==== Proof.AttendRun.lean ====
/-
  The run of the attention at the ideal values: the output block of every grid point is the quotient of the weighted
  values by the sum of the weights, whatever the scratch holds.
-/
module

public import proofs.«01_k».proof.Proof.Sweep
public import proofs.«01_k».proof.Proof.Same
public import proofs.«01_k».proof.Proof.Gen.KernelIdeal.Frame.Runs
public import Idealize.ShloMosaic.Lib.Claim

@[expose] public section

set_option maxRecDepth 16384

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The contents with these input blocks and nothing elsewhere. -/
def blocks (q : Vec Ideal SQ .bf16) (k : Vec Ideal SK .bf16) (v : Vec Ideal SV .bf16) (kc : Vec Ideal SKC .bf16) (vc : Vec Ideal SVC .bf16) : St Ideal :=
  ⟨q, k, v, kc, vc, fun _ => (0 : EReal), fun _ => (0 : EReal), fun _ => (0 : EReal), fun _ => (0 : EReal), fun _ => (0 : EReal), fun _ => (0 : EReal)⟩

/-- The output block of these input blocks. -/
def outBlock (q : Vec Ideal SQ .bf16) (k : Vec Ideal SK .bf16) (v : Vec Ideal SV .bf16) (kc : Vec Ideal SKC .bf16) (vc : Vec Ideal SVC .bf16) : Vec Ideal SO .bf16 :=
  fun y => attend (blocks q k v kc vc) (y 1) (y 2)

theorem bodyF_o (σ : St Ideal) : (bodyF σ).o = outBlock σ.q σ.k σ.v σ.kc σ.vc := by
  funext y
  have e : y = ix3 0 (y 1) (y 2) := by
    funext a
    fin_cases a
    · exact Subsingleton.elim (α := Fin 1) _ _
    · rfl
    · rfl
  exact (congrArg (bodyF σ).o e).trans ((bodyF_out σ).1 (y 1) (y 2))

/-- What the pipeline is shown to do: every input block stays, and the output block is `outBlock` of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_kc (c : Dev nD) (t : Fin cfg0.N) : (dats m 0 c).after 3 t = iblk m c 3 t := by dsimp only [dats]
theorem after_vc (c : Dev nD) (t : Fin cfg0.N) : (dats m 0 c).after 4 t = iblk m c 4 t := by dsimp only [dats]
theorem after_o (c : Dev nD) (t : Fin cfg0.N) :
    (dats m 0 c).after 5 t = outBlock (iblk m c 0 t) (iblk m c 1 t) (iblk m c 2 t) (iblk m c 3 t) (iblk m c 4 t) := by dsimp only [dats]

theorem before_q (c : Dev nD) (t : Fin cfg0.N) (d) : (dats m 0 c).before 0 t d = iblk m c 0 t := before0_0_of m (dats m 0 c) (A_eq m c 0) (after_q m c) t d
theorem before_k (c : Dev nD) (t : Fin cfg0.N) (d) : (dats m 0 c).before 1 t d = iblk m c 1 t := before0_1_of m (dats m 0 c) (A_eq m c 1) (after_k m c) t d
theorem before_v (c : Dev nD) (t : Fin cfg0.N) (d) : (dats m 0 c).before 2 t d = iblk m c 2 t := before0_2_of m (dats m 0 c) (A_eq m c 2) (after_v m c) t d
theorem before_kc (c : Dev nD) (t : Fin cfg0.N) (d) : (dats m 0 c).before 3 t d = iblk m c 3 t := before0_3_of m (dats m 0 c) (A_eq m c 3) (after_kc m c) t d
theorem before_vc (c : Dev nD) (t : Fin cfg0.N) (d) : (dats m 0 c).before 4 t d = iblk m c 4 t := before0_4_of m (dats m 0 c) (A_eq m c 4) (after_vc m c) t d

/-- The memrefs the body runs on at point `t`. -/
abbrev refs (t : Fin cfg0.N) : Refs sig :=
  ⟨ms0_0 t, ms0_1 t, ms0_2 t, ms0_3 t, ms0_4 t, ms0_5 t, scM0_0, scM0_1, scM0_2, scM0_3, scM0_4, hs0_5 t, Memref.isWhole_whole _⟩

theorem bodyAt_eq (t : Fin cfg0.N) : bodyAt0 (F := Ideal) t = body (refs t) := cc0_eq_body _ _ _ _ _ _ _ _ _ _ _ _ _ _ _ _ _ _ _ _ _ _ _

/-- Owning the body's memrefs at known inputs, and at anything elsewhere, the body leaves the inputs and `outBlock`. -/
theorem body_triple (c : Dev nD) (t : Fin cfg0.N) (σ : St Ideal) (K : PUnit → sProp 𝕄) :
    iprop(Own (refs t) c σ ∗ (∀ σ', ⌜Same σ σ' ∧ σ'.o = outBlock σ.q σ.k σ.v σ.kc σ.vc⌝ -∗ Own (refs t) c σ' -∗ K ⟨⟩))
      ⊢ wp frame (wpE (defs₀ (F := Ideal)) Variants.none (c : Thread nD τ) none) Set.univ (bodyAt0 t) K := by
  rw [bodyAt_eq]
  iintro ⟨H, Hk⟩
  iapply (runs_body (refs t) c Set.univ σ K)
  isplitl [H]
  · iexact H
  iintro H
  iapply Hk
  · ipureintro
    exact ⟨(bodyF_out σ).2, bodyF_o σ⟩
  iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_q, before_k, before_v, before_kc, before_vc]
  rw [show (dats m 0 c).Φ t.succ = (dats m 0 c).Φ t.castSucc from rfl,
    show (dats m 0 c).owesAt () t.succ = (dats m 0 c).owesAt () t.castSucc from rfl,
    after_q, after_k, after_v, after_kc, after_vc, after_o]
  rw [show (dats m 0 c).Φ t.castSucc = Pipeline.ΦA spec0 c from rfl, PhiA0_eq]
  generalize (dats m 0 c).owesAt () t.castSucc = Ow
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩⟩
  iapply (body_triple c t ⟨iblk m c 0 t, iblk m c 1 t, iblk m c 2 t, iblk m c 3 t, iblk m c 4 t, (dats m 0 c).before 5 t d5, s0, s1, s2, s3, s4⟩ _)
  isplitl [H0 H1 H2 H3 H4 H5 HS0 HS1 HS2 HS3 HS4]
  · unfold Own
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro %σ'
  iintro %h
  obtain ⟨hsame, hout⟩ := h
  unfold Own
  rw [hsame.q, hsame.k, hsame.v, hsame.kc, hsame.vc, hout]
  iintro ⟨H0, H1, H2, H3, H4, H5, HS0, HS1, HS2, HS3, HS4⟩
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body there. -/
theorem row_eq (t : Fin cfg0.N) : defs₀ (F := Ideal) .tc cfg0.body (cfg0.bodyArgs t (cfg0.slots t)) = bodyAt0 t := by
  unfold defs₀; rw [Defs.onTc_tc]

/-- The body's obligation at every point. -/
theorem obligation (c : Dev nD) : BodyObligation (dats m 0 c) (defs₀ (F := Ideal)) Variants.none () Set.univ := fun t => by
  rw [bigSep_W0, bigSep_W0, row_eq]
  exact triple_restated (sound_body m c t) rfl .rfl fun _ => .rfl

set_option backward.isDefEq.respectTransparency.types false in
/-- The program runs to the end, and every array of the pipeline is then what the proof data say. -/
theorem run_post : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The result array after the run, and the arguments as they were. -/
theorem run_out : θ_run defs (onTc (τ := τ) (main (F := Ideal))) ⟨m, fun _ => 0, ρ⟩ (fun r => ∀ c : Dev nD,
      r.2.mem ((c.tc : Thread nD τ).loc main_v6) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5,
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c)))⟩) (run_post m ρ)

end Cert.Flash

end
-- ==== Proof.Whole.lean ====
/-
  The attention's result array after the run, as one function of the arrays the pipeline finds.
-/
module

public import proofs.«01_k».proof.Proof.AttendRun
public import Idealize.ShloMosaic.Lib.Pipeline.ValueKit
public import Idealize.ShloMosaic.Lib.Pipeline.Covers
public import Idealize.ShloMosaic.Lib.Pointwise

@[expose] public section

set_option maxRecDepth 16384

noncomputable section

namespace Cert.Flash

open Idealize.ShloMosaic Idealize.ShloMosaic.TcCoe Idealize.ShloMosaic.Tactic
open Idealize.SL.Sem
open Idealize.ShloMosaic.Pipeline (Dat Cfg Window)
open Cert.KernelIdeal Cert.KernelIdeal.Gen

/-- Row `n` of the rows of both streams of one head, one after the other. -/
def rows {C : ℕ} (x : (⟨4, ![4, 4, 8192, C]⟩ : Shape).Idx → EReal) (y : (⟨4, ![4, 4, 256, C]⟩ : Shape).Idx → EReal) (b h : Fin 4) (n : ℕ) (d : Fin C) : EReal :=
  if i : n < 8192 then x (ix4 b h ⟨n, i⟩ d) else if i : n - 8192 < 256 then y (ix4 b h ⟨n - 8192, i⟩ d) else 0

/-- The score of query `n` and key `j` of one head. -/
def scoreAt (q k : Vec Ideal S4x4x8192x192 .bf16) (kc : Vec Ideal S4x4x256x192 .bf16) (b h : Fin 4) (n : Fin 8192) (j : ℕ) : EReal :=
  ∑ d : Fin 192, q (ix4 b h n d) * rows (C := 192) k kc b h j d

/-- The quotient of the weighted values by the sum of the weights, for one head, query and lane. -/
def attendAt (q k : Vec Ideal S4x4x8192x192 .bf16) (v : Vec Ideal S4x4x8192x128 .bf16) (kc : Vec Ideal S4x4x256x192 .bf16) (vc : Vec Ideal S4x4x256x128 .bf16)
    (b h : Fin 4) (n : Fin 8192) (l : Fin 128) : EReal :=
  Ideal.div (part (scoreAt q k kc b h n) (fun j => rows (C := 128) v vc b h j l) 8448 (top (scoreAt q k kc b h n) 8448))
    (part (scoreAt q k kc b h n) (fun _ => 1) 8448 (top (scoreAt q k kc b h n) 8448))

variable (m : (ℓ : Loc nD τ sig) → Buf (Elt Ideal) ℓ)

/-- The result array: the heads side by side. -/
def result (c : Dev nD) : Vec Ideal S4x8192x512 .bf16 := fun i =>
  attendAt (V m c main_v5) (V m c main_arg1) (V m c main_arg2) (V m c main_arg3) (V m c main_arg4) (i 0) ⟨(i 2).val / 128, Nat.div_lt_of_lt_mul (i 2).isLt⟩ (i 1)
    ⟨(i 2).val % 128, Nat.mod_lt _ (by decide)⟩

theorem index_q : ∀ t : Fin cfg0.N, win0_0.index t = ![(grid0.coords t 0).val, (grid0.coords t 1).val, (grid0.coords t 2).val, 0] := by decide +kernel
theorem index_k : ∀ t : Fin cfg0.N, win0_1.index t = ![(grid0.coords t 0).val, (grid0.coords t 1).val, 0, 0] := by decide +kernel
theorem index_v : ∀ t : Fin cfg0.N, win0_2.index t = ![(grid0.coords t 0).val, (grid0.coords t 1).val, 0, 0] := by decide +kernel
theorem index_kc : ∀ t : Fin cfg0.N, win0_3.index t = ![(grid0.coords t 0).val, (grid0.coords t 1).val, 0, 0] := by decide +kernel
theorem index_vc : ∀ t : Fin cfg0.N, win0_4.index t = ![(grid0.coords t 0).val, (grid0.coords t 1).val, 0, 0] := by decide +kernel
theorem index_o : ∀ t : Fin cfg0.N, win0_5.index t = ![(grid0.coords t 0).val, (grid0.coords t 2).val, (grid0.coords t 1).val] := by decide +kernel

/-- The block of queries at a point. -/
theorem iblk_q (c : Dev nD) (t : Fin cfg0.N) (r : Fin 512) (d : Fin 192) (n : Fin 8192) (hn : n.val = 512 * (grid0.coords t 2).val + r.val) :
    iblk m c 0 t (ix4 0 0 r d) = V m c main_v5 (ix4 (grid0.coords t 0) (grid0.coords t 1) n d) := by
  blk_ext [iblk, index_q t]

theorem iblk_k (c : Dev nD) (t : Fin cfg0.N) (n : Fin 8192) (d : Fin 192) :
    iblk m c 1 t (ix4 0 0 n d) = V m c main_arg1 (ix4 (grid0.coords t 0) (grid0.coords t 1) n d) := by
  blk_ext [iblk, index_k t]

theorem iblk_v (c : Dev nD) (t : Fin cfg0.N) (n : Fin 8192) (d : Fin 128) :
    iblk m c 2 t (ix4 0 0 n d) = V m c main_arg2 (ix4 (grid0.coords t 0) (grid0.coords t 1) n d) := by
  blk_ext [iblk, index_v t]

theorem iblk_kc (c : Dev nD) (t : Fin cfg0.N) (n : Fin 256) (d : Fin 192) :
    iblk m c 3 t (ix4 0 0 n d) = V m c main_arg3 (ix4 (grid0.coords t 0) (grid0.coords t 1) n d) := by
  blk_ext [iblk, index_kc t]

theorem iblk_vc (c : Dev nD) (t : Fin cfg0.N) (n : Fin 256) (d : Fin 128) :
    iblk m c 4 t (ix4 0 0 n d) = V m c main_arg4 (ix4 (grid0.coords t 0) (grid0.coords t 1) n d) := by
  blk_ext [iblk, index_vc t]

/-- The rows of a point's blocks are the head's rows. -/
theorem row2_blocks {C : ℕ} (x : (Sh4 1 1 8192 C).Idx → EReal) (y : (Sh4 1 1 256 C).Idx → EReal) (X : (⟨4, ![4, 4, 8192, C]⟩ : Shape).Idx → EReal)
    (Y : (⟨4, ![4, 4, 256, C]⟩ : Shape).Idx → EReal) (b h : Fin 4) (hx : ∀ n d, x (ix4 0 0 n d) = X (ix4 b h n d)) (hy : ∀ n d, y (ix4 0 0 n d) = Y (ix4 b h n d))
    (n : ℕ) (d : Fin C) : row2 x y n d = rows X Y b h n d := by
  unfold row2 rows
  split
  · exact hx _ _
  · split
    · exact hy _ _
    · rfl

/-- A point's output block, read at a row and a lane. -/
theorem outBlock_at (c : Dev nD) (t : Fin cfg0.N) (r : Fin 512) (l : Fin 128) (n : Fin 8192) (hn : n.val = 512 * (grid0.coords t 2).val + r.val) :
    outBlock (iblk m c 0 t) (iblk m c 1 t) (iblk m c 2 t) (iblk m c 3 t) (iblk m c 4 t) (ix3 0 r l)
      = attendAt (V m c main_v5) (V m c main_arg1) (V m c main_arg2) (V m c main_arg3) (V m c main_arg4) (grid0.coords t 0) (grid0.coords t 1) n l := by
  have hs : score (blocks (iblk m c 0 t) (iblk m c 1 t) (iblk m c 2 t) (iblk m c 3 t) (iblk m c 4 t)) r
      = scoreAt (V m c main_v5) (V m c main_arg1) (V m c main_arg3) (grid0.coords t 0) (grid0.coords t 1) n := funext fun j =>
    Finset.sum_congr rfl fun d _ => congrArg₂ (· * ·) (iblk_q m c t r d n hn)
      (row2_blocks (C := 192) (iblk m c 1 t) (iblk m c 3 t) _ _ _ _ (iblk_k m c t) (iblk_kc m c t) j d)
  have hv : (fun j => row2 (C := 128) (iblk m c 2 t) (iblk m c 4 t) j l) = fun j => rows (C := 128) (V m c main_arg2) (V m c main_arg4) (grid0.coords t 0) (grid0.coords t 1) j l :=
    funext fun j => row2_blocks (C := 128) (iblk m c 2 t) (iblk m c 4 t) _ _ _ _ (iblk_v m c t) (iblk_vc m c t) j l
  show attend (blocks (iblk m c 0 t) (iblk m c 1 t) (iblk m c 2 t) (iblk m c 3 t) (iblk m c 4 t)) r l = _
  unfold attend attendAt
  rw [hs]
  exact congrArg (fun f => Ideal.div (part _ f 8448 _) _) hv

/-- The output blocks fill the result array. -/
theorem covers_o : (cfg0.win 5).Covers := by decide +kernel

/-- Where an output block lies in the result array. -/
theorem emb_o (t : Fin cfg0.N) (y : (⟨3, ![1, 512, 128]⟩ : Shape).Idx) :
    (((win0_5.blk t).view.emb y) 0 : ℕ) = (grid0.coords t 0).val ∧ (((win0_5.blk t).view.emb y) 1 : ℕ) = 512 * (grid0.coords t 2).val + (y 1).val
      ∧ (((win0_5.blk t).view.emb y) 2 : ℕ) = 128 * (grid0.coords t 1).val + (y 2).val := by
  have b0 : (y 0).val < 1 := (y 0).isLt
  refine ⟨?_, ?_, ?_⟩
  · blk_simp [index_o t]
  · blk_simp [index_o t]
    omega
  · blk_simp [index_o t]
    omega

theorem idx_one (y : (⟨3, ![1, 512, 128]⟩ : Shape).Idx) : y = ix3 (0 : Fin 1) (y 1 : Fin 512) (y 2 : Fin 128) := by
  funext a
  fin_cases a
  · exact Subsingleton.elim (α := Fin 1) _ _
  · rfl
  · rfl

/-- The result at an index, by where its coordinates lie. -/
theorem result_at (c : Dev nD) (b h : Fin 4) (n : Fin 8192) (l : Fin 128) (i : (⟨3, ![4, 8192, 512]⟩ : Shape).Idx) (h0 : (i 0).val = b.val)
    (h1 : (i 1).val = n.val) (h2 : (i 2).val = 128 * h.val + l.val) :
    result m c i = attendAt (V m c main_v5) (V m c main_arg1) (V m c main_arg2) (V m c main_arg3) (V m c main_arg4) b h n l := by
  unfold result
  have e0 : (i 0 : Fin 4) = b := Fin.ext h0
  have e1 : (i 1 : Fin 8192) = n := Fin.ext h1
  have e2 : ∀ p, (⟨(i 2).val / 128, p⟩ : Fin 4) = h := fun p => Fin.ext (by show (i 2).val / 128 = h.val; omega)
  have e3 : ∀ p, (⟨(i 2).val % 128, p⟩ : Fin 128) = l := fun p => Fin.ext (by show (i 2).val % 128 = l.val; omega)
  exact congr (congr (congr (congrArg (attendAt _ _ _ _ _) e0) (e2 _)) e1) (e3 _)

/-- What a point leaves in its output block is the result there. -/
theorem outBlock_result (c : Dev nD) (t : Fin cfg0.N) (y : (⟨3, ![1, 512, 128]⟩ : Shape).Idx) :
    outBlock (iblk m c 0 t) (iblk m c 1 t) (iblk m c 2 t) (iblk m c 3 t) (iblk m c 4 t) y = result m c ((win0_5.blk t).view.emb y) := by
  have hh := emb_o t y
  refine (congrArg _ (idx_one y)).trans ((outBlock_at m c t (y 1) (y 2) _ hh.2.1).trans (result_at m c _ _ _ _ _ hh.1 rfl hh.2.2).symm)

/-- The result array after the run. -/
theorem arr_result (c : Dev nD) : (dats m 0 c).arrAt 5 cfg0.N = result m c := by
  refine (dats m 0 c).arrAt_eq_of_covers 5 _ covers_o fun t hf y => ?_
  blk_simp
  rw [after_o]
  exact outBlock_result m c t y

end Cert.Flash

end
-- ==== Proof.Plain.lean ====
/-
  The plain softmax attention, read at an index.
-/
module

public import proofs.«01_k».proof.Proof.Gen.ReferenceIdeal
public import Idealize.ShloMosaic.Lib.Pointwise
public import proofs.«01_k».proof.Proof.Reads

@[expose] public section

set_option maxRecDepth 16384

noncomputable section

namespace Cert.Plain

open Idealize.ShloMosaic Cert.ReferenceIdeal

open Cert.ReferenceIdeal.Gen Cert.ReferenceIdeal.Facts

variable [Cert.ReferenceIdeal.Facts]
/-- Row `n` of the rows of both streams, one after the other. -/
def rows {C : ℕ} (x : (⟨4, ![4, 4, 8192, C]⟩ : Shape).Idx → EReal) (y : (⟨4, ![4, 4, 256, C]⟩ : Shape).Idx → EReal) (b h : Fin 4) (n : ℕ) (d : Fin C) : EReal :=
  if i : n < 8192 then x (ix4 b h ⟨n, i⟩ d) else if i : n - 8192 < 256 then y (ix4 b h ⟨n - 8192, i⟩ d) else 0

/-- The scaled scores. -/
def scores (q k : FVec Ideal S4x4x8192x192 .bf16) (kc : FVec Ideal S4x4x256x192 .bf16) : FVec Ideal S4x4x8192x8448 .f32 :=
  mulf (Host.dotGeneral dot_S4x4x8192x192_S4x4x8448x192_S4x4x8192x8448_3_3_2_2_01_01 none q (concatenate S4x4x8448x192 2 [⟨S4x4x8192x192, k⟩, ⟨S4x4x256x192, kc⟩] concatenates_S4x4x8192x192_S4x4x256x192_S4x4x8448x192_d2)) (broadcastInDim S4x4x8192x8448 ![] bcast_S_S4x4x8192x8448 (constant S_ .f32 0x3D93CD3A#32))

/-- A row of both streams, by which stream it lies in. -/
theorem rows_fin {C : ℕ} (x : (⟨4, ![4, 4, 8192, C]⟩ : Shape).Idx → EReal) (y : (⟨4, ![4, 4, 256, C]⟩ : Shape).Idx → EReal) (b h : Fin 4) (j : Fin 8448) (d : Fin C) :
    rows x y b h j.val d = if i : j.val < 8192 then x (ix4 b h ⟨j.val, i⟩ d) else y (ix4 b h ⟨j.val - 8192, by omega⟩ d) := by
  unfold rows
  split
  · rfl
  · rw [dif_pos (by omega)]

theorem scores_at (q k : FVec Ideal S4x4x8192x192 .bf16) (kc : FVec Ideal S4x4x256x192 .bf16) (b h : Fin 4) (n : Fin 8192) (j : Fin 8448) :
    scores q k kc (ix4 b h n j) = (∑ d : Fin 192, q (ix4 b h n d) * rows (C := 192) k kc b h j.val d) * Ideal.ofBits .f32 0x3D93CD3A#32 := by
  simp only [rows_fin]
  pointwise [scores]

/-- The exponentials of the scores less their row's largest. -/
def weights (s : FVec Ideal S4x4x8192x8448 .f32) : FVec Ideal S4x4x8192x8448 .f32 :=
  Host.exp (subf s (broadcastInDim S4x4x8192x8448 ![0, 1, 2, 3] bcast_S4x4x8192x1_S4x4x8192x8448_0_1_2_3 (broadcastInDim S4x4x8192x1 ![0, 1, 2] bcast_S4x4x8192_S4x4x8192x1_0_1_2 (maximumf (broadcastInDim S4x4x8192 ![] bcast_S_S4x4x8192 (constant S_ .f32 0xFF800000#32)) (Host.reduce FloatOps.maximumf s (constant S_ .f32 0xFF800000#32) reducesTo_S4x4x8192x8448_S4x4x8192_d3 h_S_)))))

theorem fold_max_bot {n : ℕ} (f : Fin n → EReal) : Finset.fold max ⊥ f Finset.univ = Finset.univ.sup f := rfl

/-- The host's largest along the last axis, from −∞. -/
theorem reduce_max {a b c d : ℕ} (x : FVec Ideal ⟨4, ![a, b, c, d]⟩ .f32) (h : (⟨4, ![a, b, c, d]⟩ : Shape).ReducesTo [3] ⟨3, ![a, b, c]⟩) (i : Fin a) (j : Fin b) (k : Fin c) :
    Host.reduce FloatOps.maximumf x (constant S_ .f32 0xFF800000#32) h h_S_ (ix3 i j k) = Finset.univ.sup fun l : Fin d => x (ix4 i j k l) := by
  pointwise
  rw [Flash.ofBits_bot, fold_max_bot]

/-- The exponentials of the scores less a number for every row. -/
theorem exp_sub_at (s : FVec Ideal S4x4x8192x8448 .f32) (m : FVec Ideal S4x4x8192 .f32) (b h : Fin 4) (n : Fin 8192) (j : Fin 8448) :
    Host.exp (subf s (broadcastInDim S4x4x8192x8448 ![0, 1, 2, 3] bcast_S4x4x8192x1_S4x4x8192x8448_0_1_2_3 (broadcastInDim S4x4x8192x1 ![0, 1, 2] bcast_S4x4x8192_S4x4x8192x1_0_1_2 (maximumf (broadcastInDim S4x4x8192 ![] bcast_S_S4x4x8192 (constant S_ .f32 0xFF800000#32)) m)))) (ix4 b h n j)
      = Ideal.exp (s (ix4 b h n j) - m (ix3 b h n)) := by
  pointwise
  rw [Flash.ofBits_bot, max_eq_right bot_le]

theorem weights_at (s : FVec Ideal S4x4x8192x8448 .f32) (b h : Fin 4) (n : Fin 8192) (j : Fin 8448) :
    weights s (ix4 b h n j) = Ideal.exp (s (ix4 b h n j) - Finset.univ.sup fun i : Fin 8448 => s (ix4 b h n i)) :=
  (exp_sub_at s _ b h n j).trans (congrArg (fun z => Ideal.exp (s (ix4 b h n j) - z)) (reduce_max s _ b h n))

/-- The weights divided by their row's sum. -/
def shares (w : FVec Ideal S4x4x8192x8448 .f32) : FVec Ideal S4x4x8192x8448 .f32 :=
  Host.divf w (broadcastInDim S4x4x8192x8448 ![0, 1, 2, 3] bcast_S4x4x8192x1_S4x4x8192x8448_0_1_2_3 (broadcastInDim S4x4x8192x1 ![0, 1, 2] bcast_S4x4x8192_S4x4x8192x1_0_1_2 (Host.reduceAdd w (constant S_ .f32 0x00000000#32) reducesTo_S4x4x8192x8448_S4x4x8192_d3 h_S_)))

theorem shares_at (w : FVec Ideal S4x4x8192x8448 .f32) (b h : Fin 4) (n : Fin 8192) (j : Fin 8448) :
    shares w (ix4 b h n j) = Ideal.div (w (ix4 b h n j)) (∑ i : Fin 8448, w (ix4 b h n i)) := by
  pointwise [shares]

/-- The values averaged by the shares, heads side by side. -/
def output (p : FVec Ideal S4x4x8192x8448 .f32) (v : FVec Ideal S4x4x8192x128 .bf16) (vc : FVec Ideal S4x4x256x128 .bf16) : FVec Ideal S4x8192x512 .bf16 :=
  shapeCast _ (truncf .bf16 (transpose S4x8192x4x128 [0, 3, 1, 2] (Host.dotGeneral dot_S4x4x8448x128_S4x4x8192x8448_S4x4x128x8192_2_3_3_2_01_01 none (concatenate S4x4x8448x128 2 [⟨S4x4x8192x128, v⟩, ⟨S4x4x256x128, vc⟩] concatenates_S4x4x8192x128_S4x4x256x128_S4x4x8448x128_d2) (truncf .bf16 p bitsLt_bf16_f32)) transposes_S4x4x128x8192_S4x8192x4x128_0_3_1_2) bitsLt_bf16_f32) shapeCasts_S4x8192x4x128_S4x8192x512

theorem output_at (p : FVec Ideal S4x4x8192x8448 .f32) (v : FVec Ideal S4x4x8192x128 .bf16) (vc : FVec Ideal S4x4x256x128 .bf16) (b : Fin 4) (n : Fin 8192) (x : Fin 512) :
    output p v vc (ix3 b n x) = ∑ j : Fin 8448, rows (C := 128) v vc b ⟨x.val / 128, by omega⟩ j.val ⟨x.val % 128, by omega⟩ * p (ix4 b ⟨x.val / 128, by omega⟩ n j) := by
  simp only [rows_fin]
  pointwise [output]

end Cert.Plain

end
-- ==== Proof.Equal.lean ====
/-
  The attention's result array is the plain softmax attention of the arguments.
-/
module

public import proofs.«01_k».proof.Proof.Whole
public import proofs.«01_k».proof.Proof.Plain
public import proofs.«01_k».proof.Proof.Online
public import Idealize.ShloMosaic.Lib.Claim

@[expose] public section

set_option maxRecDepth 16384

noncomputable section

namespace Cert.Flash

open Idealize.ShloMosaic Idealize.ShloMosaic.TcCoe Idealize.ShloMosaic.Tactic
open Idealize.SL.Sem
open Cert.KernelIdeal Cert.KernelIdeal.Gen

/-- The two constants of the scale stand for a positive real number and for two. -/
theorem scale_pos : ∃ c : ℝ, 0 < c ∧ Ideal.ofBits .f32 0x3D93CD3A#32 = ((c : ℝ) : EReal) := by
  refine ⟨_, ?_, by simp [Ideal.ofBits, Ideal.ieee]; rfl⟩
  positivity

theorem two_f32 : Ideal.ofBits .f32 0x40000000#32 = ((2 : ℝ) : EReal) := by
  simp [Ideal.ofBits, Ideal.ieee]
  rw [← EReal.coe_mul]
  norm_num

/-- The factor that the queries are multiplied by. -/
theorem factor {c : ℝ} (hc : Ideal.ofBits .f32 0x3D93CD3A#32 = ((c : ℝ) : EReal)) :
    Ideal.div (Ideal.ofBits .f32 0x3D93CD3A#32) (Ideal.log (Ideal.ofBits .f32 0x40000000#32)) = ((c / Real.log 2 : ℝ) : EReal) := by
  have hl : Real.log 2 ≠ 0 := (Real.log_pos (by norm_num)).ne'
  have h2 : Ideal.log ((2 : ℝ) : EReal) = ((Real.log 2 : ℝ) : EReal) := by
    show (if (2 : ℝ) ≤ 0 then (⊥ : EReal) else _) = _
    rw [if_neg (by norm_num)]
  rw [hc, two_f32, h2, Ideal.div_coe hl, ← EReal.coe_mul, mul_one_div]

variable (m : (ℓ : Loc nD τ sig) → Buf (Elt Ideal) ℓ)

/-- The queries the pipeline finds: the arguments' times the factor. -/
theorem queries (c : Dev nD) (q : FVec Ideal S4x4x8192x192 .bf16) (hq : m ((c : Thread nD τ).loc main_arg0) = q) (b h : Fin 4) (n : Fin 8192) (d : Fin 192) :
    V m c main_v5 (ix4 b h n d) = q (ix4 b h n d) * Ideal.div (Ideal.ofBits .f32 0x3D93CD3A#32) (Ideal.log (Ideal.ofBits .f32 0x40000000#32)) := by
  subst hq
  entry_read
  pointwise

/-- An extended real whose absolute value is less than infinity is a real number. -/
theorem real_of_abs {x : EReal} (h : max x (-x) < ⊤) : ∃ r : ℝ, x = (r : EReal) := by
  induction x with
  | bot => exact absurd h (by simp)
  | top => exact absurd h (by simp)
  | coe r => exact ⟨r, rfl⟩

/-- Rows of real numbers. -/
theorem rows_real {C : ℕ} {x : (⟨4, ![4, 4, 8192, C]⟩ : Shape).Idx → EReal} {y : (⟨4, ![4, 4, 256, C]⟩ : Shape).Idx → EReal}
    (hx : ∀ i, ∃ r : ℝ, x i = r) (hy : ∀ i, ∃ r : ℝ, y i = r) (b h : Fin 4) (n : ℕ) (d : Fin C) : ∃ r : ℝ, rows x y b h n d = r := by
  unfold rows
  split
  · exact hx _
  · split
    · exact hy _
    · exact ⟨0, rfl⟩

theorem coe_sum {n : ℕ} (x : Fin n → ℝ) : ((∑ d, x d : ℝ) : EReal) = ∑ d, (x d : EReal) :=
  map_sum (⟨⟨Real.toEReal, rfl⟩, EReal.coe_add⟩ : ℝ →+ EReal) x Finset.univ

/-- A scaled sum of products of reals. -/
theorem sum_scaled {n : ℕ} (x y : Fin n → ℝ) (c : ℝ) : ∑ d, (x d : EReal) * (c : EReal) * (y d : EReal) = (((∑ d, x d * y d) * c : ℝ) : EReal) := by
  rw [Finset.sum_mul, coe_sum]
  refine Finset.sum_congr rfl fun d _ => ?_
  rw [← EReal.coe_mul, ← EReal.coe_mul]
  exact congrArg _ (by ring)

/-- A sum of products of reals, scaled. -/
theorem scaled_sum {n : ℕ} (x y : Fin n → ℝ) (c : ℝ) : (∑ d, (x d : EReal) * (y d : EReal)) * (c : EReal) = (((∑ d, x d * y d) * c : ℝ) : EReal) := by
  rw [EReal.coe_mul, coe_sum]
  exact congrArg (· * (c : EReal)) (Finset.sum_congr rfl fun d _ => (EReal.coe_mul _ _).symm)

/-- The plain attention of one head, query and lane, from its scaled scores. -/
theorem plain_at [Cert.ReferenceIdeal.Facts] (q k : FVec Ideal Cert.ReferenceIdeal.S4x4x8192x192 .bf16) (v : FVec Ideal Cert.ReferenceIdeal.S4x4x8192x128 .bf16)
    (kc : FVec Ideal Cert.ReferenceIdeal.S4x4x256x192 .bf16) (vc : FVec Ideal Cert.ReferenceIdeal.S4x4x256x128 .bf16) (b : Fin 4) (n : Fin 8192) (x : Fin 512)
    (s : ℕ → EReal) (h : Fin 4) (hh : h.val = x.val / 128) (l : Fin 128) (hl : l.val = x.val % 128)
    (hs : ∀ j : Fin 8448, Plain.scores q k kc (ix4 b h n j) = s j.val) :
    Plain.output (Plain.shares (Plain.weights (Plain.scores q k kc))) v vc (ix3 b n x)
      = ∑ i ∈ Finset.range 8448, rows (C := 128) v vc b h i l * Ideal.div (Ideal.exp (s i - top s 8448)) (∑ k ∈ Finset.range 8448, Ideal.exp (s k - top s 8448)) := by
  have hw : ∀ j : Fin 8448, Plain.weights (Plain.scores q k kc) (ix4 b h n j) = Ideal.exp (s j.val - top s 8448) := fun j => by
    rw [Plain.weights_at, hs]
    simp only [hs]
    rw [sup_fin]
    rfl
  have eh : (⟨x.val / 128, by omega⟩ : Fin 4) = h := Fin.ext hh.symm
  have el : (⟨x.val % 128, by omega⟩ : Fin 128) = l := Fin.ext hl.symm
  rw [Plain.output_at, Finset.sum_range]
  refine Finset.sum_congr rfl fun j _ => ?_
  rw [eh, el, Plain.shares_at, hw]
  simp only [hw]
  rw [Finset.sum_range]
  rfl

/-- For finite queries and keys the base-two quotient of one head, query and lane is the plain attention there. -/
theorem attend_eq [Cert.ReferenceIdeal.Facts] (Q q k : FVec Ideal S4x4x8192x192 .bf16) (v : FVec Ideal S4x4x8192x128 .bf16)
    (kc : FVec Ideal S4x4x256x192 .bf16) (vc : FVec Ideal S4x4x256x128 .bf16) (hq : ∀ i, ∃ r : ℝ, q i = r) (hk : ∀ i, ∃ r : ℝ, k i = r) (hkc : ∀ i, ∃ r : ℝ, kc i = r)
    (hQ : ∀ b h n d, Q (ix4 b h n d) = q (ix4 b h n d) * Ideal.div (Ideal.ofBits .f32 0x3D93CD3A#32) (Ideal.log (Ideal.ofBits .f32 0x40000000#32)))
    (b : Fin 4) (n : Fin 8192) (x : Fin 512) (h : Fin 4) (hh : h.val = x.val / 128) (l : Fin 128) (hl : l.val = x.val % 128) :
    attendAt Q k v kc vc b h n l = Plain.output (Plain.shares (Plain.weights (Plain.scores q k kc))) v vc (ix3 b n x) := by
  obtain ⟨c, hc, ec⟩ := scale_pos
  choose qr eq using fun d : Fin 192 => hq (ix4 b h n d)
  choose kr ek using fun (j : ℕ) (d : Fin 192) => rows_real (C := 192) hk hkc b h j d
  have e1 : scoreAt Q k kc b h n = fun j => (((∑ d, qr d * kr j d) * (c / Real.log 2) : ℝ) : EReal) := funext fun j => by
    unfold scoreAt
    simp only [hQ, factor ec, eq, ek]
    exact sum_scaled qr (kr j) _
  have e2 : ∀ j : Fin 8448, Plain.scores q k kc (ix4 b h n j) = (((∑ d, qr d * kr j.val d) * c : ℝ) : EReal) := fun j => by
    rw [Plain.scores_at, ec]
    refine Eq.trans ?_ (scaled_sum qr (kr j.val) c)
    exact congrArg (· * (c : EReal)) (Finset.sum_congr rfl fun d _ => congrArg₂ (· * ·) (eq d) (ek j.val d))
  rw [plain_at q k v kc vc b n x (fun j => (((∑ d, qr d * kr j d) * c : ℝ) : EReal)) h hh l hl e2]
  unfold attendAt
  rw [e1]
  exact softmax_eq (fun j => ∑ d, qr d * kr j d) (fun j => rows (C := 128) v vc b h j l) (by decide) hc

/-- For finite queries and keys the result array is the plain attention of the arguments. -/
theorem result_eq [Cert.ReferenceIdeal.Facts] (c : Dev nD) (q k : FVec Ideal S4x4x8192x192 .bf16) (v : FVec Ideal S4x4x8192x128 .bf16)
    (kc : FVec Ideal S4x4x256x192 .bf16) (vc : FVec Ideal S4x4x256x128 .bf16) (h0 : m ((c : Thread nD τ).loc main_arg0) = q) (h1 : m ((c : Thread nD τ).loc main_arg1) = k)
    (h2 : m ((c : Thread nD τ).loc main_arg2) = v) (h3 : m ((c : Thread nD τ).loc main_arg3) = kc) (h4 : m ((c : Thread nD τ).loc main_arg4) = vc)
    (hq : ∀ i, ∃ r : ℝ, q i = r) (hk : ∀ i, ∃ r : ℝ, k i = r) (hkc : ∀ i, ∃ r : ℝ, kc i = r) :
    result m c = Plain.output (Plain.shares (Plain.weights (Plain.scores q k kc))) v vc := by
  funext i
  have e : i = ix3 (i 0 : Fin 4) (i 1 : Fin 8192) (i 2 : Fin 512) := by
    funext a
    fin_cases a <;> rfl
  refine Eq.trans ?_ (congrArg _ e.symm)
  unfold result
  rw [(V_main_arg1 m c).trans h1, (V_main_arg2 m c).trans h2, (V_main_arg3 m c).trans h3, (V_main_arg4 m c).trans h4]
  exact attend_eq _ q k v kc vc hq hk hkc (queries m c q h0) _ _ _ _ rfl _ rfl

end Cert.Flash

end
-- ==== Proof.Finite.lean ====
/-
  What the precondition says: the queries and the keys are real numbers.
-/
module

public import proofs.«01_k».proof.Defs
public import proofs.«01_k».proof.Proof.Equal
public import Idealize.ShloMosaic.Lib.Pointwise

@[expose] public section

set_option maxRecDepth 16384

noncomputable section

namespace Cert.Finite

open Idealize.ShloMosaic Cert.Pre_finite

/-- The side conditions of the precondition. -/
instance facts : Cert.Pre_finite.Facts := ⟨by decide, by decide, by decide⟩

theorem ofBits_inf : Ideal.ofBits .f32 0x7F800000#32 = (⊤ : EReal) := by
  unfold Ideal.ofBits; simp [Ideal.ieee]

/-- The comparison with infinity, read at an index. -/
theorem real_of_one {s : Shape} (x : FVec Ideal s .bf16) (hb : S_.BroadcastsInDim s (![] : Fin 0 → Fin s.rank)) (hw : FTy.bits .bf16 < FTy.bits .f32)
    (h : cmpf .olt (Host.absf (extf .f32 x hw)) (broadcastInDim s ![] hb (constant S_ .f32 0x7F800000#32)) = fun _ => 1#1) (i : s.Idx) : ∃ r : ℝ, x i = (r : EReal) := by
  have hi : Ideal.cmp .olt (max (x i) (-x i)) (Ideal.ofBits .f32 0x7F800000#32) = 1#1 := congrFun h i
  rw [ofBits_inf] at hi
  refine Flash.real_of_abs ?_
  by_contra hn
  simp [Ideal.cmp, hn] at hi

variable [Cert.Pre_finite.Facts] (q k : FVec Ideal S4x4x8192x192 .bf16) (v : FVec Ideal S4x4x8192x128 .bf16) (kc : FVec Ideal S4x4x256x192 .bf16) (vc : FVec Ideal S4x4x256x128 .bf16)
  (h : (fn q k v kc vc).1 = (fun _ => 1#1) ∧ (fn q k v kc vc).2.1 = (fun _ => 1#1) ∧ (fn q k v kc vc).2.2 = (fun _ => 1#1))

include h

theorem queries (i : S4x4x8192x192.Idx) : ∃ r : ℝ, q i = (r : EReal) := real_of_one q _ _ h.1 i
theorem keys (i : S4x4x8192x192.Idx) : ∃ r : ℝ, k i = (r : EReal) := real_of_one k _ _ h.2.1 i
theorem conds (i : S4x4x256x192.Idx) : ∃ r : ℝ, kc i = (r : EReal) := real_of_one kc _ _ h.2.2 i

end Cert.Finite

end
-- ==== Proof.ExpertsCast.lean ====
/-
  The experts' kernel, first part: the two loops that cast an expert's weights, 128 rows at a time, into the scratch.
-/
module

public import proofs.«01_k».proof.Proof.Runs
public import proofs.«01_k».proof.Proof.Gen.Kernel2Ideal.Skeleton
public import Idealize.ShloMosaic.Lib.Pointwise
public import Idealize.ShloMosaic.Lib.VecWindow

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Cert.Flash (ld st wp_ld wp_st)

variable {F : FTy → Type} [FloatOps F]

local notation "𝕄" => MT nD τ sig Unit (Elt F) ℕ (UR sig nD τ) ℕ

theorem trips1 : k0_t1_loop.trips = 8 := by decide
theorem trips2 : k0_t2_loop.trips = 8 := by decide

/-- The block of 128 rows a row lies in, as a trip of the first loop. -/
def tripOf1 (r : Fin 1024) : Fin k0_t1_loop.trips := ⟨r.val / 128, by rw [trips1]; omega⟩
/-- The same for the second loop. -/
def tripOf2 (r : Fin 1024) : Fin k0_t2_loop.trips := ⟨r.val / 128, by rw [trips2]; omega⟩

theorem off4_eq : ∀ t : Fin k0_t1_loop.trips, k0_off4 t = ![128 * t.val, 0] := by decide
theorem off6_eq : ∀ t : Fin k0_t2_loop.trips, k0_off6 t = ![128 * t.val, 0] := by decide

/-- What a trip of loop 1 stores. -/
def castAt1 (w : Vec F S1x1024x2048 .f32) (t : Fin k0_t1_loop.trips) : Vec F S128x2048 .bf16 :=
  k0_pay1 (VecWindow.window w (k0_off3 t) S1x128x2048.size (k0_off3_inb t))

/-- The scratch of the first weights: each row as the loop's trip of its block casts it. -/
def cast1 (w : Vec F S1x1024x2048 .f32) : Vec F S1024x2048 .bf16 := fun y =>
  castAt1 w (tripOf1 (y 0)) (ix2 ⟨(y 0).val % 128, Nat.mod_lt _ (by decide)⟩ (y 1))

/-- What a trip of loop 2 stores. -/
def castAt2 (w : Vec F S1x1024x1024 .f32) (t : Fin k0_t2_loop.trips) : Vec F S128x1024 .bf16 :=
  k0_pay2 (VecWindow.window w (k0_off5 t) S1x128x1024.size (k0_off5_inb t))

/-- The scratch of the second weights. -/
def cast2 (w : Vec F S1x1024x1024 .f32) : Vec F S1024x1024 .bf16 := fun y =>
  castAt2 w (tripOf2 (y 0)) (ix2 ⟨(y 0).val % 128, Nat.mod_lt _ (by decide)⟩ (y 1))

/-- One more block of rows put: the rows below its end hold the cast. -/
theorem cast1_step (w : Vec F S1x1024x2048 .f32) (f : Vec F S1024x2048 .bf16) (t : Fin k0_t1_loop.trips)
    (h : ∀ y, (y 0).val < 128 * t.val → f y = cast1 w y) (y : S1024x2048.Idx) (hy : (y 0).val < 128 * (t.val + 1)) :
    VecWindow.put f (k0_off4 t) S128x2048.size (k0_pay1 (VecWindow.window w (k0_off3 t) S1x128x2048.size (k0_off3_inb t))) y = cast1 w y := by
  have e0 : k0_off4 t 0 = 128 * t.val := by rw [off4_eq]; rfl
  have e1 : k0_off4 t 1 = 0 := by rw [off4_eq]; rfl
  unfold VecWindow.put
  split
  · next hin =>
    have h0 := hin 0
    rw [e0] at h0
    have ht : tripOf1 (y 0) = t := Fin.ext (by show (y 0).val / 128 = t.val; omega)
    refine congrArg₂ (castAt1 w) ht.symm (funext fun a => ?_)
    fin_cases a
    · refine Fin.ext ?_
      show (y 0).val - k0_off4 t 0 = (y 0).val % 128
      rw [e0]
      omega
    · refine Fin.ext ?_
      show (y 1).val - k0_off4 t 1 = (y 1).val
      rw [e1]; rfl
  · next hout =>
    refine h y ?_
    by_contra hlt
    refine hout fun a => ?_
    fin_cases a
    · show k0_off4 t 0 ≤ (y 0).val ∧ (y 0).val < k0_off4 t 0 + 128
      rw [e0]; omega
    · have h1 : (y 1).val < 2048 := (y 1).isLt
      show k0_off4 t 1 ≤ (y 1).val ∧ (y 1).val < k0_off4 t 1 + 2048
      rw [e1]; omega

/-- The same for the second loop. -/
theorem cast2_step (w : Vec F S1x1024x1024 .f32) (f : Vec F S1024x1024 .bf16) (t : Fin k0_t2_loop.trips)
    (h : ∀ y, (y 0).val < 128 * t.val → f y = cast2 w y) (y : S1024x1024.Idx) (hy : (y 0).val < 128 * (t.val + 1)) :
    VecWindow.put f (k0_off6 t) S128x1024.size (k0_pay2 (VecWindow.window w (k0_off5 t) S1x128x1024.size (k0_off5_inb t))) y = cast2 w y := by
  have e0 : k0_off6 t 0 = 128 * t.val := by rw [off6_eq]; rfl
  have e1 : k0_off6 t 1 = 0 := by rw [off6_eq]; rfl
  unfold VecWindow.put
  split
  · next hin =>
    have h0 := hin 0
    rw [e0] at h0
    have ht : tripOf2 (y 0) = t := Fin.ext (by show (y 0).val / 128 = t.val; omega)
    refine congrArg₂ (castAt2 w) ht.symm (funext fun a => ?_)
    fin_cases a
    · refine Fin.ext ?_
      show (y 0).val - k0_off6 t 0 = (y 0).val % 128
      rw [e0]
      omega
    · refine Fin.ext ?_
      show (y 1).val - k0_off6 t 1 = (y 1).val
      rw [e1]; rfl
  · next hout =>
    refine h y ?_
    by_contra hlt
    refine hout fun a => ?_
    fin_cases a
    · show k0_off6 t 0 ≤ (y 0).val ∧ (y 0).val < k0_off6 t 0 + 128
      rw [e0]; omega
    · have h1 : (y 1).val < 1024 := (y 1).isLt
      show k0_off6 t 1 ≤ (y 1).val ∧ (y 1).val < k0_off6 t 1 + 1024
      rw [e1]; omega

variable (c : Dev nD) (E : Set ℕ) (i : grid0.Coords)
  (arg1 : Memref sig .tc .smem S288 .i32) (harg1 : arg1.IsWhole) (arg2 : Memref sig .tc .smem S288 .i32) (harg2 : arg2.IsWhole)
  (arg3 : Memref sig .tc .vmem S8x512x128 .bf16) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S8x512x128 .bf16) (harg8 : arg8.IsWhole)
  (arg9 : Memref sig .tc .vmem S1024x2048 .bf16) (harg9 : arg9.IsWhole) (arg10 : Memref sig .tc .vmem S1024x1024 .bf16) (harg10 : arg10.IsWhole)

/-- The first loop, from any scratch, leaves the cast of the first weights in it. -/
theorem loop1 (w : Vec F S1x1024x2048 .f32) (f : Vec F S1024x2048 .bf16) (K : Unit → sProp 𝕄) :
    iprop((owns (c : Thread nD τ) arg4 fullShare w ∗ owns (c : Thread nD τ) arg9 fullShare f)
        ∗ ((owns (c : Thread nD τ) arg4 fullShare w ∗ owns (c : Thread nD τ) arg9 fullShare (cast1 w)) -∗ K ⟨⟩))
      ⊢ wp frame (wpE (defs₀ (F := F)) Variants.none (c : Thread nD τ) none) E
          (Scf.Loop.for k0_t1_loop k0_t1_ok ⟨⟩ (k0_t1_body i arg1 harg1 arg2 harg2 arg3 harg3 arg4 harg4 arg5 harg5 arg6 harg6 arg7 harg7 arg8 harg8 arg9 harg9 arg10 harg10)) K := by
  iintro ⟨⟨Hw, Hf⟩, HK⟩
  iapply (Scf.wp_for frame (wpE (defs₀ (F := F)) Variants.none (c : Thread nD τ) none) E _ _ _ k0_t1_ok _ _
    (fun n _ => iprop(owns (c : Thread nD τ) arg4 fullShare w ∗ ∃ g : Vec F S1024x2048 .bf16, ⌜∀ y, (y 0).val < 128 * n → g y = cast1 w y⌝ ∗ owns (c : Thread nD τ) arg9 fullShare g)) ?_)
  · intro t acc
    iintro ⟨Hw, %g, %hg, Hf⟩
    unfold k0_t1_body
    simp only [wp_bind]
    iapply (wp_ld (defs₀ (F := F)) c E arg4 w _ _ (k0_off3_inb t) h_S1x128x2048 _)
    isplitl [Hw]; · iexact Hw
    iintro Hw
    iapply (wp_ld (defs₀ (F := F)) c E arg9 g _ _ (k0_off4_inb t) h_S128x2048 _)
    isplitl [Hf]; · iexact Hf
    iintro Hf
    iapply (wp_st (defs₀ (F := F)) c E arg9 g (k0_off4 t) S128x2048.size (k0_off4_inb t) _ _ _)
    isplitl [Hf]; · iexact Hf
    iintro Hf
    iapply (le_wp_ret _ _ _ _ _)
    isplitl [Hw]; · iexact Hw
    iexists _
    isplitr
    swap
    · iexact Hf
    ipureintro
    intro y hy
    exact cast1_step w g t hg y hy
  isplitl [Hw Hf]
  · isplitl [Hw]; · iexact Hw
    iexists f
    isplitr
    · ipureintro
      intro y hy
      exact absurd hy (by omega)
    iexact Hf
  iintro %acc ⟨Hw, %g, %hg, Hf⟩
  have e : g = cast1 w := funext fun y => hg y (by
    have h : (y 0).val < 1024 := (y 0).isLt
    show (y 0).val < 128 * k0_t1_loop.trips
    rw [trips1]; omega)
  subst e
  iapply HK
  isplitl [Hw]; · iexact Hw
  iexact Hf

/-- The second loop. -/
theorem loop2 (w : Vec F S1x1024x1024 .f32) (f : Vec F S1024x1024 .bf16) (K : Unit → sProp 𝕄) :
    iprop((owns (c : Thread nD τ) arg6 fullShare w ∗ owns (c : Thread nD τ) arg10 fullShare f)
        ∗ ((owns (c : Thread nD τ) arg6 fullShare w ∗ owns (c : Thread nD τ) arg10 fullShare (cast2 w)) -∗ K ⟨⟩))
      ⊢ wp frame (wpE (defs₀ (F := F)) Variants.none (c : Thread nD τ) none) E
          (Scf.Loop.for k0_t2_loop k0_t2_ok ⟨⟩ (k0_t2_body i arg1 harg1 arg2 harg2 arg3 harg3 arg4 harg4 arg5 harg5 arg6 harg6 arg7 harg7 arg8 harg8 arg9 harg9 arg10 harg10)) K := by
  iintro ⟨⟨Hw, Hf⟩, HK⟩
  iapply (Scf.wp_for frame (wpE (defs₀ (F := F)) Variants.none (c : Thread nD τ) none) E _ _ _ k0_t2_ok _ _
    (fun n _ => iprop(owns (c : Thread nD τ) arg6 fullShare w ∗ ∃ g : Vec F S1024x1024 .bf16, ⌜∀ y, (y 0).val < 128 * n → g y = cast2 w y⌝ ∗ owns (c : Thread nD τ) arg10 fullShare g)) ?_)
  · intro t acc
    iintro ⟨Hw, %g, %hg, Hf⟩
    unfold k0_t2_body
    simp only [wp_bind]
    iapply (wp_ld (defs₀ (F := F)) c E arg6 w _ _ (k0_off5_inb t) h_S1x128x1024 _)
    isplitl [Hw]; · iexact Hw
    iintro Hw
    iapply (wp_ld (defs₀ (F := F)) c E arg10 g _ _ (k0_off6_inb t) h_S128x1024 _)
    isplitl [Hf]; · iexact Hf
    iintro Hf
    iapply (wp_st (defs₀ (F := F)) c E arg10 g (k0_off6 t) S128x1024.size (k0_off6_inb t) _ _ _)
    isplitl [Hf]; · iexact Hf
    iintro Hf
    iapply (le_wp_ret _ _ _ _ _)
    isplitl [Hw]; · iexact Hw
    iexists _
    isplitr
    swap
    · iexact Hf
    ipureintro
    intro y hy
    exact cast2_step w g t hg y hy
  isplitl [Hw Hf]
  · isplitl [Hw]; · iexact Hw
    iexists f
    isplitr
    · ipureintro
      intro y hy
      exact absurd hy (by omega)
    iexact Hf
  iintro %acc ⟨Hw, %g, %hg, Hf⟩
  have e : g = cast2 w := funext fun y => hg y (by
    have h : (y 0).val < 1024 := (y 0).isLt
    show (y 0).val < 128 * k0_t2_loop.trips
    rw [trips2]; omega)
  subst e
  iapply HK
  isplitl [Hw]; · iexact Hw
  iexact Hf

end Cert.Experts

end
-- ==== Proof.ExpertsBody.lean ====
/-
  The experts' kernel, second part: one grid point's body — the tables read, the weights cast when the expert changes,
  the block computed or zeroed.
-/
module

public import proofs.«01_k».proof.Proof.ExpertsCast

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Cert.Flash (ld st wp_ld wp_st)

variable {F : FTy → Type} [FloatOps F]

local notation "𝕄" => MT nD τ sig Unit (Elt F) ℕ (UR sig nD τ) ℕ

/-- The two tables as the launch hands them to the body. -/
def tbl0 (c : Dev nD) (pf : pre0.Contents (Elt F)) : sProp 𝕄 :=
  iprop((c : Thread nD τ).loc main_arg0 ↦{fullShare.right} (show Buf (Elt F) ((c : Thread nD τ).loc main_arg0) from pf 0))
def tbl1 (c : Dev nD) (pf : pre0.Contents (Elt F)) : sProp 𝕄 :=
  iprop((c : Thread nD τ).loc main_arg1 ↦{fullShare.right} (show Buf (Elt F) ((c : Thread nD τ).loc main_arg1) from pf 1))

/-- A read of the first table. -/
theorem read0 (c : Dev nD) (E : Set ℕ) (pf : pre0.Contents (Elt F)) (off : Fin 1 → ℕ) (inb : ∀ a, off a + S1.size a ≤ S288.size a) (K : Elt F .i32 → sProp 𝕄) :
    iprop(tbl0 c pf ∗ (tbl0 c pf -∗ K (pf.atD 0 off)))
      ⊢ wp frame (wpE (defs₀ (F := F)) Variants.none (c : Thread nD τ) none) E (smemLoad (Memref.whole main_arg0) (Rect.unit (s := S288) off S1.size inb) numel1_S1 rfl) K := by
  unfold tbl0 smemLoad smemLoadElt
  iintro ⟨H, HK⟩
  iapply (wp_load_rect Variants.none (c : Thread nD τ) none E (m := Memref.whole main_arg0) (r := Rect.unit (s := S288) off S1.size inb) (Finset.subset_univ _)) $$ H
  iintro H
  iapply (le_wp_ret _ _ _ _ _)
  have e : pf.atD 0 off = (((Memref.whole main_arg0).access (Rect.unit (s := S288) off S1.size inb) : View sig .tc _ _ _).read (Elt F)
      (show Buf (Elt F) ((c : Thread nD τ).loc main_arg0) from pf 0)) (Shape.Idx.first (numel1_S1.symm ▸ Nat.one_pos)) := by
    unfold Pipeline.Prefetch.Contents.atD
    rw [dif_pos (fun a => by fin_cases a; exact inb 0)]
    rfl
  rw [← e]
  iapply HK
  iexact H

/-- A read of the second table. -/
theorem read1 (c : Dev nD) (E : Set ℕ) (pf : pre0.Contents (Elt F)) (off : Fin 1 → ℕ) (inb : ∀ a, off a + S1.size a ≤ S288.size a) (K : Elt F .i32 → sProp 𝕄) :
    iprop(tbl1 c pf ∗ (tbl1 c pf -∗ K (pf.atD 1 off)))
      ⊢ wp frame (wpE (defs₀ (F := F)) Variants.none (c : Thread nD τ) none) E (smemLoad (Memref.whole main_arg1) (Rect.unit (s := S288) off S1.size inb) numel1_S1 rfl) K := by
  unfold tbl1 smemLoad smemLoadElt
  iintro ⟨H, HK⟩
  iapply (wp_load_rect Variants.none (c : Thread nD τ) none E (m := Memref.whole main_arg1) (r := Rect.unit (s := S288) off S1.size inb) (Finset.subset_univ _)) $$ H
  iintro H
  iapply (le_wp_ret _ _ _ _ _)
  have e : pf.atD 1 off = (((Memref.whole main_arg1).access (Rect.unit (s := S288) off S1.size inb) : View sig .tc _ _ _).read (Elt F)
      (show Buf (Elt F) ((c : Thread nD τ).loc main_arg1) from pf 1)) (Shape.Idx.first (numel1_S1.symm ▸ Nat.one_pos)) := by
    unfold Pipeline.Prefetch.Contents.atD
    rw [dif_pos (fun a => by fin_cases a; exact inb 0)]
    rfl
  rw [← e]
  iapply HK
  iexact H

/-- The rows of a block: its planes side by side, the rows that hold no token zero. -/
def rowsOf (n : Elt F .i32) (x : Vec F S8x512x128 .bf16) : FVec F S512x1024 .bf16 :=
  k0_pay10 n (VecWindow.window x ![0, 0, 0] S1x512x128.size inb_S8x512x128_S1x512x128_0_0_0) (VecWindow.window x ![1, 0, 0] S1x512x128.size inb_S8x512x128_S1x512x128_1_0_0) (VecWindow.window x ![2, 0, 0] S1x512x128.size inb_S8x512x128_S1x512x128_2_0_0) (VecWindow.window x ![3, 0, 0] S1x512x128.size inb_S8x512x128_S1x512x128_3_0_0) (VecWindow.window x ![4, 0, 0] S1x512x128.size inb_S8x512x128_S1x512x128_4_0_0) (VecWindow.window x ![5, 0, 0] S1x512x128.size inb_S8x512x128_S1x512x128_5_0_0) (VecWindow.window x ![6, 0, 0] S1x512x128.size inb_S8x512x128_S1x512x128_6_0_0) (VecWindow.window x ![7, 0, 0] S1x512x128.size inb_S8x512x128_S1x512x128_7_0_0)

/-- The expert of a block's rows, from the cast weights and the biases. -/
def expert (r : FVec F S512x1024 .bf16) (f : Vec F S1024x2048 .bf16) (b : Vec F S1x1x2048 .f32) (g : Vec F S1024x1024 .bf16) (d : Vec F S1x1x1024 .f32) : FVec F S512x1024 .f32 :=
  k0_pay11 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0)

/-- The expert's result stored by planes. -/
def planes (r : FVec F S512x1024 .bf16) (f : Vec F S1024x2048 .bf16) (b : Vec F S1x1x2048 .f32) (g : Vec F S1024x1024 .bf16) (d : Vec F S1x1x1024 .f32) : Vec F S8x512x128 .bf16 := fun y =>
  if (y 0).val = 7 then k0_pay8 (expert r f b g d) (ix3 0 (y 1) (y 2))
  else if (y 0).val = 6 then k0_pay7 (expert r f b g d) (ix3 0 (y 1) (y 2))
  else if (y 0).val = 5 then k0_pay6 (expert r f b g d) (ix3 0 (y 1) (y 2))
  else if (y 0).val = 4 then k0_pay5 (expert r f b g d) (ix3 0 (y 1) (y 2))
  else if (y 0).val = 3 then k0_pay4 (expert r f b g d) (ix3 0 (y 1) (y 2))
  else if (y 0).val = 2 then k0_pay3 (expert r f b g d) (ix3 0 (y 1) (y 2))
  else if (y 0).val = 1 then k0_pay13 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0) (ix3 0 (y 1) (y 2))
  else k0_pay12 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0) (ix3 0 (y 1) (y 2))

/-- A plane put. -/
theorem put_plane (x : Vec F S8x512x128 .bf16) (j : ℕ) (w : Vec F S1x512x128 .bf16) (y : S8x512x128.Idx) :
    VecWindow.put x ![j, 0, 0] S1x512x128.size w y = if (y 0).val = j then w (ix3 0 (y 1) (y 2)) else x y := by
  unfold VecWindow.put
  have h1 : (y 1).val < 512 := (y 1).isLt
  have h2 : (y 2).val < 128 := (y 2).isLt
  by_cases hj : (y 0).val = j
  · rw [if_pos hj, dif_pos]
    · refine congrArg w (funext fun a => ?_)
      fin_cases a
      · exact Subsingleton.elim (α := Fin 1) _ _
      · exact Fin.ext (Nat.sub_zero _)
      · exact Fin.ext (Nat.sub_zero _)
    · intro a
      fin_cases a
      · show j ≤ (y 0).val ∧ (y 0).val < j + 1
        omega
      · show 0 ≤ (y 1).val ∧ (y 1).val < 0 + 512
        omega
      · show 0 ≤ (y 2).val ∧ (y 2).val < 0 + 128
        omega
  · rw [if_neg hj, dif_neg]
    intro h
    have h0 : j ≤ (y 0).val ∧ (y 0).val < j + 1 := h 0
    omega

/-- The eight planes put, whatever was there. -/
theorem planes_put (o : Vec F S8x512x128 .bf16) (r : FVec F S512x1024 .bf16) (f : Vec F S1024x2048 .bf16) (b : Vec F S1x1x2048 .f32) (g : Vec F S1024x1024 .bf16) (d : Vec F S1x1x1024 .f32) :
    VecWindow.put (VecWindow.put (VecWindow.put (VecWindow.put (VecWindow.put (VecWindow.put (VecWindow.put (VecWindow.put o ![0, 0, 0] S1x512x128.size (k0_pay12 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0))) ![1, 0, 0] S1x512x128.size (k0_pay13 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0))) ![2, 0, 0] S1x512x128.size (k0_pay3 (expert r f b g d))) ![3, 0, 0] S1x512x128.size (k0_pay4 (expert r f b g d))) ![4, 0, 0] S1x512x128.size (k0_pay5 (expert r f b g d))) ![5, 0, 0] S1x512x128.size (k0_pay6 (expert r f b g d))) ![6, 0, 0] S1x512x128.size (k0_pay7 (expert r f b g d))) ![7, 0, 0] S1x512x128.size (k0_pay8 (expert r f b g d)) = planes r f b g d := by
  funext y
  have h0 : (y 0).val < 8 := (y 0).isLt
  rw [put_plane, put_plane, put_plane, put_plane, put_plane, put_plane, put_plane, put_plane]
  unfold planes
  repeat' split
  all_goals first
    | rfl
    | omega

/-- A store over everything. -/
theorem put_all (o w : Vec F S8x512x128 .bf16) : VecWindow.put o ![0, 0, 0] S8x512x128.size w = w := by
  funext y
  unfold VecWindow.put
  rw [dif_pos]
  · refine congrArg w (funext fun a => ?_)
    fin_cases a <;> exact Fin.ext (Nat.sub_zero _)
  · intro a
    fin_cases a
    · have h : (y 0).val < 8 := (y 0).isLt
      show 0 ≤ (y 0).val ∧ (y 0).val < 0 + 8
      omega
    · have h : (y 1).val < 512 := (y 1).isLt
      show 0 ≤ (y 1).val ∧ (y 1).val < 0 + 512
      omega
    · have h : (y 2).val < 128 := (y 2).isLt
      show 0 ≤ (y 2).val ∧ (y 2).val < 0 + 128
      omega

variable (c : Dev nD) (E : Set ℕ) (i : grid0.Coords)
  (arg3 : Memref sig .tc .vmem S8x512x128 .bf16) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S8x512x128 .bf16) (harg8 : arg8.IsWhole)
  (arg9 : Memref sig .tc .vmem S1024x2048 .bf16) (harg9 : arg9.IsWhole) (arg10 : Memref sig .tc .vmem S1024x1024 .bf16) (harg10 : arg10.IsWhole)

/-- The block's planes read. -/
theorem part1 (n : Elt F .i32) (x : Vec F S8x512x128 .bf16) (K : FVec F S512x1024 .bf16 → sProp 𝕄) :
    iprop(owns (c : Thread nD τ) arg3 fullShare x ∗ (owns (c : Thread nD τ) arg3 fullShare x -∗ K (rowsOf n x)))
      ⊢ wp frame (wpE (defs₀ (F := F)) Variants.none (c : Thread nD τ) none) E (k0_part1 i (Memref.whole main_arg0) (Memref.isWhole_whole _) (Memref.whole main_arg1) (Memref.isWhole_whole _) arg3 harg3 arg4 harg4 arg5 harg5 arg6 harg6 arg7 harg7 arg8 harg8 arg9 harg9 arg10 harg10 n) K := by
  rw [k0_part1_eq_skeleton]
  unfold k0_part1_skel
  simp only [wp_bind]
  iintro ⟨Hx, HK⟩
  iapply (wp_ld (defs₀ (F := F)) c E arg3 x _ _ inb_S8x512x128_S1x512x128_0_0_0 h_S1x512x128 _)
  isplitl [Hx]; · iexact Hx
  iintro Hx
  iapply (wp_ld (defs₀ (F := F)) c E arg3 x _ _ inb_S8x512x128_S1x512x128_1_0_0 h_S1x512x128 _)
  isplitl [Hx]; · iexact Hx
  iintro Hx
  iapply (wp_ld (defs₀ (F := F)) c E arg3 x _ _ inb_S8x512x128_S1x512x128_2_0_0 h_S1x512x128 _)
  isplitl [Hx]; · iexact Hx
  iintro Hx
  iapply (wp_ld (defs₀ (F := F)) c E arg3 x _ _ inb_S8x512x128_S1x512x128_3_0_0 h_S1x512x128 _)
  isplitl [Hx]; · iexact Hx
  iintro Hx
  iapply (wp_ld (defs₀ (F := F)) c E arg3 x _ _ inb_S8x512x128_S1x512x128_4_0_0 h_S1x512x128 _)
  isplitl [Hx]; · iexact Hx
  iintro Hx
  iapply (wp_ld (defs₀ (F := F)) c E arg3 x _ _ inb_S8x512x128_S1x512x128_5_0_0 h_S1x512x128 _)
  isplitl [Hx]; · iexact Hx
  iintro Hx
  iapply (wp_ld (defs₀ (F := F)) c E arg3 x _ _ inb_S8x512x128_S1x512x128_6_0_0 h_S1x512x128 _)
  isplitl [Hx]; · iexact Hx
  iintro Hx
  iapply (wp_ld (defs₀ (F := F)) c E arg3 x _ _ inb_S8x512x128_S1x512x128_7_0_0 h_S1x512x128 _)
  isplitl [Hx]; · iexact Hx
  iintro Hx
  iapply (le_wp_ret _ _ _ _ _)
  unfold rowsOf
  iapply HK
  iexact Hx

/-- The expert computed, and its first plane stored. -/
theorem part2 (r : FVec F S512x1024 .bf16) (b : Vec F S1x1x2048 .f32) (d : Vec F S1x1x1024 .f32) (o : Vec F S8x512x128 .bf16) (f : Vec F S1024x2048 .bf16) (g : Vec F S1024x1024 .bf16)
    (K : (Σ' (v80 : FVec F S512x1024 .f32), FVec F S1x512x128 .bf16) → sProp 𝕄) :
    iprop((owns (c : Thread nD τ) arg5 fullShare b ∗ owns (c : Thread nD τ) arg7 fullShare d ∗ owns (c : Thread nD τ) arg8 fullShare o ∗ owns (c : Thread nD τ) arg9 fullShare f ∗ owns (c : Thread nD τ) arg10 fullShare g)
        ∗ ((owns (c : Thread nD τ) arg5 fullShare b ∗ owns (c : Thread nD τ) arg7 fullShare d ∗ owns (c : Thread nD τ) arg8 fullShare (VecWindow.put o ![0, 0, 0] S1x512x128.size (k0_pay12 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0))) ∗ owns (c : Thread nD τ) arg9 fullShare f ∗ owns (c : Thread nD τ) arg10 fullShare g)
          -∗ K ⟨expert r f b g d, k0_pay13 r (VecWindow.window f ![0, 0] S1024x2048.size inb_S1024x2048_S1024x2048_0_0) (VecWindow.window b ![0, 0, 0] S1x1x2048.size inb_S1x1x2048_S1x1x2048_0_0_0) (VecWindow.window g ![0, 0] S1024x1024.size inb_S1024x1024_S1024x1024_0_0) (VecWindow.window d ![0, 0, 0] S1x1x1024.size inb_S1x1x1024_S1x1x1024_0_0_0)⟩))
      ⊢ wp frame (wpE (defs₀ (F := F)) Variants.none (c : Thread nD τ) none) E (k0_part2 i (Memref.whole main_arg0) (Memref.isWhole_whole _) (Memref.whole main_arg1) (Memref.isWhole_whole _) arg3 harg3 arg4 harg4 arg5 harg5 arg6 harg6 arg7 harg7 arg8 harg8 arg9 harg9 arg10 harg10 r) K := by
  rw [k0_part2_eq_skeleton]
  unfold k0_part2_skel
  simp only [wp_bind]
  iintro ⟨⟨Hb, Hd, Ho, Hf, Hg⟩, HK⟩
  iapply (wp_ld (defs₀ (F := F)) c E arg9 f _ _ inb_S1024x2048_S1024x2048_0_0 h_S1024x2048 _)
  isplitl [Hf]; · iexact Hf
  iintro Hf
  iapply (wp_ld (defs₀ (F := F)) c E arg5 b _ _ inb_S1x1x2048_S1x1x2048_0_0_0 h_S1x1x2048 _)
  isplitl [Hb]; · iexact Hb
  iintro Hb
  iapply (wp_ld (defs₀ (F := F)) c E arg10 g _ _ inb_S1024x1024_S1024x1024_0_0 h_S1024x1024 _)
  isplitl [Hg]; · iexact Hg
  iintro Hg
  iapply (wp_ld (defs₀ (F := F)) c E arg7 d _ _ inb_S1x1x1024_S1x1x1024_0_0_0 h_S1x1x1024 _)
  isplitl [Hd]; · iexact Hd
  iintro Hd
  iapply (wp_ld (defs₀ (F := F)) c E arg8 o _ _ inb_S8x512x128_S1x512x128_0_0_0 h_S1x512x128 _)
  isplitl [Ho]; · iexact Ho
  iintro Ho
  iapply (wp_st (defs₀ (F := F)) c E arg8 o ![0, 0, 0] S1x512x128.size inb_S8x512x128_S1x512x128_0_0_0 _ _ _)
  isplitl [Ho]; · iexact Ho
  iintro Ho
  iapply (wp_ld (defs₀ (F := F)) c E arg8 _ _ _ inb_S8x512x128_S1x512x128_1_0_0 h_S1x512x128 _)
  isplitl [Ho]; · iexact Ho
  iintro Ho
  iapply (le_wp_ret _ _ _ _ _)
  unfold expert
  iapply HK
  isplitl [Hb]; · iexact Hb
  isplitl [Hd]; · iexact Hd
  isplitl [Ho]; · iexact Ho
  isplitl [Hf]; · iexact Hf
  iexact Hg

/-- Whether the point casts its expert's weights: it has tokens, and it is the first or its expert is not the one before. -/
def fresh (pf : pre0.Contents (Elt F)) (i : grid0.Coords) : BitVec 1 :=
  Scalar.cmpi .ne (Scalar.extui (Scalar.andi (Scalar.cmpi .sgt (pf.atD 1 (k0_off1 i)) 0#32)
    (Scalar.ori (Scalar.cmpi .eq (BitVec.ofNat 32 (i 0).val) 0#32) (Scalar.cmpi .ne (pf.atD 0 (k0_off1 i)) (pf.atD 0 (k0_off2 i)))) : BitVec 1) : BitVec 32) 0#32

/-- The scratch after the casts of a point. -/
def after1 (pf : pre0.Contents (Elt F)) (i : grid0.Coords) (w : Vec F S1x1024x2048 .f32) (f : Vec F S1024x2048 .bf16) : Vec F S1024x2048 .bf16 :=
  if fresh pf i = 1#1 then cast1 w else f
def after2 (pf : pre0.Contents (Elt F)) (i : grid0.Coords) (w : Vec F S1x1024x1024 .f32) (g : Vec F S1024x1024 .bf16) : Vec F S1024x1024 .bf16 :=
  if fresh pf i = 1#1 then cast2 w else g

/-- The output block after a point's first branch, and after both. -/
def outA (n : Elt F .i32) (x : Vec F S8x512x128 .bf16) (b : Vec F S1x1x2048 .f32) (d : Vec F S1x1x1024 .f32) (o : Vec F S8x512x128 .bf16) (f : Vec F S1024x2048 .bf16) (g : Vec F S1024x1024 .bf16) : Vec F S8x512x128 .bf16 :=
  if k0_cond2 n = 1#1 then planes (rowsOf n x) f b g d else o
def outB (n : Elt F .i32) (o : Vec F S8x512x128 .bf16) : Vec F S8x512x128 .bf16 :=
  if k0_cond3 n = 1#1 then k0_pay9 else o

/-- The last branch: a block of zeros where there are no tokens. -/
def last (arg8 : Memref sig .tc .vmem S8x512x128 .bf16) (harg8 : arg8.IsWhole) (n : Elt F .i32) : Prog (TpuEff nD τ sig (Elt F) Λ₀ .tc) PUnit :=
  if k0_h3 : k0_cond3 n = 1#1 then do
          let _ : Vec F S8x512x128 .bf16 ← Prog.lift (.load arg8 (Rect.unit (s := S8x512x128) ![0, 0, 0] S8x512x128.size inb_S8x512x128_S8x512x128_0_0_0).toLoadRect (View.loadsAt_vmem h_S8x512x128))
          Prog.lift (.store arg8 (Rect.unit (s := S8x512x128) ![0, 0, 0] S8x512x128.size inb_S8x512x128_S8x512x128_0_0_0) (k0_pay9 (F := F)) Finset.univ (View.stores_vmem h_S8x512x128 (harg8.storeExact_slice rfl _ packedbf16_S8x512x128_S8x512x128_0_0_0) (fun _ => rfl)) (.inl rfl))
          pure ⟨⟩
        else pure ⟨⟩

/-- The middle branch and the last: the expert where there are tokens. -/
def compute (i : grid0.Coords)
  (arg3 : Memref sig .tc .vmem S8x512x128 .bf16) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S8x512x128 .bf16) (harg8 : arg8.IsWhole)
  (arg9 : Memref sig .tc .vmem S1024x2048 .bf16) (harg9 : arg9.IsWhole) (arg10 : Memref sig .tc .vmem S1024x1024 .bf16) (harg10 : arg10.IsWhole) (n : Elt F .i32) : Prog (TpuEff nD τ sig (Elt F) Λ₀ .tc) PUnit :=
  if k0_h2 : k0_cond2 n = 1#1 then do
    let v52 : FVec F S512x1024 .bf16 ← k0_part1 i (Memref.whole main_arg0) (Memref.isWhole_whole _) (Memref.whole main_arg1) (Memref.isWhole_whole _) arg3 harg3 arg4 harg4 arg5 harg5 arg6 harg6 arg7 harg7 arg8 harg8 arg9 harg9 arg10 harg10 n
    let ⟨v80, v90⟩ : Σ' (v80 : FVec F S512x1024 .f32), FVec F S1x512x128 .bf16 ← k0_part2 i (Memref.whole main_arg0) (Memref.isWhole_whole _) (Memref.whole main_arg1) (Memref.isWhole_whole _) arg3 harg3 arg4 harg4 arg5 harg5 arg6 harg6 arg7 harg7 arg8 harg8 arg9 harg9 arg10 harg10 v52
    Prog.lift (.store arg8 (Rect.unit (s := S8x512x128) ![1, 0, 0] S1x512x128.size inb_S8x512x128_S1x512x128_1_0_0) v90 Finset.univ (View.stores_vmem h_S1x512x128 (harg8.storeExact_slice rfl _ packedbf16_S8x512x128_S1x512x128_1_0_0) (fun _ => rfl)) (.inl rfl))
    let _ : Vec F S1x512x128 .bf16 ← Prog.lift (.load arg8 (Rect.unit (s := S8x512x128) ![2, 0, 0] S1x512x128.size inb_S8x512x128_S1x512x128_2_0_0).toLoadRect (View.loadsAt_vmem h_S1x512x128))
    Prog.lift (.store arg8 (Rect.unit (s := S8x512x128) ![2, 0, 0] S1x512x128.size inb_S8x512x128_S1x512x128_2_0_0) (k0_pay3 v80) Finset.univ (View.stores_vmem h_S1x512x128 (harg8.storeExact_slice rfl _ packedbf16_S8x512x128_S1x512x128_2_0_0) (fun _ => rfl)) (.inl rfl))
    let _ : Vec F S1x512x128 .bf16 ← Prog.lift (.load arg8 (Rect.unit (s := S8x512x128) ![3, 0, 0] S1x512x128.size inb_S8x512x128_S1x512x128_3_0_0).toLoadRect (View.loadsAt_vmem h_S1x512x128))
    Prog.lift (.store arg8 (Rect.unit (s := S8x512x128) ![3, 0, 0] S1x512x128.size inb_S8x512x128_S1x512x128_3_0_0) (k0_pay4 v80) Finset.univ (View.stores_vmem h_S1x512x128 (harg8.storeExact_slice rfl _ packedbf16_S8x512x128_S1x512x128_3_0_0) (fun _ => rfl)) (.inl rfl))
    let _ : Vec F S1x512x128 .bf16 ← Prog.lift (.load arg8 (Rect.unit (s := S8x512x128) ![4, 0, 0] S1x512x128.size inb_S8x512x128_S1x512x128_4_0_0).toLoadRect (View.loadsAt_vmem h_S1x512x128))
    Prog.lift (.store arg8 (Rect.unit (s := S8x512x128) ![4, 0, 0] S1x512x128.size inb_S8x512x128_S1x512x128_4_0_0) (k0_pay5 v80) Finset.univ (View.stores_vmem h_S1x512x128 (harg8.storeExact_slice rfl _ packedbf16_S8x512x128_S1x512x128_4_0_0) (fun _ => rfl)) (.inl rfl))
    let _ : Vec F S1x512x128 .bf16 ← Prog.lift (.load arg8 (Rect.unit (s := S8x512x128) ![5, 0, 0] S1x512x128.size inb_S8x512x128_S1x512x128_5_0_0).toLoadRect (View.loadsAt_vmem h_S1x512x128))
    Prog.lift (.store arg8 (Rect.unit (s := S8x512x128) ![5, 0, 0] S1x512x128.size inb_S8x512x128_S1x512x128_5_0_0) (k0_pay6 v80) Finset.univ (View.stores_vmem h_S1x512x128 (harg8.storeExact_slice rfl _ packedbf16_S8x512x128_S1x512x128_5_0_0) (fun _ => rfl)) (.inl rfl))
    let _ : Vec F S1x512x128 .bf16 ← Prog.lift (.load arg8 (Rect.unit (s := S8x512x128) ![6, 0, 0] S1x512x128.size inb_S8x512x128_S1x512x128_6_0_0).toLoadRect (View.loadsAt_vmem h_S1x512x128))
    Prog.lift (.store arg8 (Rect.unit (s := S8x512x128) ![6, 0, 0] S1x512x128.size inb_S8x512x128_S1x512x128_6_0_0) (k0_pay7 v80) Finset.univ (View.stores_vmem h_S1x512x128 (harg8.storeExact_slice rfl _ packedbf16_S8x512x128_S1x512x128_6_0_0) (fun _ => rfl)) (.inl rfl))
    let _ : Vec F S1x512x128 .bf16 ← Prog.lift (.load arg8 (Rect.unit (s := S8x512x128) ![7, 0, 0] S1x512x128.size inb_S8x512x128_S1x512x128_7_0_0).toLoadRect (View.loadsAt_vmem h_S1x512x128))
    Prog.lift (.store arg8 (Rect.unit (s := S8x512x128) ![7, 0, 0] S1x512x128.size inb_S8x512x128_S1x512x128_7_0_0) (k0_pay8 v80) Finset.univ (View.stores_vmem h_S1x512x128 (harg8.storeExact_slice rfl _ packedbf16_S8x512x128_S1x512x128_7_0_0) (fun _ => rfl)) (.inl rfl))
    last arg8 harg8 n
        else last arg8 harg8 n

/-- The casts of a point: done when the point's expert is new. -/
theorem casts (pf : pre0.Contents (Elt F)) (w : Vec F S1x1024x2048 .f32) (v : Vec F S1x1024x1024 .f32) (f : Vec F S1024x2048 .bf16) (g : Vec F S1024x1024 .bf16) (k : Prog (TpuEff nD τ sig (Elt F) Λ₀ .tc) PUnit) (K : PUnit → sProp 𝕄) :
    iprop((owns (c : Thread nD τ) arg4 fullShare w ∗ owns (c : Thread nD τ) arg6 fullShare v ∗ owns (c : Thread nD τ) arg9 fullShare f ∗ owns (c : Thread nD τ) arg10 fullShare g)
        ∗ ((owns (c : Thread nD τ) arg4 fullShare w ∗ owns (c : Thread nD τ) arg6 fullShare v ∗ owns (c : Thread nD τ) arg9 fullShare (after1 pf i w f) ∗ owns (c : Thread nD τ) arg10 fullShare (after2 pf i v g)) -∗ wp frame (wpE (defs₀ (F := F)) Variants.none (c : Thread nD τ) none) E k K))
      ⊢ wp frame (wpE (defs₀ (F := F)) Variants.none (c : Thread nD τ) none) E (if fresh pf i = 1#1 then do
          Scf.Loop.for k0_t1_loop k0_t1_ok ⟨⟩ (k0_t1_body i (Memref.whole main_arg0) (Memref.isWhole_whole _) (Memref.whole main_arg1) (Memref.isWhole_whole _) arg3 harg3 arg4 harg4 arg5 harg5 arg6 harg6 arg7 harg7 arg8 harg8 arg9 harg9 arg10 harg10)
          Scf.Loop.for k0_t2_loop k0_t2_ok ⟨⟩ (k0_t2_body i (Memref.whole main_arg0) (Memref.isWhole_whole _) (Memref.whole main_arg1) (Memref.isWhole_whole _) arg3 harg3 arg4 harg4 arg5 harg5 arg6 harg6 arg7 harg7 arg8 harg8 arg9 harg9 arg10 harg10)
          k
        else k) K := by
  unfold after1 after2
  split
  · iintro ⟨⟨Hw, Hv, Hf, Hg⟩, HK⟩
    rw [wp_bind]
    iapply (loop1 c E i (Memref.whole main_arg0) (Memref.isWhole_whole _) (Memref.whole main_arg1) (Memref.isWhole_whole _) arg3 harg3 arg4 harg4 arg5 harg5 arg6 harg6 arg7 harg7 arg8 harg8 arg9 harg9 arg10 harg10 w f _)
    isplitl [Hw Hf]
    · isplitl [Hw]; · iexact Hw
      iexact Hf
    iintro ⟨Hw, Hf⟩
    rw [wp_bind]
    iapply (loop2 c E i (Memref.whole main_arg0) (Memref.isWhole_whole _) (Memref.whole main_arg1) (Memref.isWhole_whole _) arg3 harg3 arg4 harg4 arg5 harg5 arg6 harg6 arg7 harg7 arg8 harg8 arg9 harg9 arg10 harg10 v g _)
    isplitl [Hv Hg]
    · isplitl [Hv]; · iexact Hv
      iexact Hg
    iintro ⟨Hv, Hg⟩
    iapply HK
    isplitl [Hw]; · iexact Hw
    isplitl [Hv]; · iexact Hv
    isplitl [Hf]; · iexact Hf
    iexact Hg
  · iintro ⟨H, HK⟩
    iapply HK
    iexact H

/-- The branch of a point with tokens. -/
theorem branchA (n : Elt F .i32) (x : Vec F S8x512x128 .bf16) (b : Vec F S1x1x2048 .f32) (d : Vec F S1x1x1024 .f32) (o : Vec F S8x512x128 .bf16) (f : Vec F S1024x2048 .bf16) (g : Vec F S1024x1024 .bf16) (k : Prog (TpuEff nD τ sig (Elt F) Λ₀ .tc) PUnit) (K : PUnit → sProp 𝕄) :
    iprop((owns (c : Thread nD τ) arg3 fullShare x ∗ owns (c : Thread nD τ) arg5 fullShare b ∗ owns (c : Thread nD τ) arg7 fullShare d ∗ owns (c : Thread nD τ) arg8 fullShare o ∗ owns (c : Thread nD τ) arg9 fullShare f ∗ owns (c : Thread nD τ) arg10 fullShare g)
        ∗ ((owns (c : Thread nD τ) arg3 fullShare x ∗ owns (c : Thread nD τ) arg5 fullShare b ∗ owns (c : Thread nD τ) arg7 fullShare d ∗ owns (c : Thread nD τ) arg8 fullShare (outA n x b d o f g) ∗ owns (c : Thread nD τ) arg9 fullShare f ∗ owns (c : Thread nD τ) arg10 fullShare g) -∗ wp frame (wpE (defs₀ (F := F)) Variants.none (c : Thread nD τ) none) E k K))
      ⊢ wp frame (wpE (defs₀ (F := F)) Variants.none (c : Thread nD τ) none) E (if k0_h2 : k0_cond2 n = 1#1 then do
    let v52 : FVec F S512x1024 .bf16 ← k0_part1 i (Memref.whole main_arg0) (Memref.isWhole_whole _) (Memref.whole main_arg1) (Memref.isWhole_whole _) arg3 harg3 arg4 harg4 arg5 harg5 arg6 harg6 arg7 harg7 arg8 harg8 arg9 harg9 arg10 harg10 n
    let ⟨v80, v90⟩ : Σ' (v80 : FVec F S512x1024 .f32), FVec F S1x512x128 .bf16 ← k0_part2 i (Memref.whole main_arg0) (Memref.isWhole_whole _) (Memref.whole main_arg1) (Memref.isWhole_whole _) arg3 harg3 arg4 harg4 arg5 harg5 arg6 harg6 arg7 harg7 arg8 harg8 arg9 harg9 arg10 harg10 v52
    Prog.lift (.store arg8 (Rect.unit (s := S8x512x128) ![1, 0, 0] S1x512x128.size inb_S8x512x128_S1x512x128_1_0_0) v90 Finset.univ (View.stores_vmem h_S1x512x128 (harg8.storeExact_slice rfl _ packedbf16_S8x512x128_S1x512x128_1_0_0) (fun _ => rfl)) (.inl rfl))
    let _ : Vec F S1x512x128 .bf16 ← Prog.lift (.load arg8 (Rect.unit (s := S8x512x128) ![2, 0, 0] S1x512x128.size inb_S8x512x128_S1x512x128_2_0_0).toLoadRect (View.loadsAt_vmem h_S1x512x128))
    Prog.lift (.store arg8 (Rect.unit (s := S8x512x128) ![2, 0, 0] S1x512x128.size inb_S8x512x128_S1x512x128_2_0_0) (k0_pay3 v80) Finset.univ (View.stores_vmem h_S1x512x128 (harg8.storeExact_slice rfl _ packedbf16_S8x512x128_S1x512x128_2_0_0) (fun _ => rfl)) (.inl rfl))
    let _ : Vec F S1x512x128 .bf16 ← Prog.lift (.load arg8 (Rect.unit (s := S8x512x128) ![3, 0, 0] S1x512x128.size inb_S8x512x128_S1x512x128_3_0_0).toLoadRect (View.loadsAt_vmem h_S1x512x128))
    Prog.lift (.store arg8 (Rect.unit (s := S8x512x128) ![3, 0, 0] S1x512x128.size inb_S8x512x128_S1x512x128_3_0_0) (k0_pay4 v80) Finset.univ (View.stores_vmem h_S1x512x128 (harg8.storeExact_slice rfl _ packedbf16_S8x512x128_S1x512x128_3_0_0) (fun _ => rfl)) (.inl rfl))
    let _ : Vec F S1x512x128 .bf16 ← Prog.lift (.load arg8 (Rect.unit (s := S8x512x128) ![4, 0, 0] S1x512x128.size inb_S8x512x128_S1x512x128_4_0_0).toLoadRect (View.loadsAt_vmem h_S1x512x128))
    Prog.lift (.store arg8 (Rect.unit (s := S8x512x128) ![4, 0, 0] S1x512x128.size inb_S8x512x128_S1x512x128_4_0_0) (k0_pay5 v80) Finset.univ (View.stores_vmem h_S1x512x128 (harg8.storeExact_slice rfl _ packedbf16_S8x512x128_S1x512x128_4_0_0) (fun _ => rfl)) (.inl rfl))
    let _ : Vec F S1x512x128 .bf16 ← Prog.lift (.load arg8 (Rect.unit (s := S8x512x128) ![5, 0, 0] S1x512x128.size inb_S8x512x128_S1x512x128_5_0_0).toLoadRect (View.loadsAt_vmem h_S1x512x128))
    Prog.lift (.store arg8 (Rect.unit (s := S8x512x128) ![5, 0, 0] S1x512x128.size inb_S8x512x128_S1x512x128_5_0_0) (k0_pay6 v80) Finset.univ (View.stores_vmem h_S1x512x128 (harg8.storeExact_slice rfl _ packedbf16_S8x512x128_S1x512x128_5_0_0) (fun _ => rfl)) (.inl rfl))
    let _ : Vec F S1x512x128 .bf16 ← Prog.lift (.load arg8 (Rect.unit (s := S8x512x128) ![6, 0, 0] S1x512x128.size inb_S8x512x128_S1x512x128_6_0_0).toLoadRect (View.loadsAt_vmem h_S1x512x128))
    Prog.lift (.store arg8 (Rect.unit (s := S8x512x128) ![6, 0, 0] S1x512x128.size inb_S8x512x128_S1x512x128_6_0_0) (k0_pay7 v80) Finset.univ (View.stores_vmem h_S1x512x128 (harg8.storeExact_slice rfl _ packedbf16_S8x512x128_S1x512x128_6_0_0) (fun _ => rfl)) (.inl rfl))
    let _ : Vec F S1x512x128 .bf16 ← Prog.lift (.load arg8 (Rect.unit (s := S8x512x128) ![7, 0, 0] S1x512x128.size inb_S8x512x128_S1x512x128_7_0_0).toLoadRect (View.loadsAt_vmem h_S1x512x128))
    Prog.lift (.store arg8 (Rect.unit (s := S8x512x128) ![7, 0, 0] S1x512x128.size inb_S8x512x128_S1x512x128_7_0_0) (k0_pay8 v80) Finset.univ (View.stores_vmem h_S1x512x128 (harg8.storeExact_slice rfl _ packedbf16_S8x512x128_S1x512x128_7_0_0) (fun _ => rfl)) (.inl rfl))
    k
        else k) K := by
  unfold outA
  split
  · iintro ⟨⟨Hx, Hb, Hd, Ho, Hf, Hg⟩, HK⟩
    rw [wp_bind]
    iapply (part1 c E i arg3 harg3 arg4 harg4 arg5 harg5 arg6 harg6 arg7 harg7 arg8 harg8 arg9 harg9 arg10 harg10 n x _)
    isplitl [Hx]; · iexact Hx
    iintro Hx
    rw [wp_bind]
    iapply (part2 c E i arg3 harg3 arg4 harg4 arg5 harg5 arg6 harg6 arg7 harg7 arg8 harg8 arg9 harg9 arg10 harg10 (rowsOf n x) b d o f g _)
    isplitl [Hb Hd Ho Hf Hg]
    · isplitl [Hb]; · iexact Hb
      isplitl [Hd]; · iexact Hd
      isplitl [Ho]; · iexact Ho
      isplitl [Hf]; · iexact Hf
      iexact Hg
    iintro ⟨Hb, Hd, Ho, Hf, Hg⟩
    simp only [wp_bind]
    iapply (wp_st (defs₀ (F := F)) c E arg8 _ ![1, 0, 0] S1x512x128.size inb_S8x512x128_S1x512x128_1_0_0 _ _ _)
    isplitl [Ho]; · iexact Ho
    iintro Ho
    iapply (wp_ld (defs₀ (F := F)) c E arg8 _ _ _ inb_S8x512x128_S1x512x128_2_0_0 h_S1x512x128 _)
    isplitl [Ho]; · iexact Ho
    iintro Ho
    iapply (wp_st (defs₀ (F := F)) c E arg8 _ ![2, 0, 0] S1x512x128.size inb_S8x512x128_S1x512x128_2_0_0 _ _ _)
    isplitl [Ho]; · iexact Ho
    iintro Ho
    iapply (wp_ld (defs₀ (F := F)) c E arg8 _ _ _ inb_S8x512x128_S1x512x128_3_0_0 h_S1x512x128 _)
    isplitl [Ho]; · iexact Ho
    iintro Ho
    iapply (wp_st (defs₀ (F := F)) c E arg8 _ ![3, 0, 0] S1x512x128.size inb_S8x512x128_S1x512x128_3_0_0 _ _ _)
    isplitl [Ho]; · iexact Ho
    iintro Ho
    iapply (wp_ld (defs₀ (F := F)) c E arg8 _ _ _ inb_S8x512x128_S1x512x128_4_0_0 h_S1x512x128 _)
    isplitl [Ho]; · iexact Ho
    iintro Ho
    iapply (wp_st (defs₀ (F := F)) c E arg8 _ ![4, 0, 0] S1x512x128.size inb_S8x512x128_S1x512x128_4_0_0 _ _ _)
    isplitl [Ho]; · iexact Ho
    iintro Ho
    iapply (wp_ld (defs₀ (F := F)) c E arg8 _ _ _ inb_S8x512x128_S1x512x128_5_0_0 h_S1x512x128 _)
    isplitl [Ho]; · iexact Ho
    iintro Ho
    iapply (wp_st (defs₀ (F := F)) c E arg8 _ ![5, 0, 0] S1x512x128.size inb_S8x512x128_S1x512x128_5_0_0 _ _ _)
    isplitl [Ho]; · iexact Ho
    iintro Ho
    iapply (wp_ld (defs₀ (F := F)) c E arg8 _ _ _ inb_S8x512x128_S1x512x128_6_0_0 h_S1x512x128 _)
    isplitl [Ho]; · iexact Ho
    iintro Ho
    iapply (wp_st (defs₀ (F := F)) c E arg8 _ ![6, 0, 0] S1x512x128.size inb_S8x512x128_S1x512x128_6_0_0 _ _ _)
    isplitl [Ho]; · iexact Ho
    iintro Ho
    iapply (wp_ld (defs₀ (F := F)) c E arg8 _ _ _ inb_S8x512x128_S1x512x128_7_0_0 h_S1x512x128 _)
    isplitl [Ho]; · iexact Ho
    iintro Ho
    iapply (wp_st (defs₀ (F := F)) c E arg8 _ ![7, 0, 0] S1x512x128.size inb_S8x512x128_S1x512x128_7_0_0 _ _ _)
    isplitl [Ho]; · iexact Ho
    iintro Ho
    rw [planes_put]
    iapply HK
    isplitl [Hx]; · iexact Hx
    isplitl [Hb]; · iexact Hb
    isplitl [Hd]; · iexact Hd
    isplitl [Ho]; · iexact Ho
    isplitl [Hf]; · iexact Hf
    iexact Hg
  · iintro ⟨H, HK⟩
    iapply HK
    iexact H

omit i in
/-- The branch of a point without tokens. -/
theorem branchB (c : Dev nD) (E : Set ℕ) (arg8 : Memref sig .tc .vmem S8x512x128 .bf16) (harg8 : arg8.IsWhole) (n : Elt F .i32) (o : Vec F S8x512x128 .bf16) (k : Prog (TpuEff nD τ sig (Elt F) Λ₀ .tc) PUnit) (K : PUnit → sProp 𝕄) :
    iprop(owns (c : Thread nD τ) arg8 fullShare o ∗ (owns (c : Thread nD τ) arg8 fullShare (outB n o) -∗ wp frame (wpE (defs₀ (F := F)) Variants.none (c : Thread nD τ) none) E k K))
      ⊢ wp frame (wpE (defs₀ (F := F)) Variants.none (c : Thread nD τ) none) E (if k0_h3 : k0_cond3 n = 1#1 then do
          let _ : Vec F S8x512x128 .bf16 ← Prog.lift (.load arg8 (Rect.unit (s := S8x512x128) ![0, 0, 0] S8x512x128.size inb_S8x512x128_S8x512x128_0_0_0).toLoadRect (View.loadsAt_vmem h_S8x512x128))
          Prog.lift (.store arg8 (Rect.unit (s := S8x512x128) ![0, 0, 0] S8x512x128.size inb_S8x512x128_S8x512x128_0_0_0) (k0_pay9 (F := F)) Finset.univ (View.stores_vmem h_S8x512x128 (harg8.storeExact_slice rfl _ packedbf16_S8x512x128_S8x512x128_0_0_0) (fun _ => rfl)) (.inl rfl))
          k
        else k) K := by
  unfold outB
  split
  · iintro ⟨Ho, HK⟩
    simp only [wp_bind]
    iapply (wp_ld (defs₀ (F := F)) c E arg8 _ _ _ inb_S8x512x128_S8x512x128_0_0_0 h_S8x512x128 _)
    isplitl [Ho]; · iexact Ho
    iintro Ho
    iapply (wp_st (defs₀ (F := F)) c E arg8 _ ![0, 0, 0] S8x512x128.size inb_S8x512x128_S8x512x128_0_0_0 _ _ _)
    isplitl [Ho]; · iexact Ho
    iintro Ho
    rw [put_all]
    iapply HK
    iexact Ho
  · iintro ⟨H, HK⟩
    iapply HK
    iexact H

/-- The body: three reads of the tables, the casts, the branches. -/
theorem body_eq : cc0_moe_experts (F := F) i (Memref.whole main_arg0) (Memref.isWhole_whole _) (Memref.whole main_arg1) (Memref.isWhole_whole _) arg3 harg3 arg4 harg4 arg5 harg5 arg6 harg6 arg7 harg7 arg8 harg8 arg9 harg9 arg10 harg10 = (do
    let v1 : Elt F .i32 ← smemLoad (Memref.whole main_arg1) (Rect.unit (s := S288) (k0_off1 i) S1.size (k0_off1_inb i)) numel1_S1 rfl
    let v5 : Elt F .i32 ← smemLoad (Memref.whole main_arg0) (Rect.unit (s := S288) (k0_off1 i) S1.size (k0_off1_inb i)) numel1_S1 rfl
    let v9 : Elt F .i32 ← smemLoad (Memref.whole main_arg0) (Rect.unit (s := S288) (k0_off2 i) S1.size (k0_off2_inb i)) numel1_S1 rfl
    if Scalar.cmpi .ne (Scalar.extui (Scalar.andi (Scalar.cmpi .sgt v1 0#32) (Scalar.ori (Scalar.cmpi .eq (BitVec.ofNat 32 (i 0).val) 0#32) (Scalar.cmpi .ne v5 v9)) : BitVec 1) : BitVec 32) 0#32 = 1#1 then do
      Scf.Loop.for k0_t1_loop k0_t1_ok ⟨⟩ (k0_t1_body i (Memref.whole main_arg0) (Memref.isWhole_whole _) (Memref.whole main_arg1) (Memref.isWhole_whole _) arg3 harg3 arg4 harg4 arg5 harg5 arg6 harg6 arg7 harg7 arg8 harg8 arg9 harg9 arg10 harg10)
      Scf.Loop.for k0_t2_loop k0_t2_ok ⟨⟩ (k0_t2_body i (Memref.whole main_arg0) (Memref.isWhole_whole _) (Memref.whole main_arg1) (Memref.isWhole_whole _) arg3 harg3 arg4 harg4 arg5 harg5 arg6 harg6 arg7 harg7 arg8 harg8 arg9 harg9 arg10 harg10)
      compute i arg3 harg3 arg4 harg4 arg5 harg5 arg6 harg6 arg7 harg7 arg8 harg8 arg9 harg9 arg10 harg10 v1
    else compute i arg3 harg3 arg4 harg4 arg5 harg5 arg6 harg6 arg7 harg7 arg8 harg8 arg9 harg9 arg10 harg10 v1) := by
  rw [cc0_moe_experts_eq_skeleton]
  rfl

/-- One grid point's body. -/
theorem body (pf : pre0.Contents (Elt F)) (x : Vec F S8x512x128 .bf16) (w : Vec F S1x1024x2048 .f32) (b : Vec F S1x1x2048 .f32) (v : Vec F S1x1024x1024 .f32) (d : Vec F S1x1x1024 .f32)
    (o : Vec F S8x512x128 .bf16) (f : Vec F S1024x2048 .bf16) (g : Vec F S1024x1024 .bf16) (K : PUnit → sProp 𝕄) :
    iprop((tbl0 c pf ∗ tbl1 c pf ∗ owns (c : Thread nD τ) arg3 fullShare x ∗ owns (c : Thread nD τ) arg4 fullShare w ∗ owns (c : Thread nD τ) arg5 fullShare b ∗ owns (c : Thread nD τ) arg6 fullShare v ∗ owns (c : Thread nD τ) arg7 fullShare d ∗ owns (c : Thread nD τ) arg8 fullShare o ∗ owns (c : Thread nD τ) arg9 fullShare f ∗ owns (c : Thread nD τ) arg10 fullShare g)
        ∗ ((tbl0 c pf ∗ tbl1 c pf ∗ owns (c : Thread nD τ) arg3 fullShare x ∗ owns (c : Thread nD τ) arg4 fullShare w ∗ owns (c : Thread nD τ) arg5 fullShare b ∗ owns (c : Thread nD τ) arg6 fullShare v ∗ owns (c : Thread nD τ) arg7 fullShare d
            ∗ owns (c : Thread nD τ) arg8 fullShare (outB (pf.atD 1 (k0_off1 i)) (outA (pf.atD 1 (k0_off1 i)) x b d o (after1 pf i w f) (after2 pf i v g)))
            ∗ owns (c : Thread nD τ) arg9 fullShare (after1 pf i w f) ∗ owns (c : Thread nD τ) arg10 fullShare (after2 pf i v g)) -∗ K ⟨⟩))
      ⊢ wp frame (wpE (defs₀ (F := F)) Variants.none (c : Thread nD τ) none) E (cc0_moe_experts i (Memref.whole main_arg0) (Memref.isWhole_whole _) (Memref.whole main_arg1) (Memref.isWhole_whole _) arg3 harg3 arg4 harg4 arg5 harg5 arg6 harg6 arg7 harg7 arg8 harg8 arg9 harg9 arg10 harg10) K := by
  rw [body_eq]
  iintro ⟨⟨H0, H1, Hx, Hw, Hb, Hv, Hd, Ho, Hf, Hg⟩, HK⟩
  rw [wp_bind]
  iapply (read1 c E pf _ (k0_off1_inb i) _)
  isplitl [H1]; · iexact H1
  iintro H1
  rw [wp_bind]
  iapply (read0 c E pf _ (k0_off1_inb i) _)
  isplitl [H0]; · iexact H0
  iintro H0
  rw [wp_bind]
  iapply (read0 c E pf _ (k0_off2_inb i) _)
  isplitl [H0]; · iexact H0
  iintro H0
  iapply (casts c E i arg3 harg3 arg4 harg4 arg5 harg5 arg6 harg6 arg7 harg7 arg8 harg8 arg9 harg9 arg10 harg10 pf w v f g (compute i arg3 harg3 arg4 harg4 arg5 harg5 arg6 harg6 arg7 harg7 arg8 harg8 arg9 harg9 arg10 harg10 (pf.atD 1 (k0_off1 i))) K)
  isplitl [Hw Hv Hf Hg]
  · isplitl [Hw]; · iexact Hw
    isplitl [Hv]; · iexact Hv
    isplitl [Hf]; · iexact Hf
    iexact Hg
  iintro ⟨Hw, Hv, Hf, Hg⟩
  unfold compute
  iapply (branchA c E i arg3 harg3 arg4 harg4 arg5 harg5 arg6 harg6 arg7 harg7 arg8 harg8 arg9 harg9 arg10 harg10 (pf.atD 1 (k0_off1 i)) x b d o _ _ (last arg8 harg8 (pf.atD 1 (k0_off1 i))) K)
  isplitl [Hx Hb Hd Ho Hf Hg]
  · isplitl [Hx]; · iexact Hx
    isplitl [Hb]; · iexact Hb
    isplitl [Hd]; · iexact Hd
    isplitl [Ho]; · iexact Ho
    isplitl [Hf]; · iexact Hf
    iexact Hg
  iintro ⟨Hx, Hb, Hd, Ho, Hf, Hg⟩
  unfold last
  iapply (branchB c E arg8 harg8 (pf.atD 1 (k0_off1 i)) _ (pure ⟨⟩) K)
  isplitl [Ho]; · iexact Ho
  iintro Ho
  iapply (le_wp_ret _ _ _ _ _)
  iapply HK
  isplitl [H0]; · iexact H0
  isplitl [H1]; · iexact H1
  isplitl [Hx]; · iexact Hx
  isplitl [Hw]; · iexact Hw
  isplitl [Hb]; · iexact Hb
  isplitl [Hv]; · iexact Hv
  isplitl [Hd]; · iexact Hd
  isplitl [Ho]; · iexact Ho
  isplitl [Hf]; · iexact Hf
  iexact Hg

end Cert.Experts

end
-- ==== Proof.ExpertsRun.lean ====
/-
  The experts' kernel, third part: its run — every block of the result is the expert's planes of the block's rows where
  the block has tokens, and zero where it has none, when the tables name experts and a block with tokens that follows a
  block of the same expert follows one with tokens.
-/
module

public import proofs.«01_k».proof.Proof.ExpertsBody
public import proofs.«01_k».proof.Proof.Gen.Kernel2Ideal.Launch

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

theorem off1_eq (t : Fin grid0.N) : k0_off1 (grid0.coords t) = ![t.val] := by
  have h : t.val < 288 := t.isLt
  have e : ((grid0.coords t) 0).val = t.val := by
    rw [Pipeline.Grid.coords_val (G := grid0) t 0 (S := 1) (B := 288) (by decide) rfl]
    omega
  funext a
  fin_cases a
  show (Scalar.indexCast (BitVec.ofNat 32 ((grid0.coords t) 0).val) : BitVec 32).toNat = t.val
  rw [e]
  show (BitVec.ofNat 32 t.val).toNat = t.val
  rw [BitVec.toNat_ofNat]
  exact Nat.mod_eq_of_lt (by omega)

theorem first_iff (t : Fin grid0.N) : Scalar.cmpi .eq (BitVec.ofNat 32 ((grid0.coords t) 0).val) 0#32 = 1#1 ↔ t.val = 0 := by
  revert t
  decide

theorem off2_eq : ∀ t : Fin grid0.N, k0_off2 (grid0.coords t) = ![t.val - 1] := by
  decide

/-- A block has tokens, or it has none. -/
theorem cond_cases (n : BitVec 32) : (k0_cond2 n = 1#1 ∧ ¬ k0_cond3 n = 1#1) ∨ (¬ k0_cond2 n = 1#1 ∧ k0_cond3 n = 1#1) := by
  have key : ∀ b : BitVec 1, (Scalar.cmpi .ne (Scalar.extui b : BitVec 32) 0#32 = 1#1 ∧ ¬ Scalar.cmpi .ne (Scalar.extui (Scalar.xori b 1#1 : BitVec 1) : BitVec 32) 0#32 = 1#1)
      ∨ (¬ Scalar.cmpi .ne (Scalar.extui b : BitVec 32) 0#32 = 1#1 ∧ Scalar.cmpi .ne (Scalar.extui (Scalar.xori b 1#1 : BitVec 1) : BitVec 32) 0#32 = 1#1) := by decide
  exact key (Scalar.cmpi .sgt n 0#32)

/-- An expert's weights are cast only where the block has tokens. -/
theorem fresh_of (pf : pre0.Contents (Elt F)) (i : grid0.Coords) (h : k0_cond2 (pf.atD 1 (k0_off1 i)) = 1#1)
    (hn : ¬ fresh pf i = 1#1) :
    ¬ Scalar.cmpi .eq (BitVec.ofNat 32 (i 0).val) 0#32 = 1#1 ∧ pf.atD 0 (k0_off1 i) = pf.atD 0 (k0_off2 i) := by
  unfold fresh at hn
  unfold k0_cond2 at h
  have key : ∀ a b c : BitVec 1, Scalar.cmpi .ne (Scalar.extui a : BitVec 32) 0#32 = 1#1 →
      ¬ Scalar.cmpi .ne (Scalar.extui (Scalar.andi a (Scalar.ori b c) : BitVec 1) : BitVec 32) 0#32 = 1#1 → ¬ b = 1#1 ∧ ¬ c = 1#1 := by decide
  obtain ⟨h1, h2⟩ := key _ _ _ h hn
  refine ⟨h1, ?_⟩
  by_contra hne
  refine h2 ?_
  have : ∀ x y : BitVec 32, x ≠ y → Scalar.cmpi .ne x y = 1#1 := fun x y hxy => by
    show BitVec.ofBool (x != y) = 1#1
    rw [bne_iff_ne.mpr hxy]; rfl
  exact this _ _ hne

/-- The admissible tables: every entry names an expert. -/
theorem ok_of (pf : pre0.Contents (Elt F)) (h : ∀ x : S288.Idx, (show BitVec 32 from pf 0 x).toNat < 32) : ok0 pf := by
  have h0 : ∀ i : grid0.Coords, (show BitVec 32 from pf.at 0 (Rect.unit (s := S288) (k0_off1 i) S1.size (k0_off1_inb i)) numel1_S1).toNat < 32 := fun i => h _
  unfold ok0
  refine ⟨fun i => ⟨?_, .inl rfl⟩, fun i => ⟨?_, .inl rfl⟩, fun i => ⟨?_, .inl rfl⟩, fun i => ⟨?_, .inl rfl⟩⟩ <;>
  · intro a
    have hi := h0 i
    fin_cases a
    · show ((show BitVec 32 from pf.at 0 (Rect.unit (s := S288) (k0_off1 i) S1.size (k0_off1_inb i)) numel1_S1).toNat + 1) * 1 ≤ 32
      omega
    · exact Nat.le_refl _
    · exact Nat.le_refl _

variable (m : (ℓ : Loc nD τ sig) → Buf (Elt F) ℓ) (ρ : Dev nD → PrngReg) (a : (pcfg0 (F := F)).Adm)

/-- What the region finds in a buffer. -/
abbrev V (c : Dev nD) (b : Ref sig .tc) : Buf (Elt F) ((c : Thread nD τ).loc b) := m ((c : Thread nD τ).loc b)

/-- The block of window `w` at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The number of tokens of a point's block. -/
abbrev tokens (t : Fin (cfg0 a).N) : Elt F .i32 := a.1.atD 1 (k0_off1 (grid0.coords t))

/-- The block the kernel leaves at a point. -/
def outBlk (c : Dev nD) (t : Fin (cfg0 a).N) : Vec F S8x512x128 .bf16 :=
  if k0_cond2 (tokens a t) = 1#1 then planes (rowsOf (tokens a t) (iblk m a c 0 t)) (cast1 (iblk m a c 1 t)) (iblk m a c 2 t) (cast2 (iblk m a c 3 t)) (iblk m a c 4 t)
  else k0_pay9

/-- After a block with tokens the scratch holds its expert's weights. -/
def Loaded (c : Dev nD) (n : ℕ) (f : Vec F S1024x2048 .bf16) (g : Vec F S1024x1024 .bf16) : Prop :=
  ∀ t : Fin (cfg0 a).N, t.val + 1 = n → k0_cond2 (tokens a t) = 1#1 → f = cast1 (iblk m a c 1 t) ∧ g = cast2 (iblk m a c 3 t)

/-- What a point keeps besides the windows. -/
def Inv (c : Dev nD) (n : ℕ) : sProp 𝕄 :=
  iprop(((∃ f g, ⌜Loaded m a c n f g⌝ ∗ owns (c : Thread nD τ) (Memref.whole cc0_scratch0) fullShare f ∗ owns (c : Thread nD τ) (Memref.whole cc0_scratch1) fullShare g)
    ∗ (∃ r, prngReg c r)) ∗ (tbl0 c a.1 ∗ tbl1 c a.1))

/-- What the pipeline is shown to do. -/
def dats (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outBlk m a c t
  Φ n := Inv m a c n.val
  q _ := fullShare
  owed _ := 0

theorem A_eq (c : Dev nD) (w : Fin (cfg0 a).W) : (dats m a c).A w = V m c (Pipeline.arrRef spec0 w) := rfl
theorem after_0 (c : Dev nD) (t : Fin (cfg0 a).N) : (dats m a c).after 0 t = iblk m a c 0 t := rfl
theorem after_1 (c : Dev nD) (t : Fin (cfg0 a).N) : (dats m a c).after 1 t = iblk m a c 1 t := rfl
theorem after_2 (c : Dev nD) (t : Fin (cfg0 a).N) : (dats m a c).after 2 t = iblk m a c 2 t := rfl
theorem after_3 (c : Dev nD) (t : Fin (cfg0 a).N) : (dats m a c).after 3 t = iblk m a c 3 t := rfl
theorem after_4 (c : Dev nD) (t : Fin (cfg0 a).N) : (dats m a c).after 4 t = iblk m a c 4 t := rfl
attribute [local irreducible] outBlk in
theorem after_5 (c : Dev nD) (t : Fin (cfg0 a).N) : (dats m a c).after 5 t = outBlk m a c t := rfl

/-- The block of an input window is what a fetch brings. -/
theorem fetched_0 (c : Dev nD) (t : Fin (cfg0 a).N) (d) : (dats m a c).fetched 0 t d = iblk m a c 0 t := by unfold Dat.fetched Dat.blockOf iblk; rw [A_eq]; rfl
theorem fetched_1 (c : Dev nD) (t : Fin (cfg0 a).N) (d) : (dats m a c).fetched 1 t d = iblk m a c 1 t := by unfold Dat.fetched Dat.blockOf iblk; rw [A_eq]; rfl
theorem fetched_2 (c : Dev nD) (t : Fin (cfg0 a).N) (d) : (dats m a c).fetched 2 t d = iblk m a c 2 t := by unfold Dat.fetched Dat.blockOf iblk; rw [A_eq]; rfl
theorem fetched_3 (c : Dev nD) (t : Fin (cfg0 a).N) (d) : (dats m a c).fetched 3 t d = iblk m a c 3 t := by unfold Dat.fetched Dat.blockOf iblk; rw [A_eq]; rfl
theorem fetched_4 (c : Dev nD) (t : Fin (cfg0 a).N) (d) : (dats m a c).fetched 4 t d = iblk m a c 4 t := by unfold Dat.fetched Dat.blockOf iblk; rw [A_eq]; rfl

theorem before_0 (c : Dev nD) (t : Fin (cfg0 a).N) (d) : (dats m a c).before 0 t d = iblk m a c 0 t :=
  ((dats m a c).before_in_eq_fetched 0 rfl (fun _ => rfl) (fun _ _ _ => rfl) (fun t => by rw [after_0]; unfold Dat.blockOf iblk; rw [A_eq]; try rfl) t d).trans (fetched_0 m a c t d)
theorem before_1 (c : Dev nD) (t : Fin (cfg0 a).N) (d) : (dats m a c).before 1 t d = iblk m a c 1 t :=
  ((dats m a c).before_in_eq_fetched 1 rfl (fun _ => rfl) (fun _ _ _ => rfl) (fun t => by rw [after_1]; unfold Dat.blockOf iblk; rw [A_eq]; try rfl) t d).trans (fetched_1 m a c t d)
theorem before_2 (c : Dev nD) (t : Fin (cfg0 a).N) (d) : (dats m a c).before 2 t d = iblk m a c 2 t :=
  ((dats m a c).before_in_eq_fetched 2 rfl (fun _ => rfl) (fun _ _ _ => rfl) (fun t => by rw [after_2]; unfold Dat.blockOf iblk; rw [A_eq]; try rfl) t d).trans (fetched_2 m a c t d)
theorem before_3 (c : Dev nD) (t : Fin (cfg0 a).N) (d) : (dats m a c).before 3 t d = iblk m a c 3 t :=
  ((dats m a c).before_in_eq_fetched 3 rfl (fun _ => rfl) (fun _ _ _ => rfl) (fun t => by rw [after_3]; unfold Dat.blockOf iblk; rw [A_eq]; try rfl) t d).trans (fetched_3 m a c t d)
theorem before_4 (c : Dev nD) (t : Fin (cfg0 a).N) (d) : (dats m a c).before 4 t d = iblk m a c 4 t :=
  ((dats m a c).before_in_eq_fetched 4 rfl (fun _ => rfl) (fun _ _ _ => rfl) (fun t => by rw [after_4]; unfold Dat.blockOf iblk; rw [A_eq]; try rfl) t d).trans (fetched_4 m a c t d)

/-- The table's entry the index maps read. -/
theorem at_eq (pf : pre0.Contents (Elt F)) (i : grid0.Coords) :
    pf.at 0 (Rect.unit (s := S288) (k0_off1 i) S1.size (k0_off1_inb i)) numel1_S1 = pf.atD 0 (k0_off1 i) := by
  unfold Pipeline.Prefetch.Contents.atD
  rw [dif_pos (fun a => by fin_cases a; exact k0_off1_inb i 0)]
  rfl

theorem map_1 (pf : pre0.Contents (Elt F)) (i : grid0.Coords) : cc0_transform_1 k0_off1_inb numel1_S1 pf i = ![(show BitVec 32 from pf.atD 0 (k0_off1 i)).toNat, 0, 0] := by
  rw [← at_eq]; rfl
theorem map_2 (pf : pre0.Contents (Elt F)) (i : grid0.Coords) : cc0_transform_2 k0_off1_inb numel1_S1 pf i = ![(show BitVec 32 from pf.atD 0 (k0_off1 i)).toNat, 0, 0] := by
  rw [← at_eq]; rfl
theorem map_3 (pf : pre0.Contents (Elt F)) (i : grid0.Coords) : cc0_transform_3 k0_off1_inb numel1_S1 pf i = ![(show BitVec 32 from pf.atD 0 (k0_off1 i)).toNat, 0, 0] := by
  rw [← at_eq]; rfl
theorem map_4 (pf : pre0.Contents (Elt F)) (i : grid0.Coords) : cc0_transform_4 k0_off1_inb numel1_S1 pf i = ![(show BitVec 32 from pf.atD 0 (k0_off1 i)).toNat, 0, 0] := by
  rw [← at_eq]; rfl

/-- Two points of the same expert have the same weights. -/
theorem same_1 (c : Dev nD) (t t' : Fin (cfg0 a).N) (h : a.1.atD 0 (k0_off1 (grid0.coords t)) = a.1.atD 0 (k0_off1 (grid0.coords t'))) :
    iblk m a c 1 t = iblk m a c 1 t' := by
  have hix : ((cfg0 a).win 1).index t = ((cfg0 a).win 1).index t' := by
    show cc0_transform_1 k0_off1_inb numel1_S1 a.1 (grid0.coords t) = cc0_transform_1 k0_off1_inb numel1_S1 a.1 (grid0.coords t')
    rw [map_1, map_1, h]
  rw [← fetched_1 m a c t (fun _ => Classical.arbitrary _), ← fetched_1 m a c t' (fun _ => Classical.arbitrary _)]
  exact (dats m a c).fetched_congr 1 hix rfl _

theorem same_3 (c : Dev nD) (t t' : Fin (cfg0 a).N) (h : a.1.atD 0 (k0_off1 (grid0.coords t)) = a.1.atD 0 (k0_off1 (grid0.coords t'))) :
    iblk m a c 3 t = iblk m a c 3 t' := by
  have hix : ((cfg0 a).win 3).index t = ((cfg0 a).win 3).index t' := by
    show cc0_transform_3 k0_off1_inb numel1_S1 a.1 (grid0.coords t) = cc0_transform_3 k0_off1_inb numel1_S1 a.1 (grid0.coords t')
    rw [map_3, map_3, h]
  rw [← fetched_3 m a c t (fun _ => Classical.arbitrary _), ← fetched_3 m a c t' (fun _ => Classical.arbitrary _)]
  exact (dats m a c).fetched_congr 3 hix rfl _

/-- Every block with tokens that follows a block of the same expert follows one with tokens. -/
def Follows : Prop := ∀ t t' : Fin (cfg0 a).N, t'.val + 1 = t.val →
  a.1.atD 0 (k0_off1 (grid0.coords t)) = a.1.atD 0 (k0_off1 (grid0.coords t')) → k0_cond2 (tokens a t) = 1#1 → k0_cond2 (tokens a t') = 1#1

/-- At a point with tokens the scratch holds the expert's weights once the casts are done. -/
theorem loaded (hf : Follows a) (c : Dev nD) (t : Fin (cfg0 a).N) (f : Vec F S1024x2048 .bf16) (g : Vec F S1024x1024 .bf16) (h : Loaded m a c t.val f g)
    (hc : k0_cond2 (tokens a t) = 1#1) :
    after1 a.1 (grid0.coords t) (iblk m a c 1 t) f = cast1 (iblk m a c 1 t) ∧ after2 a.1 (grid0.coords t) (iblk m a c 3 t) g = cast2 (iblk m a c 3 t) := by
  unfold after1 after2
  by_cases hn : fresh a.1 (grid0.coords t) = 1#1
  · rw [if_pos hn, if_pos hn]
    exact ⟨rfl, rfl⟩
  · rw [if_neg hn, if_neg hn]
    obtain ⟨h0, h1⟩ := fresh_of a.1 (grid0.coords t) hc hn
    have ht : t.val ≠ 0 := fun e => h0 ((first_iff t).mpr e)
    have hlt : t.val - 1 < (cfg0 a).N := lt_of_le_of_lt (Nat.sub_le _ _) t.isLt
    have hs : t.val - 1 + 1 = t.val := by omega
    have he : a.1.atD 0 (k0_off1 (grid0.coords t)) = a.1.atD 0 (k0_off1 (grid0.coords ⟨t.val - 1, hlt⟩)) := by
      rw [h1, off2_eq t, off1_eq ⟨t.val - 1, hlt⟩]
    obtain ⟨e1, e2⟩ := h ⟨t.val - 1, hlt⟩ hs (hf t ⟨t.val - 1, hlt⟩ hs he hc)
    exact ⟨e1.trans (congrArg cast1 (same_1 m a c t _ he).symm), e2.trans (congrArg cast2 (same_3 m a c t _ he).symm)⟩

/-- The block the body leaves is the one stated. -/
theorem out_eq (hf : Follows a) (c : Dev nD) (t : Fin (cfg0 a).N) (f : Vec F S1024x2048 .bf16) (g : Vec F S1024x1024 .bf16) (h : Loaded m a c t.val f g) (o : Vec F S8x512x128 .bf16) :
    outB (tokens a t) (outA (tokens a t) (iblk m a c 0 t) (iblk m a c 2 t) (iblk m a c 4 t) o (after1 a.1 (grid0.coords t) (iblk m a c 1 t) f) (after2 a.1 (grid0.coords t) (iblk m a c 3 t) g)) = outBlk m a c t := by
  unfold outB outA outBlk
  rcases cond_cases (tokens a t) with ⟨h2, h3⟩ | ⟨h2, h3⟩
  · rw [if_neg h3, if_pos h2, if_pos h2, (loaded m a hf c t f g h h2).1, (loaded m a hf c t f g h h2).2]
  · rw [if_pos h3, if_neg h2]

/-- No point leaves the output as it was. -/
theorem idle_eq (w : Fin (cfg0 a).W) (i : grid0.Coords) : idle0 a.1 w i = false := by
  have h5 : (!(k0_cond2 (a.1.atD 1 (k0_off1 i)) == 1#1) && !(k0_cond3 (a.1.atD 1 (k0_off1 i)) == 1#1)) = false := by
    rcases cond_cases (a.1.atD 1 (k0_off1 i)) with ⟨h2, h3⟩ | ⟨h2, h3⟩
    · simp [h2]
    · simp [h3]
  match w with
  | ⟨0, _⟩ => rfl
  | ⟨1, _⟩ => rfl
  | ⟨2, _⟩ => rfl
  | ⟨3, _⟩ => rfl
  | ⟨4, _⟩ => rfl
  | ⟨5, _⟩ => exact h5

/-- The staging memrefs of a point. -/
abbrev ms (w : Fin (cfg0 a).W) (t : Fin (cfg0 a).N) := ((cfg0 a).win w).stage ((cfg0 a).slots t w)

/-- The body at a point, on what the pipeline calls it with. -/
abbrev bodyAt (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _) (Memref.whole cc0_scratch1) (Memref.isWhole_whole _)

theorem row_eq (t : Fin (cfg0 a).N) : defs₀ (F := F) .tc (cfg0 a).body ((cfg0 a).bodyArgs t ((cfg0 a).slots t)) = bodyAt a t := by
  unfold defs₀; rw [Defs.onTc_tc]

/-- What the body is called with. -/
def bodyPre (c : Dev nD) (t : Fin (cfg0 a).N) : sProp 𝕄 :=
  iprop((dats m a c).Φ t.castSucc ∗ (dats m a c).owesAt () t.castSucc
    ∗ (∃ d, owns (c : Thread nD τ) (ms a 0 t) fullShare ((dats m a c).before 0 t d))
    ∗ (∃ d, owns (c : Thread nD τ) (ms a 1 t) fullShare ((dats m a c).before 1 t d))
    ∗ (∃ d, owns (c : Thread nD τ) (ms a 2 t) fullShare ((dats m a c).before 2 t d))
    ∗ (∃ d, owns (c : Thread nD τ) (ms a 3 t) fullShare ((dats m a c).before 3 t d))
    ∗ (∃ d, owns (c : Thread nD τ) (ms a 4 t) fullShare ((dats m a c).before 4 t d))
    ∗ (∃ d, owns (c : Thread nD τ) (ms a 5 t) fullShare ((dats m a c).before 5 t d)))

/-- What it returns. -/
def bodyPost (c : Dev nD) (t : Fin (cfg0 a).N) : sProp 𝕄 :=
  iprop((dats m a c).Φ t.succ ∗ (dats m a c).owesAt () t.succ
    ∗ owns (c : Thread nD τ) (ms a 0 t) fullShare ((dats m a c).after 0 t)
    ∗ owns (c : Thread nD τ) (ms a 1 t) fullShare ((dats m a c).after 1 t)
    ∗ owns (c : Thread nD τ) (ms a 2 t) fullShare ((dats m a c).after 2 t)
    ∗ owns (c : Thread nD τ) (ms a 3 t) fullShare ((dats m a c).after 3 t)
    ∗ owns (c : Thread nD τ) (ms a 4 t) fullShare ((dats m a c).after 4 t)
    ∗ owns (c : Thread nD τ) (ms a 5 t) fullShare ((dats m a c).after 5 t))

/-- The body, with what it leaves under other names. -/
theorem body_to (c : Dev nD) (E : Set ℕ) (i : grid0.Coords)
  (arg3 : Memref sig .tc .vmem S8x512x128 .bf16) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S8x512x128 .bf16) (harg8 : arg8.IsWhole)
  (arg9 : Memref sig .tc .vmem S1024x2048 .bf16) (harg9 : arg9.IsWhole) (arg10 : Memref sig .tc .vmem S1024x1024 .bf16) (harg10 : arg10.IsWhole)
    (pf : pre0.Contents (Elt F)) (x : Vec F S8x512x128 .bf16) (w : Vec F S1x1024x2048 .f32) (b : Vec F S1x1x2048 .f32) (v : Vec F S1x1024x1024 .f32) (d : Vec F S1x1x1024 .f32)
    (o : Vec F S8x512x128 .bf16) (f : Vec F S1024x2048 .bf16) (g : Vec F S1024x1024 .bf16) (K : PUnit → sProp 𝕄)
    (o1 : Vec F S8x512x128 .bf16) (f1 : Vec F S1024x2048 .bf16) (g1 : Vec F S1024x1024 .bf16) (hf1 : after1 pf i w f = f1) (hg1 : after2 pf i v g = g1)
    (ho1 : outB (pf.atD 1 (k0_off1 i)) (outA (pf.atD 1 (k0_off1 i)) x b d o (after1 pf i w f) (after2 pf i v g)) = o1) :
    iprop((tbl0 c pf ∗ tbl1 c pf ∗ owns (c : Thread nD τ) arg3 fullShare x ∗ owns (c : Thread nD τ) arg4 fullShare w ∗ owns (c : Thread nD τ) arg5 fullShare b ∗ owns (c : Thread nD τ) arg6 fullShare v ∗ owns (c : Thread nD τ) arg7 fullShare d ∗ owns (c : Thread nD τ) arg8 fullShare o ∗ owns (c : Thread nD τ) arg9 fullShare f ∗ owns (c : Thread nD τ) arg10 fullShare g)
        ∗ ((tbl0 c pf ∗ tbl1 c pf ∗ owns (c : Thread nD τ) arg3 fullShare x ∗ owns (c : Thread nD τ) arg4 fullShare w ∗ owns (c : Thread nD τ) arg5 fullShare b ∗ owns (c : Thread nD τ) arg6 fullShare v ∗ owns (c : Thread nD τ) arg7 fullShare d
            ∗ owns (c : Thread nD τ) arg8 fullShare o1
            ∗ owns (c : Thread nD τ) arg9 fullShare f1 ∗ owns (c : Thread nD τ) arg10 fullShare g1) -∗ K ⟨⟩))
      ⊢ wp frame (wpE (defs₀ (F := F)) Variants.none (c : Thread nD τ) none) E (cc0_moe_experts i (Memref.whole main_arg0) (Memref.isWhole_whole _) (Memref.whole main_arg1) (Memref.isWhole_whole _) arg3 harg3 arg4 harg4 arg5 harg5 arg6 harg6 arg7 harg7 arg8 harg8 arg9 harg9 arg10 harg10) K := by
  subst hf1; subst hg1; subst ho1
  exact body c E i arg3 harg3 arg4 harg4 arg5 harg5 arg6 harg6 arg7 harg7 arg8 harg8 arg9 harg9 arg10 harg10 pf x w b v d o f g K

set_option maxHeartbeats 800000 in
/-- The body at any point. -/
theorem sound_body (hf : Follows a) (c : Dev nD) (t : Fin (cfg0 a).N) :
    bodyPre m a c t ⊢ wp frame (wpE (defs₀ (F := F)) Variants.none c none) Set.univ (bodyAt a t) (fun _ => bodyPost m a c t) := by
  unfold bodyPre bodyPost
  simp only [before_0, before_1, before_2, before_3, before_4]
  rw [show (dats m a c).Φ t.succ = Inv m a c (t.val + 1) from rfl, show (dats m a c).Φ t.castSucc = Inv m a c t.val from rfl,
    show (dats m a c).owesAt () t.succ = (dats m a c).owesAt () t.castSucc from rfl,
    after_0, after_1, after_2, after_3, after_4, after_5]
  unfold Inv
  generalize (dats m a c).owesAt () t.castSucc = Ow
  iintro ⟨⟨⟨⟨%f, %g, %hl, HS0, HS1⟩, Hr⟩, HT0, HT1⟩, Ho, ⟨%d0, H0⟩, ⟨%d1, H1⟩, ⟨%d2, H2⟩, ⟨%d3, H3⟩, ⟨%d4, H4⟩, ⟨%d5, H5⟩⟩
  iapply (body_to c Set.univ (grid0.coords t) _ _ _ _ _ _ _ _ _ _ _ _ _ _ _ _ a.1 (iblk m a c 0 t) (iblk m a c 1 t) (iblk m a c 2 t) (iblk m a c 3 t) (iblk m a c 4 t)
    ((dats m a c).before 5 t d5) f g _ (outBlk m a c t) _ _ rfl rfl (out_eq m a hf c t f g hl _))
  isplitl [HT0 HT1 H0 H1 H2 H3 H4 H5 HS0 HS1]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  iintro ⟨HT0, HT1, H0, H1, H2, H3, H4, H5, HS0, HS1⟩
  isplitl [HT0 HT1 HS0 HS1 Hr]
  · isplitl [HS0 HS1 Hr]
    · isplitl [HS0 HS1]
      · iexists _
        iexists _
        isplitr
        swap
        · isplitl [HS0]; · iexact HS0
          iexact HS1
        ipureintro
        intro t' ht' hc
        obtain rfl : t' = t := Fin.ext (by omega)
        exact loaded m a hf c t' f g hl hc
      iexact Hr
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem obligation (hf : Follows a) (c : Dev nD) : BodyObligation (dats m a c) (defs₀ (F := F)) Variants.none () Set.univ := fun t => by
  rw [bigSep_W0, bigSep_W0, row_eq]
  refine triple_restated (sound_body m a hf c t) rfl .rfl fun _ => ?_
  show _ ⊢ iprop((dats m a c).Φ t.succ ∗ (dats m a c).owesAt () t.succ ∗ owns (c : Thread nD τ) (ms a 0 t) fullShare ((dats m a c).after 0 t)
    ∗ owns (c : Thread nD τ) (ms a 1 t) fullShare ((dats m a c).after 1 t) ∗ owns (c : Thread nD τ) (ms a 2 t) fullShare ((dats m a c).after 2 t)
    ∗ owns (c : Thread nD τ) (ms a 3 t) fullShare ((dats m a c).after 3 t) ∗ owns (c : Thread nD τ) (ms a 4 t) fullShare ((dats m a c).after 4 t)
    ∗ (match idle0 a.1 5 (grid0.coords t) with
      | true => match ((cfg0 a).win 5).flush t with
        | false => iprop(∃ d, owns (c : Thread nD τ) (ms a 5 t) fullShare ((dats m a c).before 5 t d))
        | true => owns (c : Thread nD τ) (ms a 5 t) fullShare ((dats m a c).after 5 t)
      | false => owns (c : Thread nD τ) (ms a 5 t) fullShare ((dats m a c).after 5 t)))
  rw [idle_eq]
  exact .rfl

theorem tables_pair (c : Dev nD) (v : pre0.Contents (Elt F)) :
    (Pipeline.prefHeld pre0 c (fun _ => fullShare.right) v : sProp 𝕄) = iprop(tbl0 c v ∗ tbl1 c v) := by
  unfold Pipeline.prefHeld
  rw [show (Finset.univ : Finset (Fin 2)) = insert 0 {1} from by decide, bigSep_insert (by decide), bigSep_singleton]
  rfl

/-- What the region starts from gives the invariant before the first point. -/
theorem enter (c : Dev nD) : iprop(Pipeline.ΦA spec0 c ∗ Pipeline.ΦT pre0 a.1 c) ⊢ (Inv m a c 0 : sProp 𝕄) := by
  unfold Pipeline.ΦA Pipeline.ΦT Inv
  rw [tables_pair, scopedRest0_eq]
  simp only [owns_whole]
  iintro ⟨⟨⟨⟨%f, Hf⟩, ⟨%g, Hg⟩⟩, Hr⟩, HT⟩
  isplitl [Hf Hg Hr]
  · isplitl [Hf Hg]
    · iexists f
      iexists g
      isplitr
      · ipureintro
        intro t ht
        omega
      isplitl [Hf]; · iexact Hf
      iexact Hg
    iexact Hr
  iexact HT

/-- After the last point the scratch is forgotten. -/
theorem leave (c : Dev nD) (n : ℕ) : (Inv m a c n : sProp 𝕄) ⊢ Pipeline.ΦA spec0 c := by
  unfold Pipeline.ΦA Inv
  rw [scopedRest0_eq]
  simp only [owns_whole]
  iintro ⟨⟨⟨%f, %g, %hl, Hf, Hg⟩, Hr⟩, HT⟩
  isplitl [Hf Hg]
  · isplitl [Hf]
    · iexists f
      iexact Hf
    iexists g
    iexact Hg
  iexact Hr

set_option backward.isDefEq.respectTransparency.types false in
/-- The program runs to the end, and every array of the pipeline is then what the proof data say. -/
theorem run_post (hf : Follows a) (hpf : ∀ (c : Dev nD) k, V m c (pre0.ref k) = a.1 k) :
    θ_run defs (onTc (τ := τ) (main (F := F))) ⟨m, fun _ => 0, ρ⟩
      (fun r => (Pipeline.FramePost (Pipeline.pin pcfgs (fun _ => a)) (fun _ c => dats m a c) 0 (V m)) r ∧ r.2.sem = fun _ => 0) :=
  Pipeline.θ_run_frameP_track (Q' := _) pcfgs (fun _ => a) (fun _ c => dats m a c) (0 : Fin 1) launch0 defs₀ Variants.none m ρ main
    (hbody := fun c => (obligation m a hf c).loose) (hshare := fun c => (dats m a c).share_full fun _ => rfl)
    (howed := fun _ _ => rfl) (V := V m) (hmain := Pipeline.hmainP_region pcfgs 0 defs₀ Variants.none m main (fun c => rfl)) (hA := A_eq m a)
    (hpf := hpf) (hin := fun c => enter m a c) (hout := fun c => leave m a c _)

end Cert.Experts

end
-- ==== Proof.ExpertsFrame.lean ====
/-
  The experts' kernel, fourth part: what the precondition says of the tables, and the run from any memory that meets it.
-/
module

public import proofs.«01_k».proof.Proof.ExpertsRun
public import proofs.«01_k».proof.Proof.Gen.Pre_routed
public import Idealize.ShloMosaic.Lib.Pointwise

@[expose] public section

set_option maxRecDepth 16384

noncomputable section

namespace Cert.Experts

open Idealize.ShloMosaic Idealize.ShloMosaic.TcCoe
open Idealize.SL Idealize.SL.Sem
open Cert.Kernel2Ideal Cert.Kernel2Ideal.Gen

variable {F : FTy → Type} [FloatOps F]

/-- A word between 0 and 31. -/
theorem word_lt (b : BitVec 32) (h : IntOp.andi (IntOp.cmpi .sge b 0#32) (IntOp.cmpi .slt b 32#32) = 1#1) : b.toNat < 32 := by
  have key : ∀ x y : Bool, IntOp.andi (BitVec.ofBool x) (BitVec.ofBool y) = 1#1 → x = true ∧ y = true := by decide
  obtain ⟨h1, h2⟩ := key _ _ h
  have e0 : (0#32).toInt = 0 := by decide
  have e32 : (32#32).toInt = 32 := by decide
  have h1' : (0 : ℤ) ≤ b.toInt := by
    have := BitVec.sle_iff_toInt_le.mp h1
    omega
  have h2' : b.toInt < 32 := by
    have := BitVec.slt_iff_toInt_lt.mp h2
    omega
  have hb : b.toNat < 4294967296 := b.isLt
  rw [BitVec.toInt_eq_toNat_cond] at h1' h2'
  split at h1' <;> omega

/-- Of two blocks of the same expert, the second with rows, the first has rows. -/
theorem word_follows (b b' n n' : BitVec 32) (h : IntOp.ori (IntOp.ori (IntOp.cmpi .ne b b') (IntOp.cmpi .sle n 0#32)) (IntOp.cmpi .sgt n' 0#32) = 1#1)
    (he : b = b') (hn : k0_cond2 n = 1#1) : k0_cond2 n' = 1#1 := by
  subst he
  have key : ∀ x y z : Bool, IntOp.ori (IntOp.ori (BitVec.ofBool x) (BitVec.ofBool y)) (BitVec.ofBool z) = 1#1 → x = false → y = false → z = true := by decide
  have hc : ∀ x : BitVec 1, Scalar.cmpi .ne (Scalar.extui x : BitVec 32) 0#32 = 1#1 ↔ x = 1#1 := by decide
  have h1 : Scalar.cmpi .sgt n 0#32 = 1#1 := (hc _).mp hn
  have key1 : ∀ x : Bool, BitVec.ofBool x = 1#1 → x = true := by decide
  have h2 : (0#32).slt n = true := key1 _ h1
  refine (hc _).mpr ?_
  have h4 : n.sle 0#32 = false := by
    have := BitVec.slt_iff_toInt_lt.mp h2
    by_contra hx
    have := BitVec.sle_iff_toInt_le.mp ((Bool.not_eq_false _).mp hx)
    omega
  exact congrArg BitVec.ofBool (key _ _ _ h (bne_self_eq_false b) h4)

section Pre

variable (be nv : IVec S288 32) (x2 : FVec F S8x147456x128 .bf16) (x3 : FVec F S32x1024x2048 .f32) (x4 : FVec F S32x1x2048 .f32) (x5 : FVec F S32x1024x1024 .f32) (x6 : FVec F S32x1x1024 .f32)
  (h : (Cert.Pre_routed.fn be nv x2 x3 x4 x5 x6).1 = (fun _ => 1#1) ∧ (Cert.Pre_routed.fn be nv x2 x3 x4 x5 x6).2 = (fun _ => 1#1))

include h

/-- Every block names an expert. -/
theorem pre_named (x : S288.Idx) : (be x).toNat < 32 := word_lt _ (congrFun h.1 x)

/-- A block with rows that follows a block of the same expert follows one with rows. -/
theorem pre_follows (t t' : Fin 288) (ht : t'.val + 1 = t.val) (he : be (ix1 t) = be (ix1 t')) (hn : k0_cond2 (nv (ix1 t)) = 1#1) : k0_cond2 (nv (ix1 t')) = 1#1 := by
  have hk : t'.val < 287 := by omega
  have e1 : ∀ v : IVec S288 32, extractStridedSlice Cert.Pre_routed.S287 ![1] v Cert.Pre_routed.Gen.slices_S288_S287_1 (ix1 ⟨t'.val, hk⟩) = v (ix1 t) := fun v => by
    refine congrArg v (funext fun a => Fin.ext ?_)
    fin_cases a
    show 1 + t'.val = t.val
    omega
  have e0 : ∀ v : IVec S288 32, extractStridedSlice Cert.Pre_routed.S287 ![0] v Cert.Pre_routed.Gen.slices_S288_S287_0 (ix1 ⟨t'.val, hk⟩) = v (ix1 t') := fun v => by
    refine congrArg v (funext fun a => Fin.ext ?_)
    fin_cases a
    show 0 + t'.val = t'.val
    omega
  refine word_follows (be (ix1 t)) (be (ix1 t')) (nv (ix1 t)) (nv (ix1 t')) ?_ he hn
  rw [← e1 be, ← e1 nv, ← e0 be, ← e0 nv]
  exact congrFun h.2 (ix1 ⟨t'.val, hk⟩)

end Pre

variable (m : (ℓ : Loc nD τ sig) → Buf (Elt F) ℓ) (ρ : Dev nD → PrngReg)

/-- The experts and the numbers of rows of a memory. -/
abbrev experts : IVec S288 32 := m (((0 : Dev nD).tc : Thread nD τ).loc main_arg0)
abbrev counts : IVec S288 32 := m (((0 : Dev nD).tc : Thread nD τ).loc main_arg1)

/-- The tables the kernel reads. -/
def tables : pre0.Contents (Elt F) := fun k => V m 0 (pre0.ref k)

theorem tables_0 (t : Fin (grid0.N)) : (tables m).atD 0 (k0_off1 (grid0.coords t)) = experts m (ix1 t) := by
  unfold Pipeline.Prefetch.Contents.atD
  rw [dif_pos (fun a => by fin_cases a; exact k0_off1_inb _ 0)]
  refine congrArg (experts m) (funext fun a => Fin.ext ?_)
  fin_cases a
  exact congrFun (off1_eq t) 0

theorem tables_1 (t : Fin (grid0.N)) : (tables m).atD 1 (k0_off1 (grid0.coords t)) = counts m (ix1 t) := by
  unfold Pipeline.Prefetch.Contents.atD
  rw [dif_pos (fun a => by fin_cases a; exact k0_off1_inb _ 0)]
  refine congrArg (counts m) (funext fun a => Fin.ext ?_)
  fin_cases a
  exact congrFun (off1_eq t) 0

/-- The precondition, of a memory. -/
def Routed : Prop := (∀ x, (experts m x).toNat < 32)
  ∧ ∀ t t' : Fin 288, t'.val + 1 = t.val → experts m (ix1 t) = experts m (ix1 t') → k0_cond2 (counts m (ix1 t)) = 1#1 → k0_cond2 (counts m (ix1 t')) = 1#1

/-- The tables are admissible. -/
def adm (h : Routed m) : (pcfg0 (F := F)).Adm := ⟨tables m, ok_of _ h.1⟩

theorem adm_follows (h : Routed m) : Follows (adm m h) := fun t t' ht he hc => by
  unfold tokens at hc ⊢
  have e1 := tables_1 m t
  have e2 := tables_1 m t'
  have e3 := tables_0 m t
  have e4 := tables_0 m t'
  rw [show (adm m h).1 = tables m from rfl] at he hc ⊢
  rw [e3, e4] at he
  rw [e1] at hc
  rw [e2]
  exact h.2 t t' ht he hc

/-- The result array after the run, the arguments as they were, the counters at zero. -/
theorem run_out (h : Routed m) : θ_run defs (onTc (τ := τ) (main (F := F))) ⟨m, fun _ => 0, ρ⟩ (fun r => (∀ c : Dev nD,
      r.2.mem ((c.tc : Thread nD τ).loc main_v0) = (dats m (adm m h) c).arrAt 5 (cfg0 (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ hr => ⟨fun c => ⟨(hr.1 c).1 5,
      (hr.1 c).2 main_arg0 (Pipeline.mem_restRefs_of main_arg0 (by decide) (show ∀ w : Fin 6, (spec0 w).arr.view.ref ≠ main_arg0 from by decide)),
      (hr.1 c).2 main_arg1 (Pipeline.mem_restRefs_of main_arg1 (by decide) (show ∀ w : Fin 6, (spec0 w).arr.view.ref ≠ main_arg1 from by decide)),
      ((hr.1 c).1 0).trans (((dats m (adm m h) c).arrAt_in 0 rfl _).trans (A_eq m (adm m h) c 0)),
      ((hr.1 c).1 1).trans (((dats m (adm m h) c).arrAt_in 1 rfl _).trans (A_eq m (adm m h) c 1)),
      ((hr.1 c).1 2).trans (((dats m (adm m h) c).arrAt_in 2 rfl _).trans (A_eq m (adm m h) c 2)),
      ((hr.1 c).1 3).trans (((dats m (adm m h) c).arrAt_in 3 rfl _).trans (A_eq m (adm m h) c 3)),
      ((hr.1 c).1 4).trans (((dats m (adm m h) c).arrAt_in 4 rfl _).trans (A_eq m (adm m h) c 4))⟩, hr.2⟩)
    (run_post m ρ (adm m h) (adm_follows m h) (fun c k => by rw [Subsingleton.elim c 0]; rfl))

end Cert.Experts

end
-- ==== Proof.ExpertsSpec.lean ====
/-
  One row of an expert: two products with a bias, with the clipped gate between them.
-/
module

public import Idealize.ShloMosaic.Lib.Pointwise
public import Idealize.ShloMosaic.PureOps

@[expose] public section

noncomputable section

namespace Cert.Expert

open Idealize.ShloMosaic

/-- The gate's and the other half's entry, clipped, gated and multiplied. -/
def gated (a u : EReal) : EReal :=
  (min (Ideal.ofBits .f32 0x40E00000#32) (max (Ideal.ofBits .f32 0xC0E00000#32) u) + Ideal.ofBits .f32 0x3F800000#32)
    * (min a (Ideal.ofBits .f32 0x40E00000#32) * Ideal.logistic (Ideal.ofBits .f32 0x3FD9DB23#32 * min a (Ideal.ofBits .f32 0x40E00000#32)))

/-- The first product of a row with its bias. -/
def hidden (x : Fin 1024 → EReal) (w : Fin 1024 → Fin 2048 → EReal) (b : Fin 2048 → EReal) (c : Fin 2048) : EReal := (∑ k : Fin 1024, x k * w k c) + b c

/-- A row of the expert. -/
def row (x : Fin 1024 → EReal) (w : Fin 1024 → Fin 2048 → EReal) (b : Fin 2048 → EReal) (v : Fin 1024 → Fin 1024 → EReal) (d : Fin 1024 → EReal) (c : Fin 1024) : EReal :=
  (∑ f : Fin 1024, gated (hidden x w b ⟨f.val, by omega⟩) (hidden x w b ⟨1024 + f.val, by omega⟩) * v f c) + d c

/-- Entry `c` of row `p` of block `t` of the experts' result: the row of the block's expert of the tokens' row, which is
    zero past the block's number of tokens; zero where the block has none. -/
def entry (nv : IVec ⟨1, ![288]⟩ 32) (xs : (⟨3, ![8, 147456, 128]⟩ : Shape).Idx → EReal) (w : (⟨3, ![32, 1024, 2048]⟩ : Shape).Idx → EReal) (b : (⟨3, ![32, 1, 2048]⟩ : Shape).Idx → EReal)
    (v : (⟨3, ![32, 1024, 1024]⟩ : Shape).Idx → EReal) (d : (⟨3, ![32, 1, 1024]⟩ : Shape).Idx → EReal) (e : Fin 32) (t : Fin 288) (p : Fin 512) (c : Fin 1024) : EReal :=
  Scalar.select (IntOp.cmpi .sgt (nv (ix1 t)) 0#32)
    (row (fun k => Scalar.select (IntOp.cmpi .slt (BitVec.ofNat 32 p.val) (nv (ix1 t))) (xs (ix3 (⟨k.val / 128, by omega⟩ : Fin 8) (⟨t.val * 512 + p.val, by omega⟩ : Fin 147456) (⟨k.val % 128, by omega⟩ : Fin 128))) (0 : EReal))
      (fun k c => w (ix3 e k c)) (fun c => b (ix3 e (0 : Fin 1) c)) (fun k c => v (ix3 e k c)) (fun c => d (ix3 e (0 : Fin 1) c)) c) (0 : EReal)

end Cert.Expert

end
-- ==== Proof.ExpertsReads.lean ====
/-
  The values of the experts' body read at an index over the extended reals.
-/
module

public import proofs.«01_k».proof.Proof.ExpertsBody
public import proofs.«01_k».proof.Proof.ExpertsSpec
public import Idealize.ShloMosaic.Lib.Pipeline.ValueKit
public import Idealize.ShloMosaic.Lib.Pointwise

@[expose] public section

set_option maxRecDepth 16384

noncomputable section

namespace Cert.Experts

open Idealize.ShloMosaic
open Cert.Kernel2Ideal Cert.Kernel2Ideal.Gen

/-- The first product with its bias. -/
def hid (r : FVec Ideal S512x1024 .bf16) (f : Vec Ideal S1024x2048 .bf16) (b : Vec Ideal S1x1x2048 .f32) : FVec Ideal S512x2048 .f32 :=
  addf (matmul (φ₂ := .bf16) dot_S512x1024_S1024x2048_S512x2048_1_0_0_1_n_n none r (f : FVec Ideal S1024x2048 .bf16) (constant S512x2048 .f32 0x00000000#32))
    (broadcastTo S512x2048 (shapeCast S1x2048 (b : FVec Ideal S1x1x2048 .f32) shapeCasts_S1x1x2048_S1x2048) broadcasts_S1x2048_S512x2048)

theorem hid_at (r : FVec Ideal S512x1024 .bf16) (f : Vec Ideal S1024x2048 .bf16) (b : Vec Ideal S1x1x2048 .f32) (p : Fin 512) (c : Fin 2048) :
    hid r f b (ix2 p c) = Cert.Expert.hidden (fun k => r (ix2 p k)) (fun k c => f (ix2 k c)) (fun c => b (ix3 0 0 c)) c := by
  pointwise [hid, Cert.Expert.hidden]

/-- The gated halves. -/
def act (h : FVec Ideal S512x2048 .f32) : FVec Ideal S512x1024 .f32 :=
  mulf (addf (minimumf (broadcast S512x1024 (Scalar.ofBits .f32 0x40E00000#32)) (maximumf (broadcast S512x1024 (Scalar.ofBits .f32 0xC0E00000#32)) (extractStridedSlice S512x1024 ![0, 1024] h slices_S512x2048_o0_1024_S512x1024)))
      (broadcast S512x1024 (Scalar.ofBits .f32 0x3F800000#32)))
    (mulf (minimumf (extractStridedSlice S512x1024 ![0, 0] h slices_S512x2048_o0_0_S512x1024) (broadcast S512x1024 (Scalar.ofBits .f32 0x40E00000#32)))
      (logistic (mulf (broadcast S512x1024 (Scalar.ofBits .f32 0x3FD9DB23#32)) (minimumf (extractStridedSlice S512x1024 ![0, 0] h slices_S512x2048_o0_0_S512x1024) (broadcast S512x1024 (Scalar.ofBits .f32 0x40E00000#32))))))

theorem act_at (h : FVec Ideal S512x2048 .f32) (p : Fin 512) (f : Fin 1024) :
    act h (ix2 p f) = Cert.Expert.gated (h (ix2 p ⟨f.val, by omega⟩)) (h (ix2 p ⟨1024 + f.val, by omega⟩)) := by
  pointwise [act, Cert.Expert.gated]
  try rfl

/-- The second product with its bias. -/
def fin (a : FVec Ideal S512x1024 .bf16) (g : Vec Ideal S1024x1024 .bf16) (d : Vec Ideal S1x1x1024 .f32) : FVec Ideal S512x1024 .f32 :=
  addf (matmul (φ₂ := .bf16) dot_S512x1024_S1024x1024_S512x1024_1_0_0_1_n_n none a (g : FVec Ideal S1024x1024 .bf16) (constant S512x1024 .f32 0x00000000#32))
    (broadcastTo S512x1024 (shapeCast S1x1024 (d : FVec Ideal S1x1x1024 .f32) shapeCasts_S1x1x1024_S1x1024) broadcasts_S1x1024_S512x1024)

theorem fin_at (a : FVec Ideal S512x1024 .bf16) (g : Vec Ideal S1024x1024 .bf16) (d : Vec Ideal S1x1x1024 .f32) (p : Fin 512) (c : Fin 1024) :
    fin a g d (ix2 p c) = (∑ f : Fin 1024, a (ix2 p f) * g (ix2 f c)) + d (ix3 0 0 c) := by
  pointwise [fin]

/-- The window of the whole of a shape. -/
theorem window_whole {s : Shape} (x : s.Idx → EReal) {off : Fin s.rank → ℕ} (inb : ∀ a, off a + s.size a ≤ s.size a) : VecWindow.window x off s.size inb = x :=
  funext fun y => congrArg x (Rect.emb_unit_full inb y)

/-- The expert is the two products. -/
theorem pay11_eq (r : FVec Ideal S512x1024 .bf16) (f : Vec Ideal S1024x2048 .bf16) (b : Vec Ideal S1x1x2048 .f32) (g : Vec Ideal S1024x1024 .bf16) (d : Vec Ideal S1x1x1024 .f32) :
    k0_pay11 r f b g d = fin (truncf .bf16 (act (hid r f b)) bitsLt_bf16_f32) g d := rfl

/-- A row of the expert. -/
theorem pay11_at (r : FVec Ideal S512x1024 .bf16) (f : Vec Ideal S1024x2048 .bf16) (b : Vec Ideal S1x1x2048 .f32) (g : Vec Ideal S1024x1024 .bf16) (d : Vec Ideal S1x1x1024 .f32) (p : Fin 512) (c : Fin 1024) :
    k0_pay11 r f b g d (ix2 p c) = Cert.Expert.row (fun k => r (ix2 p k)) (fun k c => f (ix2 k c)) (fun c => b (ix3 0 0 c)) (fun k c => g (ix2 k c)) (fun c => d (ix3 0 0 c)) c := by
  rw [pay11_eq, fin_at]
  unfold Cert.Expert.row
  refine congrArg (· + _) (Finset.sum_congr rfl fun k _ => congrArg (· * _) ?_)
  refine (act_at _ p k).trans ?_
  rw [hid_at, hid_at]

/-- Plane `j` of a block. -/
theorem window_plane (x : Vec Ideal S8x512x128 .bf16) (j : ℕ) (hj : j < 8) (inb : ∀ a, (![j, 0, 0] : Fin 3 → ℕ) a + (![1, 512, 128] : Fin 3 → ℕ) a ≤ S8x512x128.size a) (p : Fin 512) (l : Fin 128) :
    VecWindow.window (s := S8x512x128) x ![j, 0, 0] ![1, 512, 128] inb (ix3 0 p l) = x (ix3 ⟨j, hj⟩ p l) := by
  unfold VecWindow.window
  refine congrArg x (funext fun a => Fin.ext ?_)
  rw [ValueKit.rect_emb_unit_val]
  fin_cases a
  · rfl
  · exact Nat.zero_add _
  · exact Nat.zero_add _

/-- An entry of a plane, by numbers. -/
theorem plane_eq (x : Vec Ideal S8x512x128 .bf16) (p : Fin 512) (a b : Fin 8) (l l' : Fin 128) (h : a.val = b.val) (hl : l.val = l'.val) : x (ix3 a p l) = x (ix3 b p l') := by
  obtain rfl := Fin.ext h
  obtain rfl := Fin.ext hl
  rfl

/-- The rows of the planes, side by side, the ones past the block's number of rows zero. -/
theorem rows_at (n : BitVec 32) (x : Vec Ideal S8x512x128 .bf16) (p : Fin 512) (k : Fin 1024) :
    rowsOf (F := Ideal) n x (ix2 p k) = Scalar.select (IntOp.cmpi .slt (BitVec.ofNat 32 p.val) n) (x (ix3 ⟨k.val / 128, by omega⟩ p ⟨k.val % 128, by omega⟩)) (0 : EReal) := by
  pointwise [rowsOf, k0_pay10]
  refine congrArg (fun z => Scalar.select (IntOp.cmpi .slt (BitVec.ofNat 32 p.val) n) z (0 : EReal)) ?_
  split_ifs <;> exact (window_plane x _ (by decide) _ p _).trans (plane_eq x p _ _ _ _ (by dsimp only; omega) (by dsimp only; omega))

/-- A row of the expert of a block, entry `128 j + l` of it stored at lane `l` of plane `j`. -/
theorem planes_at (r : FVec Ideal S512x1024 .bf16) (f : Vec Ideal S1024x2048 .bf16) (b : Vec Ideal S1x1x2048 .f32) (g : Vec Ideal S1024x1024 .bf16) (d : Vec Ideal S1x1x1024 .f32)
    (j : Fin 8) (p : Fin 512) (l : Fin 128) :
    planes r f b g d (ix3 j p l)
      = Cert.Expert.row (fun k => r (ix2 p k)) (fun k c => f (ix2 k c)) (fun c => b (ix3 0 0 c)) (fun k c => g (ix2 k c)) (fun c => d (ix3 0 0 c)) ⟨128 * j.val + l.val, by omega⟩ := by
  rw [← pay11_at]
  unfold planes expert
  rw [window_whole, window_whole, window_whole, window_whole]
  generalize hE : k0_pay11 r f b g d = e
  match j with
  | ⟨0, _⟩ => exact (show k0_pay12 r f b g d (ix3 0 p l) = _ from by subst hE; pointwise [k0_pay12])
  | ⟨1, _⟩ => exact (show k0_pay13 r f b g d (ix3 0 p l) = _ from by subst hE; pointwise [k0_pay13])
  | ⟨2, _⟩ => exact (show k0_pay3 e (ix3 0 p l) = _ from by pointwise [k0_pay3])
  | ⟨3, _⟩ => exact (show k0_pay4 e (ix3 0 p l) = _ from by pointwise [k0_pay4])
  | ⟨4, _⟩ => exact (show k0_pay5 e (ix3 0 p l) = _ from by pointwise [k0_pay5])
  | ⟨5, _⟩ => exact (show k0_pay6 e (ix3 0 p l) = _ from by pointwise [k0_pay6])
  | ⟨6, _⟩ => exact (show k0_pay7 e (ix3 0 p l) = _ from by pointwise [k0_pay7])
  | ⟨7, _⟩ => exact (show k0_pay8 e (ix3 0 p l) = _ from by pointwise [k0_pay8])

theorem off3_eq : ∀ t : Fin k0_t1_loop.trips, k0_off3 t = ![0, 128 * t.val, 0] := by decide
theorem off5_eq : ∀ t : Fin k0_t2_loop.trips, k0_off5 t = ![0, 128 * t.val, 0] := by decide

/-- A row of the block of 128 rows it lies in. -/
theorem window_rows {c : ℕ} (w : (⟨3, ![1, 1024, c]⟩ : Shape).Idx → EReal) (off : Fin 3 → ℕ) (inb : ∀ a, off a + (![1, 128, c] : Fin 3 → ℕ) a ≤ (⟨3, ![1, 1024, c]⟩ : Shape).size a)
    (k : Fin 1024) (l : Fin c) (h : off = ![0, 128 * (k.val / 128), 0]) :
    VecWindow.window (s := ⟨3, ![1, 1024, c]⟩) w off ![1, 128, c] inb (ix3 (0 : Fin 1) (⟨k.val % 128, Nat.mod_lt _ (by decide)⟩ : Fin 128) l) = w (ix3 0 k l) := by
  subst h
  unfold VecWindow.window
  refine congrArg w (funext fun a => Fin.ext ?_)
  rw [ValueKit.rect_emb_unit_val]
  fin_cases a
  · rfl
  · exact Nat.div_add_mod k.val 128
  · exact Nat.zero_add _

/-- The cast weights are the weights. -/
theorem cast1_at (w : Vec Ideal S1x1024x2048 .f32) (k : Fin 1024) (c : Fin 2048) : cast1 (F := Ideal) w (ix2 k c) = w (ix3 0 k c) := by
  unfold cast1 castAt1
  pointwise [k0_pay1]
  exact window_rows (c := 2048) w _ _ k c (off3_eq _)

theorem cast2_at (w : Vec Ideal S1x1024x1024 .f32) (k : Fin 1024) (c : Fin 1024) : cast2 (F := Ideal) w (ix2 k c) = w (ix3 0 k c) := by
  unfold cast2 castAt2
  pointwise [k0_pay2]
  exact window_rows (c := 1024) w _ _ k c (off5_eq _)

end Cert.Experts

end
-- ==== Proof.ExpertsWhole.lean ====
/-
  The experts' call: what the run leaves in the result array, at an index, over the extended reals.
-/
module

public import proofs.«01_k».proof.Proof.ExpertsFrame
public import proofs.«01_k».proof.Proof.ExpertsReads
public import Idealize.ShloMosaic.Lib.Pipeline.ValueKit
public import Idealize.ShloMosaic.Lib.Pipeline.Covers
public import Idealize.ShloMosaic.Lib.Pointwise

@[expose] public section

set_option maxRecDepth 16384

noncomputable section

namespace Cert.Experts

open Idealize.ShloMosaic Idealize.ShloMosaic.Pipeline Idealize.ShloMosaic.Rounds
open Cert.Kernel2Ideal Cert.Kernel2Ideal.Gen

variable (m : (ℓ : Loc nD τ sig) → Buf (Elt Ideal) ℓ) (h : Routed m)

/-- The expert of a block. -/
def expertOf (t : Fin 288) : Fin 32 := ⟨(experts m (ix1 t)).toNat, h.1 _⟩

/-- The result array. -/
def result (c : Dev nD) : Vec Ideal S8x147456x128 .bf16 := fun i =>
  Cert.Expert.entry (counts m) (V m c main_arg2) (V m c main_arg3) (V m c main_arg4) (V m c main_arg5) (V m c main_arg6) (expertOf m h ⟨(i 1).val / 512, Nat.div_lt_of_lt_mul (i 1).isLt⟩)
    ⟨(i 1).val / 512, Nat.div_lt_of_lt_mul (i 1).isLt⟩ ⟨(i 1).val % 512, Nat.mod_lt _ (by decide)⟩
    ⟨(i 0).val * 128 + (i 2).val, by have h0 : (i 0).val < 8 := (i 0).isLt; have h2 : (i 2).val < 128 := (i 2).isLt; omega⟩

theorem transform_0 : ∀ t : Fin grid0.N, cc0_transform_0 (grid0.coords t) = ![0, t.val, 0] := by decide +kernel
theorem transform_5 : ∀ t : Fin grid0.N, cc0_transform_5 (grid0.coords t) = ![0, t.val, 0] := by decide +kernel

theorem index_0 (t : Fin (cfg0 (adm m h)).N) : ((cfg0 (adm m h)).win 0).index t = ![0, t.val, 0] := transform_0 t
theorem index_5 (t : Fin (cfg0 (adm m h)).N) : ((cfg0 (adm m h)).win 5).index t = ![0, t.val, 0] := transform_5 t
theorem index_1 (t : Fin (cfg0 (adm m h)).N) : ((cfg0 (adm m h)).win 1).index t = ![(expertOf m h t).val, 0, 0] :=
  (map_1 _ _).trans (by rw [show (adm m h).1 = tables m from rfl, tables_0]; rfl)
theorem index_2 (t : Fin (cfg0 (adm m h)).N) : ((cfg0 (adm m h)).win 2).index t = ![(expertOf m h t).val, 0, 0] :=
  (map_2 _ _).trans (by rw [show (adm m h).1 = tables m from rfl, tables_0]; rfl)
theorem index_3 (t : Fin (cfg0 (adm m h)).N) : ((cfg0 (adm m h)).win 3).index t = ![(expertOf m h t).val, 0, 0] :=
  (map_3 _ _).trans (by rw [show (adm m h).1 = tables m from rfl, tables_0]; rfl)
theorem index_4 (t : Fin (cfg0 (adm m h)).N) : ((cfg0 (adm m h)).win 4).index t = ![(expertOf m h t).val, 0, 0] :=
  (map_4 _ _).trans (by rw [show (adm m h).1 = tables m from rfl, tables_0]; rfl)

theorem iblk_0 (c : Dev nD) (t : Fin (cfg0 (adm m h)).N) (j : Fin 8) (p : Fin 512) (l : Fin 128) (n : Fin 147456) (hn : n.val = t.val * 512 + p.val) :
    iblk m (adm m h) c 0 t (ix3 j p l) = V m c main_arg2 (ix3 j n l) := by
  blk_ext [iblk, index_0 m h t]

theorem iblk_1 (c : Dev nD) (t : Fin (cfg0 (adm m h)).N) (k : Fin 1024) (l : Fin 2048) :
    iblk m (adm m h) c 1 t (ix3 0 k l) = V m c main_arg3 (ix3 (expertOf m h t) k l) := by
  blk_ext [iblk, index_1 m h t]

theorem iblk_2 (c : Dev nD) (t : Fin (cfg0 (adm m h)).N) (l : Fin 2048) :
    iblk m (adm m h) c 2 t (ix3 0 0 l) = V m c main_arg4 (ix3 (expertOf m h t) 0 l) := by
  blk_ext [iblk, index_2 m h t]

theorem iblk_3 (c : Dev nD) (t : Fin (cfg0 (adm m h)).N) (k l : Fin 1024) :
    iblk m (adm m h) c 3 t (ix3 0 k l) = V m c main_arg5 (ix3 (expertOf m h t) k l) := by
  blk_ext [iblk, index_3 m h t]

theorem iblk_4 (c : Dev nD) (t : Fin (cfg0 (adm m h)).N) (l : Fin 1024) :
    iblk m (adm m h) c 4 t (ix3 0 0 l) = V m c main_arg6 (ix3 (expertOf m h t) 0 l) := by
  blk_ext [iblk, index_4 m h t]

theorem blocks_0 : ((cfg0 (adm m h)).win 5).nblk (0 : Fin 3) = 1 := (show _ = (8 + 8 - 1) / 8 from rfl).trans (by decide)
theorem blocks_1 : ((cfg0 (adm m h)).win 5).nblk (1 : Fin 3) = 288 := (show _ = (147456 + 512 - 1) / 512 from rfl).trans (by decide)
theorem blocks_2 : ((cfg0 (adm m h)).win 5).nblk (2 : Fin 3) = 1 := (show _ = (128 + 128 - 1) / 128 from rfl).trans (by decide)

/-- The output blocks fill the result array. -/
theorem covers_5 : ((cfg0 (adm m h)).win 5).Covers :=
  Pipeline.Window.covers_of_index_surj _ rfl (show ∀ a : Fin 3, 0 < S8x512x128.size a from by decide) fun β => by
    have b0 : (β (0 : Fin 3)).val < 1 := Nat.lt_of_lt_of_eq (β (0 : Fin 3)).isLt (blocks_0 m h)
    have b1 : (β (1 : Fin 3)).val < 288 := Nat.lt_of_lt_of_eq (β (1 : Fin 3)).isLt (blocks_1 m h)
    have b2 : (β (2 : Fin 3)).val < 1 := Nat.lt_of_lt_of_eq (β (2 : Fin 3)).isLt (blocks_2 m h)
    refine ⟨(⟨(β (1 : Fin 3)).val, b1⟩ : Fin 288), fun a => ?_⟩
    refine (congrFun (index_5 m h (⟨(β (1 : Fin 3)).val, b1⟩ : Fin 288)) a).trans ?_
    match a with
    | ⟨0, _⟩ => exact (Nat.lt_one_iff.mp b0).symm
    | ⟨1, _⟩ => rfl
    | ⟨2, _⟩ => exact (Nat.lt_one_iff.mp b2).symm

/-- Where an output block lies in the result array. -/
theorem emb_5 (t : Fin (cfg0 (adm m h)).N) (y : S8x512x128.Idx) :
    ((((cfg0 (adm m h)).win 5).blk t).view.emb y (0 : Fin 3) : ℕ) = (y 0).val ∧ ((((cfg0 (adm m h)).win 5).blk t).view.emb y (1 : Fin 3) : ℕ) = t.val * 512 + (y 1).val
      ∧ ((((cfg0 (adm m h)).win 5).blk t).view.emb y (2 : Fin 3) : ℕ) = (y 2).val := by
  refine ⟨?_, ?_, ?_⟩
  · blk_simp [index_5 m h t]
  · blk_simp [index_5 m h t]
  · blk_simp [index_5 m h t]

theorem idx_planes (y : S8x512x128.Idx) : y = ix3 (y 0 : Fin 8) (y 1 : Fin 512) (y 2 : Fin 128) := by
  funext a
  fin_cases a <;> rfl

/-- A block has tokens where their number is positive. -/
theorem cond_iff (n : BitVec 32) : k0_cond2 n = 1#1 ↔ IntOp.cmpi .sgt n 0#32 = 1#1 := by
  have key : ∀ b : BitVec 1, IntOp.cmpi .ne (b.setWidth 32) 0#32 = 1#1 ↔ b = 1#1 := by decide
  exact key (IntOp.cmpi .sgt n 0#32)

theorem select_one (x y : EReal) : Scalar.select 1#1 x y = x := rfl

/-- What a point leaves in its output block, at an index. -/
theorem outBlk_at (c : Dev nD) (t : Fin 288) (j : Fin 8) (p : Fin 512) (l : Fin 128) :
    outBlk m (adm m h) c t (ix3 j p l)
      = Cert.Expert.entry (counts m) (V m c main_arg2) (V m c main_arg3) (V m c main_arg4) (V m c main_arg5) (V m c main_arg6) (expertOf m h t) t p ⟨j.val * 128 + l.val, by omega⟩ := by
  have ht : t.val < 288 := t.isLt
  have hn : tokens (adm m h) t = counts m (ix1 t) := tables_1 m t
  unfold outBlk Cert.Expert.entry
  rw [hn]
  by_cases hc : IntOp.cmpi .sgt (counts m (ix1 t)) 0#32 = 1#1
  · rw [if_pos ((cond_iff _).mpr hc), hc]
    have hx : ∀ k : Fin 1024, rowsOf (F := Ideal) (counts m (ix1 t)) (iblk m (adm m h) c 0 t) (ix2 p k) = _ := fun k =>
      (rows_at _ _ p k).trans (congrArg (fun z => Scalar.select (IntOp.cmpi .slt (BitVec.ofNat 32 p.val) (counts m (ix1 t))) z (0 : EReal))
        (iblk_0 m h c t ⟨k.val / 128, by omega⟩ p ⟨k.val % 128, by omega⟩ ⟨t.val * 512 + p.val, by omega⟩ rfl))
    have hw := fun (k : Fin 1024) (q : Fin 2048) => (cast1_at (iblk m (adm m h) c 1 t) k q).trans (iblk_1 m h c t k q)
    have hv := fun (k : Fin 1024) (q : Fin 1024) => (cast2_at (iblk m (adm m h) c 3 t) k q).trans (iblk_3 m h c t k q)
    refine (planes_at _ _ _ _ _ j p l).trans (Eq.trans ?_ (select_one _ _).symm)
    refine congr (congr (congr (congr (congr (congrArg Cert.Expert.row (funext hx)) (funext fun k => funext (hw k))) (funext (iblk_2 m h c t))) (funext fun k => funext (hv k))) (funext (iblk_4 m h c t)))
      (Fin.ext (by show 128 * j.val + l.val = j.val * 128 + l.val; omega))
  · rw [if_neg (fun q => hc ((cond_iff _).mp q))]
    have h0 : ∀ b : BitVec 1, ¬ b = 1#1 → b = 0#1 := by decide
    rw [h0 _ hc]
    pointwise [k0_pay9]

/-- The result at an index, by where its coordinates lie. -/
theorem result_ix (c : Dev nD) (t : Fin 288) (j : Fin 8) (p : Fin 512) (l : Fin 128) (i : S8x147456x128.Idx) (h0 : (i 0).val = j.val) (h1 : (i 1).val = t.val * 512 + p.val) (h2 : (i 2).val = l.val) :
    result m h c i
      = Cert.Expert.entry (counts m) (V m c main_arg2) (V m c main_arg3) (V m c main_arg4) (V m c main_arg5) (V m c main_arg6) (expertOf m h t) t p ⟨j.val * 128 + l.val, by omega⟩ := by
  unfold result
  have e1 : ∀ q, (⟨(i 1).val / 512, q⟩ : Fin 288) = t := fun q => Fin.ext (by show (i 1).val / 512 = t.val; omega)
  have e2 : ∀ q, (⟨(i 1).val % 512, q⟩ : Fin 512) = p := fun q => Fin.ext (by show (i 1).val % 512 = p.val; omega)
  have e3 : ∀ q, (⟨(i 0).val * 128 + (i 2).val, q⟩ : Fin 1024) = ⟨j.val * 128 + l.val, by omega⟩ := fun q => Fin.ext (by show (i 0).val * 128 + (i 2).val = _; rw [h0, h2])
  exact congr (congr (congr (congrArg (Cert.Expert.entry _ _ _ _ _ _) (congrArg (expertOf m h) (e1 _))) (e1 _)) (e2 _)) (e3 _)

/-- What a point leaves in its output block is the result there. -/
theorem outBlk_result (c : Dev nD) (t : Fin (cfg0 (adm m h)).N) (y : S8x512x128.Idx) :
    outBlk m (adm m h) c t y = result m h c ((((cfg0 (adm m h)).win 5).blk t).view.emb y) := by
  have hh := emb_5 m h t y
  exact (congrArg _ (idx_planes y)).trans ((outBlk_at m h c t (y 0) (y 1) (y 2)).trans (result_ix m h c t _ _ _ _ hh.1 hh.2.1 hh.2.2).symm)

/-- The result array after the run. -/
theorem arr_result (c : Dev nD) : (dats m (adm m h) c).arrAt 5 (cfg0 (adm m h)).N = result m h c := by
  refine (dats m (adm m h) c).arrAt_eq_of_covers 5 _ (covers_5 m h) fun t hf y => ?_
  blk_simp
  rw [after_5]
  exact outBlk_result m h c t y

end Cert.Experts

end
-- ==== Proof.ExpertsPlain.lean ====
/-
  The experts of the plain mixture, read at an index.
-/
module

public import proofs.«01_k».proof.Proof.Gen.Reference2Ideal.Run
public import proofs.«01_k».proof.Proof.ExpertsSpec
public import Idealize.ShloMosaic.Lib.Pointwise

@[expose] public section

set_option maxRecDepth 16384

noncomputable section

namespace Cert.Plain2

open Idealize.ShloMosaic Cert.Reference2Ideal Cert.Reference2Ideal.Gen

/-- The dimension numbers of taking matrices of a table. -/
abbrev takes (N A B n : ℕ) (wf : GatherDims.WF ⟨3, ![N, A, B]⟩ ⟨2, ![n, 1]⟩ ⟨3, ![n, A, B]⟩ [1, 2] [0] [] [0] [] 1 ![1, A, B]) : GatherDims ⟨3, ![N, A, B]⟩ ⟨2, ![n, 1]⟩ ⟨3, ![n, A, B]⟩ :=
  ⟨[1, 2], [0], [], [], [0], 1, ![1, A, B], wf⟩

/-- The rows of a table of matrices that an array of numbers names, read at an index. -/
theorem gather_at {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (i : Fin A) (j : Fin B) (e : Fin N) (he : (idx (ix2 t 0)).toInt.toNat = e.val) :
    Host.gather (takes N A B n wf) x idx (ix3 t i j) = x (ix3 e i j) := by
  unfold Host.gather
  refine congrArg x (funext fun a => Fin.ext ?_)
  show (takes N A B n wf).start (ix3 t i j) idx a + (takes N A B n wf).batchCoord (ix3 t i j) a + (takes N A B n wf).offCoord (ix3 t i j) a = (ix3 e i j a).val
  rw [GatherDims.batchCoord_eq_zero _ _ _ List.not_mem_nil, Nat.add_zero]
  match a with
  | ⟨0, _⟩ =>
    rw [show (⟨0, by assumption⟩ : Fin (⟨3, ![N, A, B]⟩ : Shape).rank) = (0 : Fin 3) from rfl]
    rw [GatherDims.offCoord_eq_zero _ _ _ (fun h => ((GatherDims.mem_sKept _ _).mp h).1 (List.mem_singleton.mpr rfl)), Nat.add_zero]
    unfold GatherDims.start
    rw [dif_pos (show ((0 : Fin 3) : Fin (⟨3, ![N, A, B]⟩ : Shape).rank) ∈ (takes N A B n wf).startIndexMap from List.mem_singleton.mpr rfl)]
    have hs : ∀ h, (takes N A B n wf).siIdx (ix3 t i j) h = ix2 t 0 := fun h => by
      funext b; refine Fin.ext ?_
      match b with
      | ⟨0, _⟩ => rfl
      | ⟨1, _⟩ => exact Nat.lt_one_iff.mp (Fin.isLt _)
    rw [hs, he]
    show min e.val (N - 1) = e.val
    have := e.isLt
    omega
  | ⟨1, _⟩ =>
    rw [show (⟨1, by assumption⟩ : Fin (⟨3, ![N, A, B]⟩ : Shape).rank) = (1 : Fin 3) from rfl]
    unfold GatherDims.start
    rw [dif_neg (show ¬ ((1 : Fin 3) : Fin (⟨3, ![N, A, B]⟩ : Shape).rank) ∈ (takes N A B n wf).startIndexMap from fun h => absurd (List.mem_singleton.mp h) (by decide : ¬ (1 : Fin 3) = 0))]
    exact Nat.zero_add _
  | ⟨2, _⟩ =>
    rw [show (⟨2, by assumption⟩ : Fin (⟨3, ![N, A, B]⟩ : Shape).rank) = (2 : Fin 3) from rfl]
    unfold GatherDims.start
    rw [dif_neg (show ¬ ((2 : Fin 3) : Fin (⟨3, ![N, A, B]⟩ : Shape).rank) ∈ (takes N A B n wf).startIndexMap from fun h => absurd (List.mem_singleton.mp h) (by decide : ¬ (2 : Fin 3) = 0))]
    exact Nat.zero_add _

/-- The experts' numbers as the table's. -/
def pick (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The tokens' rows of each block. -/
def tokensOf (nv : IVec S288 32) (xs : FVec Ideal S8x147456x128 .bf16) : FVec Ideal S288x512x1024 .f32 :=
  select (broadcastInDim S288x512x1024 ![0, 1, 2] bcast_S288x512x1_S288x512x1024_0_1_2 (cmpi .slt (broadcastInDim S288x512x1 ![0, 1, 2] bcast_S1x512x1_S288x512x1_0_1_2 (broadcastInDim S1x512x1 ![1] bcast_S512_S1x512x1_1 (iotaInDim S512 32 0))) (broadcastInDim S288x512x1 ![0, 1, 2] bcast_S288x1x1_S288x512x1_0_1_2 (broadcastInDim S288x1x1 ![0] bcast_S288_S288x1x1_0 nv))))
    (shapeCast _ (transpose S147456x8x128 [1, 0, 2] (extf .f32 xs bitsLt_bf16_f32) transposes_S8x147456x128_S147456x8x128_1_0_2) shapeCasts_S147456x8x128_S288x512x1024) (broadcastInDim S288x512x1024 ![] bcast_S_S288x512x1024 (id (constant S_ .f32 0x00000000#32)))

theorem tokensOf_at (nv : IVec S288 32) (xs : FVec Ideal S8x147456x128 .bf16) (t : Fin 288) (p : Fin 512) (k : Fin 1024) :
    tokensOf nv xs (ix3 t p k) = Scalar.select (IntOp.cmpi .slt (BitVec.ofNat 32 p.val) (nv (ix1 t))) (xs (ix3 ⟨k.val / 128, by omega⟩ ⟨t.val * 512 + p.val, by omega⟩ ⟨k.val % 128, by omega⟩)) (0 : EReal) := by
  pointwise [tokensOf, id]

/-- The first product of each block, with its bias. -/
def hid (x : FVec Ideal S288x512x1024 .f32) (w : FVec Ideal S288x1024x2048 .f32) (b : FVec Ideal S288x1x2048 .f32) : FVec Ideal S288x512x2048 .f32 :=
  addf (Host.dotGeneral dot_S288x512x1024_S288x1024x2048_S288x512x2048_2_1_1_2_0_0 none x w) (broadcastInDim S288x512x2048 ![0, 1, 2] bcast_S288x1x2048_S288x512x2048_0_1_2 b)

theorem hid_at (x : FVec Ideal S288x512x1024 .f32) (w : FVec Ideal S288x1024x2048 .f32) (b : FVec Ideal S288x1x2048 .f32) (t : Fin 288) (p : Fin 512) (c : Fin 2048) :
    hid x w b (ix3 t p c) = Cert.Expert.hidden (fun k => x (ix3 t p k)) (fun k c => w (ix3 t k c)) (fun c => b (ix3 t 0 c)) c := by
  pointwise [hid]
  rfl

/-- The gated rows. -/
def act (h : FVec Ideal S288x512x2048 .f32) : FVec Ideal S288x512x1024 .f32 :=
  mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] h slices_S288x512x2048_S288x512x1024_0_0_1024))) (broadcastInDim S288x512x1024 ![] bcast_S_S288x512x1024 (constant S_ .f32 0x3F800000#32)))
    (mulf (minimumf (extractStridedSlice S288x512x1024 ![0, 0, 0] h slices_S288x512x2048_S288x512x1024_0_0_0) (broadcastInDim S288x512x1024 ![] bcast_S_S288x512x1024 (constant S_ .f32 0x40E00000#32)))
      (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] h slices_S288x512x2048_S288x512x1024_0_0_0) (broadcastInDim S288x512x1024 ![] bcast_S_S288x512x1024 (constant S_ .f32 0x40E00000#32)))))))))

theorem act_at (h : FVec Ideal S288x512x2048 .f32) (t : Fin 288) (p : Fin 512) (f : Fin 1024) :
    act h (ix3 t p f) = Cert.Expert.gated (h (ix3 t p ⟨f.val, by omega⟩)) (h (ix3 t p ⟨1024 + f.val, by omega⟩)) := by
  pointwise [act, id]
  unfold Cert.Expert.gated Ideal.logistic
  rw [show Ideal.ofBits .f32 0x3F800000#32 = (1 : EReal) from by pointwise]

/-- The second product of each block, with its bias; zero for a block without tokens. -/
def fin (nv : IVec S288 32) (a : FVec Ideal S288x512x1024 .f32) (v : FVec Ideal S288x1024x1024 .f32) (d : FVec Ideal S288x1x1024 .f32) : FVec Ideal S288x512x1024 .f32 :=
  select (broadcastInDim S288x512x1024 ![0, 1, 2] bcast_S288x1x1_S288x512x1024_0_1_2 (cmpi .sgt (broadcastInDim S288x1x1 ![0] bcast_S288_S288x1x1_0 nv) (broadcastInDim S288x1x1 ![] bcast_S_S288x1x1 (constantI S_ 32 0#32))))
    (addf (Host.dotGeneral dot_S288x512x1024_S288x1024x1024_S288x512x1024_2_1_1_2_0_0 none a v) (broadcastInDim S288x512x1024 ![0, 1, 2] bcast_S288x1x1024_S288x512x1024_0_1_2 d)) (broadcastInDim S288x512x1024 ![] bcast_S_S288x512x1024 (id (constant S_ .f32 0x00000000#32)))

theorem fin_at (nv : IVec S288 32) (a : FVec Ideal S288x512x1024 .f32) (v : FVec Ideal S288x1024x1024 .f32) (d : FVec Ideal S288x1x1024 .f32) (t : Fin 288) (p : Fin 512) (c : Fin 1024) :
    fin nv a v d (ix3 t p c) = Scalar.select (IntOp.cmpi .sgt (nv (ix1 t)) 0#32) ((∑ f : Fin 1024, a (ix3 t p f) * v (ix3 t f c)) + d (ix3 t 0 c)) (0 : EReal) := by
  pointwise [fin, id]

/-- The planes of the rows. -/
def planes (y : FVec Ideal S288x512x1024 .f32) : FVec Ideal S8x147456x128 .bf16 :=
  transpose S8x147456x128 [1, 0, 2] (shapeCast _ (truncf .bf16 y bitsLt_bf16_f32) shapeCasts_S288x512x1024_S147456x8x128) transposes_S147456x8x128_S8x147456x128_1_0_2

theorem planes_at (y : FVec Ideal S288x512x1024 .f32) (j : Fin 8) (n : Fin 147456) (l : Fin 128) :
    planes y (ix3 j n l) = y (ix3 ⟨n.val / 512, by omega⟩ ⟨n.val % 512, by omega⟩ ⟨j.val * 128 + l.val, by omega⟩) := by
  pointwise [planes]

/-- A number of a table's entry is not negative. -/
theorem pick_at (be : IVec S288 32) (t : Fin 288) (h : (be (ix1 t)).toNat < 32) : (pick be (ix2 t 0)).toInt.toNat = (be (ix1 t)).toNat := by
  have hp : pick be (ix2 t 0) = Scalar.select (IntOp.cmpi .slt (be (ix1 t)) 0#32) (be (ix1 t) + 32#32) (be (ix1 t)) := by pointwise [pick]; rfl
  have hs : IntOp.cmpi .slt (be (ix1 t)) 0#32 = 0#1 := by
    show BitVec.ofBool ((be (ix1 t)).slt 0#32) = 0#1
    rw [BitVec.slt_zero_eq_msb, BitVec.msb_eq_false_iff_two_mul_lt.mpr (by omega)]
    rfl
  rw [hp, hs]
  show ((be (ix1 t)).toInt).toNat = _
  rw [BitVec.toInt_eq_toNat_of_lt (by omega)]
  rfl

variable (m : (ℓ : Loc nD τ sig) → Buf (Elt Ideal) ℓ)

/-- The plain mixture's result by its stages. -/
theorem result_eq (c : Dev nD) : Cert.Reference2Ideal.Value.res_main_v67 m c
    = planes (fin (m ((c.tc : Thread nD τ).loc main_arg1))
        (act (hid (tokensOf (m ((c.tc : Thread nD τ).loc main_arg1)) (m ((c.tc : Thread nD τ).loc main_arg2)))
          (Host.gather gather_S32x1024x2048_S288x1_S288x1024x2048_12_0_n_n_0_1_110242048 (m ((c.tc : Thread nD τ).loc main_arg3)) (pick (m ((c.tc : Thread nD τ).loc main_arg0))))
          (Host.gather gather_S32x1x2048_S288x1_S288x1x2048_12_0_n_n_0_1_112048 (m ((c.tc : Thread nD τ).loc main_arg4)) (pick (m ((c.tc : Thread nD τ).loc main_arg0))))))
        (Host.gather gather_S32x1024x1024_S288x1_S288x1024x1024_12_0_n_n_0_1_110241024 (m ((c.tc : Thread nD τ).loc main_arg5)) (pick (m ((c.tc : Thread nD τ).loc main_arg0))))
        (Host.gather gather_S32x1x1024_S288x1_S288x1x1024_12_0_n_n_0_1_111024 (m ((c.tc : Thread nD τ).loc main_arg6)) (pick (m ((c.tc : Thread nD τ).loc main_arg0))))) := rfl

/-- The plain mixture's result at an index. -/
theorem result_at (c : Dev nD) (j : Fin 8) (n : Fin 147456) (l : Fin 128) (e : Fin 32)
    (he : ((show IVec S288 32 from m ((c.tc : Thread nD τ).loc main_arg0)) (ix1 (⟨n.val / 512, by omega⟩ : Fin 288))).toNat = e.val) :
    Cert.Reference2Ideal.Value.res_main_v67 m c (ix3 j n l)
      = Cert.Expert.entry (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) e
        ⟨n.val / 512, by omega⟩ ⟨n.val % 512, by omega⟩ ⟨j.val * 128 + l.val, by omega⟩ := by
  have hb := (pick_at (m ((c.tc : Thread nD τ).loc main_arg0)) ⟨n.val / 512, by omega⟩ (by rw [show _ = e.val from he]; exact e.isLt)).trans he
  rw [result_eq, planes_at, fin_at]
  unfold Cert.Expert.entry Cert.Expert.row
  refine congrArg (fun z => Scalar.select _ z (0 : EReal)) (congrArg₂ (· + ·) (Finset.sum_congr rfl fun f _ => congrArg₂ (· * ·) ?_ ?_) ?_)
  · rw [act_at, hid_at, hid_at]
    have hx := fun k => tokensOf_at (m ((c.tc : Thread nD τ).loc main_arg1)) (m ((c.tc : Thread nD τ).loc main_arg2)) ⟨n.val / 512, by omega⟩ ⟨n.val % 512, by omega⟩ k
    have hw := fun (k : Fin 1024) (c' : Fin 2048) => gather_at (n := 288) gather_S32x1024x2048_S288x1_S288x1024x2048_12_0_n_n_0_1_110242048.wf (m ((c.tc : Thread nD τ).loc main_arg3)) _ ⟨n.val / 512, by omega⟩ k c' e hb
    have hg := fun (c' : Fin 2048) => gather_at (n := 288) gather_S32x1x2048_S288x1_S288x1x2048_12_0_n_n_0_1_112048.wf (m ((c.tc : Thread nD τ).loc main_arg4)) _ ⟨n.val / 512, by omega⟩ (0 : Fin 1) c' e hb
    have hh := fun c' => congr (congr (congr (congrArg Cert.Expert.hidden (funext hx)) (funext fun k => funext (hw k))) (funext hg)) (rfl : c' = c')
    exact congrArg₂ Cert.Expert.gated (hh _) (hh _)
  · exact gather_at (n := 288) gather_S32x1024x1024_S288x1_S288x1024x1024_12_0_n_n_0_1_110241024.wf (m ((c.tc : Thread nD τ).loc main_arg5)) _ _ _ _ e hb
  · exact gather_at (n := 288) gather_S32x1x1024_S288x1_S288x1x1024_12_0_n_n_0_1_111024.wf (m ((c.tc : Thread nD τ).loc main_arg6)) _ _ _ _ e hb

end Cert.Plain2

end
-- ==== Proof.ExpertsEqual.lean ====
/-
  The experts' call against the plain mixture: the precondition read, the run over each reading of the floats, and the equality
  of the two results.
-/
module

public import proofs.«01_k».proof.Defs
public import proofs.«01_k».proof.Proof.ExpertsWhole
public import proofs.«01_k».proof.Proof.ExpertsPlain
public import proofs.«01_k».proof.Proof.Gen.Kernel2
public import proofs.«01_k».proof.Proof.Gen.Kernel2Ideal
public import proofs.«01_k».proof.Proof.Gen.Reference2Ideal
public import proofs.«01_k».proof.Proof.Gen.Pre_routed
public import Idealize.ShloMosaic.Adequacy
public import Idealize.ShloMosaic.Init

@[expose] public section

set_option maxRecDepth 16384

noncomputable section

namespace Cert.Experts

open Idealize.ShloMosaic Idealize.SL.Sem

variable {F : FTy → Type} [FloatOps F]

/-- The printed program and its idealization have one body table. -/
theorem bodies_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | ⟨0, _⟩, (t, s) => exact (by rfl)
  | ⟨n + 1, h⟩, _ => exact absurd h (Nat.not_lt.2 (Nat.le_add_left _ _))

theorem defs_eq : Cert.Kernel2.defs (F := F) = Cert.Kernel2Ideal.defs (F := F) := congrArg (Pipeline.defs Cert.Kernel2Ideal.pcfgs) bodies_eq

/-- The precondition says the tables route. -/
theorem routed (m : (ℓ : Loc Cert.Kernel2Ideal.nD Cert.Kernel2Ideal.τ Cert.Kernel2Ideal.sig) → Buf (Elt F) ℓ)
    (h : (Cert.Pre_routed.fn (F := F) (V m 0 Cert.Kernel2Ideal.main_arg0) (V m 0 Cert.Kernel2Ideal.main_arg1) (V m 0 Cert.Kernel2Ideal.main_arg2) (V m 0 Cert.Kernel2Ideal.main_arg3)
        (V m 0 Cert.Kernel2Ideal.main_arg4) (V m 0 Cert.Kernel2Ideal.main_arg5) (V m 0 Cert.Kernel2Ideal.main_arg6)).1 = (fun _ => 1#1)
      ∧ (Cert.Pre_routed.fn (F := F) (V m 0 Cert.Kernel2Ideal.main_arg0) (V m 0 Cert.Kernel2Ideal.main_arg1) (V m 0 Cert.Kernel2Ideal.main_arg2) (V m 0 Cert.Kernel2Ideal.main_arg3)
        (V m 0 Cert.Kernel2Ideal.main_arg4) (V m 0 Cert.Kernel2Ideal.main_arg5) (V m 0 Cert.Kernel2Ideal.main_arg6)).2 = (fun _ => 1#1)) : Routed m :=
  ⟨fun x => pre_named _ _ _ _ _ _ _ h x, fun t t' ht he hn => pre_follows _ _ _ _ _ _ _ h t t' ht he hn⟩

/-- The idealized program runs to the end with every counter at zero and its arguments unchanged. -/
theorem frame_ideal : Cert.quiescent_Kernel2Ideal (hKernel2Ideal := Cert.Kernel2Ideal.Gen.facts) (hPre_routed := Cert.Pre_routed.Gen.facts) := fun m ρ hpre =>
  (θ_run _ _ _).mono (fun _ h => ⟨fun c => (h.1 c).2, h.2⟩) (run_out m ρ (routed m (hpre 0)))

/-- The printed program too. -/
theorem frame_bits : Cert.quiescent_Kernel2 (hKernel2 := Cert.Kernel2.Gen.facts) (hPre_routed := Cert.Pre_routed.Gen.facts) := fun m ρ hpre =>
  Eq.mpr (congrArg (fun d => θ_run d _ _ _) (defs_eq (F := Bits)))
    ((θ_run _ _ _).mono (fun _ h => ⟨fun c => (h.1 c).2, h.2⟩) (run_out (F := Bits) m ρ (routed (F := Bits) m (hpre 0))))

/-- The plain mixture runs to the end with every counter at zero and its arguments unchanged. -/
theorem frame_plain : Cert.quiescent_Reference2Ideal (hReference2Ideal := Cert.Reference2Ideal.Gen.facts) := fun m ρ _ =>
  (θ_run _ _ _).mono (fun _ h => ⟨fun c => (h c).2, sem_eq_zero_of_no_sems (by decide) _⟩) (Cert.Reference2Ideal.Value.run m ρ)

theorem idx_eq (i : Cert.Kernel2Ideal.S8x147456x128.Idx) : i = ix3 (i 0 : Fin 8) (i 1 : Fin 147456) (i 2 : Fin 128) := by
  funext a
  fin_cases a <;> rfl

/-- From equal arguments the two results are equal. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (h : Routed m) (c : Dev Cert.Kernel2Ideal.nD)
    (h0 : m' ((c.tc : Thread Cert.Reference2Ideal.nD Cert.Reference2Ideal.τ).loc Cert.Reference2Ideal.main_arg0) = V m c Cert.Kernel2Ideal.main_arg0)
    (h1 : m' ((c.tc : Thread Cert.Reference2Ideal.nD Cert.Reference2Ideal.τ).loc Cert.Reference2Ideal.main_arg1) = V m c Cert.Kernel2Ideal.main_arg1)
    (h2 : m' ((c.tc : Thread Cert.Reference2Ideal.nD Cert.Reference2Ideal.τ).loc Cert.Reference2Ideal.main_arg2) = V m c Cert.Kernel2Ideal.main_arg2)
    (h3 : m' ((c.tc : Thread Cert.Reference2Ideal.nD Cert.Reference2Ideal.τ).loc Cert.Reference2Ideal.main_arg3) = V m c Cert.Kernel2Ideal.main_arg3)
    (h4 : m' ((c.tc : Thread Cert.Reference2Ideal.nD Cert.Reference2Ideal.τ).loc Cert.Reference2Ideal.main_arg4) = V m c Cert.Kernel2Ideal.main_arg4)
    (h5 : m' ((c.tc : Thread Cert.Reference2Ideal.nD Cert.Reference2Ideal.τ).loc Cert.Reference2Ideal.main_arg5) = V m c Cert.Kernel2Ideal.main_arg5)
    (h6 : m' ((c.tc : Thread Cert.Reference2Ideal.nD Cert.Reference2Ideal.τ).loc Cert.Reference2Ideal.main_arg6) = V m c Cert.Kernel2Ideal.main_arg6) :
    Cert.Reference2Ideal.Value.res_main_v67 m' c = result m h c := by
  obtain rfl : c = 0 := Subsingleton.elim (α := Fin 1) _ _
  funext i
  have hi : (i 1).val < 147456 := (i 1).isLt
  refine (congrArg (Cert.Reference2Ideal.Value.res_main_v67 m' 0) (idx_eq i)).trans ?_
  refine (Cert.Plain2.result_at m' 0 (i 0) (i 1) (i 2) (expertOf m h ⟨(i 1).val / 512, by omega⟩) (congrArg (fun f : IVec Cert.Kernel2Ideal.S288 32 => (f _).toNat) h0)).trans ?_
  unfold result
  exact congr (congr (congr (congr (congr (congr (congr (congr (congr (congrArg Cert.Expert.entry h1) h2) h3) h4) h5) h6) rfl) rfl) rfl) rfl

/-- From equal arguments that route, the experts' call and the plain mixture end with equal results. -/
theorem values : Cert.algebraic_Kernel2Ideal_Reference2Ideal (hKernel2Ideal := Cert.Kernel2Ideal.Gen.facts) (hReference2Ideal := Cert.Reference2Ideal.Gen.facts)
    (hPre_routed := Cert.Pre_routed.Gen.facts) := fun m g m' g' hpre hagree =>
  ⟨fun c => result m (routed m (hpre 0)) c,
    (θ_run _ _ _).mono (fun _ h c => ⟨(h.1 c).1.trans (arr_result m _ c), (h.1 c).2⟩) (run_out m g (routed m (hpre 0))),
    (θ_run _ _ _).mono (fun _ h c => ⟨(h c).1.trans (result_eq m m' _ c (hagree c).1 (hagree c).2.1 (hagree c).2.2.1 (hagree c).2.2.2.1 (hagree c).2.2.2.2.1 (hagree c).2.2.2.2.2.1
      (hagree c).2.2.2.2.2.2), (h c).2⟩) (Cert.Reference2Ideal.Value.run m' g')⟩

end Cert.Experts

end
-- ==== Proof.CombineSpec.lean ====
/-
  The combination of the experts' rows: an entry of its result, over the extended reals.
-/
module

public import Idealize.ShloMosaic.Lib.Pointwise
public import Idealize.ShloMosaic.PureOps

@[expose] public section

noncomputable section

namespace Cert.Combine

open Idealize.ShloMosaic

/-- The number that a word holds for a column: in its upper half for the first 512 columns, in its lower half for the others. -/
def number (q : ℕ) (w : BitVec 32) : EReal :=
  if q < 512 then Ideal.ofBits .f32 (IntOp.andi w 4294901760#32) else Ideal.ofBits .f32 (IntOp.shli ArithUnit.vector w 16#32)

theorem number_hi (q : ℕ) (h : q < 512) (w : BitVec 32) : number q w = Ideal.ofBits .f32 (IntOp.andi w 4294901760#32) := if_pos h

theorem number_lo (q : ℕ) (h : ¬ q < 512) (w : BitVec 32) : number q w = Ideal.ofBits .f32 (IntOp.shli ArithUnit.vector w 16#32) := if_neg h

/-- An entry of the result: the residual plus the modulation times the four rows' entries weighted by their gates. -/
def entry (g x : Fin 4 → EReal) (r w : EReal) : EReal := r + w * (g 0 * x 0 + g 1 * x 1 + g 2 * x 2 + g 3 * x 3)

end Cert.Combine

end
-- ==== Proof.CombineWhole.lean ====
/-
  The combination's call: what the run leaves in the result array, at an index, over the extended reals.
-/
module

public import proofs.«01_k».proof.Proof.Gen.Kernel3Ideal.Frame
public import proofs.«01_k».proof.Proof.CombineSpec
public import Idealize.ShloMosaic.Lib.Pipeline.ValueKit
public import Idealize.ShloMosaic.Lib.Pipeline.Covers
public import Idealize.ShloMosaic.Lib.Pointwise

@[expose] public section

set_option maxRecDepth 16384

noncomputable section

namespace Cert.Combine

open Idealize.ShloMosaic Idealize.ShloMosaic.Pipeline Idealize.ShloMosaic.Rounds
open Cert.Kernel3Ideal Cert.Kernel3Ideal.Gen

/-- What the body leaves in its output block, at an index. -/
theorem out_at (x0 : Vec Ideal S4x4x512x128 .i32) (x1 : Vec Ideal S512x4 .f32) (x2 : Vec Ideal S512x1024 .f32) (x3 : Vec Ideal S1x1x1024 .f32) (p : Fin 512) (q : Fin 1024) :
    out0_4 x0 x1 x2 x3 (ix2 p q)
      = entry (fun k => x1 (ix2 p k)) (fun k => number q.val (x0 (ix4 ⟨q.val % 512 / 128, by omega⟩ k p ⟨q.val % 128, by omega⟩))) (x2 (ix2 p q)) (x3 (ix3 0 0 q)) := by
  unfold entry
  beta_reduce
  canon_tiles x h
  all_goals
    have hp : p.val = (x 0 : Fin 512).val := h0
    have hq : q.val = _ := h1
    have hx : (x 1 : Fin 128).val < 128 := x1_lt
    clear h0 h1
    first
      | rw [number_hi q.val (by omega), number_hi q.val (by omega), number_hi q.val (by omega), number_hi q.val (by omega)]
      | rw [number_lo q.val (by omega), number_lo q.val (by omega), number_lo q.val (by omega), number_lo q.val (by omega)]
    open_payloads
    pointwise
    refine congrArg₂ (· + ·) (congrArg x2 ?_) (congrArg₂ (· * ·) (congrArg x3 ?_) (congrArg₂ (· + ·) (congrArg₂ (· + ·) (congrArg₂ (· + ·)
      (congrArg₂ (· * ·) (congrArg x1 ?_) (congrArg (Ideal.ofBits .f32) (congrArg₂ _ (congrArg x0 ?_) rfl)))
      (congrArg₂ (· * ·) (congrArg x1 ?_) (congrArg (Ideal.ofBits .f32) (congrArg₂ _ (congrArg x0 ?_) rfl))))
      (congrArg₂ (· * ·) (congrArg x1 ?_) (congrArg (Ideal.ofBits .f32) (congrArg₂ _ (congrArg x0 ?_) rfl))))
      (congrArg₂ (· * ·) (congrArg x1 ?_) (congrArg (Ideal.ofBits .f32) (congrArg₂ _ (congrArg x0 ?_) rfl))))) <;> blk_ext

variable (m : (ℓ : Loc nD τ sig) → Buf (Elt Ideal) ℓ)

/-- The result array. -/
def result (c : Dev nD) : Vec Ideal S32768x1024 .f32 := fun i =>
  entry (fun k => (show FVec Ideal S32768x4 .f32 from V m c main_arg1) (ix2 (i 0 : Fin 32768) k))
    (fun k => number (i 1 : Fin 1024).val ((show IVec S4x4x32768x128 32 from V m c main_arg0)
      (ix4 ⟨(i 1 : Fin 1024).val % 512 / 128, Nat.div_lt_of_lt_mul (Nat.mod_lt _ (by decide))⟩ k (i 0 : Fin 32768) ⟨(i 1 : Fin 1024).val % 128, Nat.mod_lt _ (by decide)⟩)))
    ((show FVec Ideal S32768x1024 .f32 from V m c main_arg2) (ix2 (i 0 : Fin 32768) (i 1 : Fin 1024)))
    ((show FVec Ideal S4x1x1024 .f32 from V m c main_arg3) (ix3 ⟨(i 0 : Fin 32768).val / 8192, Nat.div_lt_of_lt_mul (i 0).isLt⟩ 0 (i 1 : Fin 1024)))

theorem index_0 : ∀ t : Fin cfg0.N, (cfg0.win 0).index t = ![0, 0, t.val, 0] := by decide +kernel
theorem index_1 : ∀ t : Fin cfg0.N, (cfg0.win 1).index t = ![t.val, 0] := by decide +kernel
theorem index_2 : ∀ t : Fin cfg0.N, (cfg0.win 2).index t = ![t.val, 0] := by decide +kernel
theorem index_3 : ∀ t : Fin cfg0.N, (cfg0.win 3).index t = ![t.val / 16, 0, 0] := by decide +kernel
theorem index_4 : ∀ t : Fin cfg0.N, (cfg0.win 4).index t = ![t.val, 0] := by decide +kernel

theorem iblk_0 (c : Dev nD) (t : Fin cfg0.N) (j : Fin 4) (k : Fin 4) (p : Fin 512) (l : Fin 128) (n : Fin 32768) (hn : n.val = t.val * 512 + p.val) :
    iblk m c 0 t (ix4 j k p l) = V m c main_arg0 (ix4 j k n l) := by
  blk_ext [iblk, index_0 t]

theorem iblk_1 (c : Dev nD) (t : Fin cfg0.N) (p : Fin 512) (k : Fin 4) (n : Fin 32768) (hn : n.val = t.val * 512 + p.val) :
    iblk m c 1 t (ix2 p k) = V m c main_arg1 (ix2 n k) := by
  blk_ext [iblk, index_1 t]

theorem iblk_2 (c : Dev nD) (t : Fin cfg0.N) (p : Fin 512) (q : Fin 1024) (n : Fin 32768) (hn : n.val = t.val * 512 + p.val) :
    iblk m c 2 t (ix2 p q) = V m c main_arg2 (ix2 n q) := by
  blk_ext [iblk, index_2 t]

theorem iblk_3 (c : Dev nD) (t : Fin cfg0.N) (q : Fin 1024) (b : Fin 4) (hb : b.val = t.val / 16) :
    iblk m c 3 t (ix3 0 0 q) = V m c main_arg3 (ix3 b 0 q) := by
  blk_ext [iblk, index_3 t]

/-- Where an output block lies in the result array. -/
theorem emb_4 (t : Fin cfg0.N) (y : S512x1024.Idx) :
    ((((cfg0.win 4).blk t).view.emb y (0 : Fin 2) : ℕ)) = t.val * 512 + (y 0).val ∧ ((((cfg0.win 4).blk t).view.emb y (1 : Fin 2) : ℕ)) = (y 1).val := by
  refine ⟨?_, ?_⟩ <;> blk_simp [index_4 t]

theorem covers_4 : (cfg0.win 4).Covers := by decide +kernel

theorem idx_rows (y : S512x1024.Idx) : y = ix2 (y 0 : Fin 512) (y 1 : Fin 1024) := by
  funext a
  fin_cases a <;> rfl

/-- The result at an index, by where its coordinates lie. -/
theorem result_ix (c : Dev nD) (t : Fin cfg0.N) (p : Fin 512) (q : Fin 1024) (i : S32768x1024.Idx) (h0 : (i 0).val = t.val * 512 + p.val) (h1 : (i 1).val = q.val) :
    out0_4 (iblk m c 0 t) (iblk m c 1 t) (iblk m c 2 t) (iblk m c 3 t) (ix2 p q) = result m c i := by
  have hi : (i 0 : Fin 32768).val = t.val * 512 + p.val := h0
  have hq : q = (i 1 : Fin 1024) := Fin.ext h1.symm
  subst hq
  have hd : (i 0 : Fin 32768).val / 8192 = t.val / 16 := by omega
  have g := fun k => iblk_1 m c t p k (i 0 : Fin 32768) hi
  have x := fun (j : Fin 4) (l : Fin 128) (k : Fin 4) => iblk_0 m c t j k p l (i 0 : Fin 32768) hi
  have r := iblk_2 m c t p (i 1 : Fin 1024) (i 0 : Fin 32768) hi
  have w := iblk_3 m c t (i 1 : Fin 1024) ⟨(i 0 : Fin 32768).val / 8192, Nat.div_lt_of_lt_mul (i 0 : Fin 32768).isLt⟩ hd
  have e := out_at (iblk m c 0 t) (iblk m c 1 t) (iblk m c 2 t) (iblk m c 3 t) p (i 1 : Fin 1024)
  refine e.trans ?_
  exact congr (congr (congr (congrArg entry (funext g)) (funext fun k => congrArg (number _) (x _ _ k))) r) w

/-- The result array after the run. -/
theorem arr_result (c : Dev nD) : (dats m 0 c).arrAt 4 cfg0.N = result m c := by
  refine (dats m 0 c).arrAt_eq_of_covers 4 _ covers_4 fun t hf y => ?_
  blk_simp
  rw [after0_4]
  exact (congrArg _ (idx_rows y)).trans (result_ix m c t (y 0) (y 1) _ (emb_4 t y).1 (emb_4 t y).2)

end Cert.Combine

end
-- ==== Proof.CombinePlain.lean ====
/-
  The plain combination, read at an index.
-/
module

public import proofs.«01_k».proof.Proof.Gen.Reference3Ideal.Run
public import proofs.«01_k».proof.Proof.CombineSpec
public import Idealize.ShloMosaic.Lib.Pipeline.ValueKit
public import Idealize.ShloMosaic.Lib.Pointwise

@[expose] public section

set_option maxRecDepth 16384

noncomputable section

namespace Cert.Plain3

open Idealize.ShloMosaic Cert.Reference3Ideal Cert.Reference3Ideal.Gen

/-- The columns that the words hold. -/
def opened (x : IVec S4x4x32768x128 32) : FVec Ideal S8x4x32768x128 .f32 :=
  concatenate S8x4x32768x128 0 [⟨S4x4x32768x128, (bitcastToFloat (F := Ideal) .f32 (andi x (broadcastInDim S4x4x32768x128 ![] bcast_S_S4x4x32768x128 (constantI S_ 32 4294901760#32))))⟩,
    ⟨S4x4x32768x128, (bitcastToFloat (F := Ideal) .f32 (Host.shli x (broadcastInDim S4x4x32768x128 ![] bcast_S_S4x4x32768x128 (constantI S_ 32 16#32))))⟩]
    concatenates_S4x4x32768x128_S4x4x32768x128_S8x4x32768x128_d0

/-- A shift by sixteen places. -/
theorem shift (w : BitVec 32) : IntOp.shli ArithUnit.host w 16#32 = IntOp.shli ArithUnit.vector w 16#32 := by rfl

theorem opened_at (x : IVec S4x4x32768x128 32) (k : Fin 4) (n : Fin 32768) (q : Fin 1024) :
    opened x (ix4 ⟨q.val / 128, by omega⟩ k n ⟨q.val % 128, by omega⟩) = Cert.Combine.number q.val (x (ix4 ⟨q.val % 512 / 128, by omega⟩ k n ⟨q.val % 128, by omega⟩)) := by
  by_cases h : q.val < 512
  · rw [Cert.Combine.number_hi _ h]
    pointwise [opened]
    rw [dif_pos (show q.val / 128 < 4 by omega)]
    refine congrArg (Ideal.ofBits .f32) (congrArg₂ _ (congrArg x ?_) rfl)
    blk_ext
  · rw [Cert.Combine.number_lo _ h]
    pointwise [opened]
    rw [dif_neg (show ¬ q.val / 128 < 4 by omega), shift]
    refine congrArg (Ideal.ofBits .f32) (congrArg₂ _ (congrArg x ?_) rfl)
    blk_ext

/-- The rows of each token, weighted by their gates and summed. -/
def summed (x : FVec Ideal S8x4x32768x128 .f32) (g : FVec Ideal S32768x4 .f32) : FVec Ideal S32768x1024 .f32 :=
  Host.reduceAdd (mulf (shapeCast _ (transpose S4x32768x8x128 [1, 2, 0, 3] x transposes_S8x4x32768x128_S4x32768x8x128_1_2_0_3) shapeCasts_S4x32768x8x128_S4x32768x1024)
    (broadcastInDim S4x32768x1024 ![0, 1, 2] bcast_S4x32768x1_S4x32768x1024_0_1_2 (broadcastInDim S4x32768x1 ![0, 1] bcast_S4x32768_S4x32768x1_0_1 (transpose S4x32768 [1, 0] g transposes_S32768x4_S4x32768_1_0))))
    (constant S_ .f32 0x00000000#32) reducesTo_S4x32768x1024_S32768x1024_d0 h_S_

theorem summed_at (x : FVec Ideal S8x4x32768x128 .f32) (g : FVec Ideal S32768x4 .f32) (n : Fin 32768) (q : Fin 1024) :
    summed x g (ix2 n q) = ∑ k : Fin 4, x (ix4 ⟨q.val / 128, by omega⟩ k n ⟨q.val % 128, by omega⟩) * g (ix2 n k) := by
  pointwise [summed]

/-- The plain combination's result from the sum. -/
def joined (s : FVec Ideal S32768x1024 .f32) (r : FVec Ideal S32768x1024 .f32) (w : FVec Ideal S4x1x1024 .f32) : FVec Ideal S32768x1024 .f32 :=
  shapeCast _ (addf (shapeCast _ r shapeCasts_S32768x1024_S4x8192x1024) (mulf (broadcastInDim S4x8192x1024 ![0, 1, 2] bcast_S4x1x1024_S4x8192x1024_0_1_2 w)
    (shapeCast _ s shapeCasts_S32768x1024_S4x8192x1024))) shapeCasts_S4x8192x1024_S32768x1024

theorem joined_at (s : FVec Ideal S32768x1024 .f32) (r : FVec Ideal S32768x1024 .f32) (w : FVec Ideal S4x1x1024 .f32) (n : Fin 32768) (q : Fin 1024) :
    joined s r w (ix2 n q) = r (ix2 n q) + w (ix3 ⟨n.val / 8192, by omega⟩ 0 q) * s (ix2 n q) := by
  pointwise [joined]

/-- The plain combination's result. -/
def combined (x : IVec S4x4x32768x128 32) (g : FVec Ideal S32768x4 .f32) (r : FVec Ideal S32768x1024 .f32) (w : FVec Ideal S4x1x1024 .f32) : FVec Ideal S32768x1024 .f32 :=
  joined (summed (opened x) g) r w

/-- The plain combination's result at an index. -/
theorem combined_at (x : IVec S4x4x32768x128 32) (g : FVec Ideal S32768x4 .f32) (r : FVec Ideal S32768x1024 .f32) (w : FVec Ideal S4x1x1024 .f32) (n : Fin 32768) (q : Fin 1024) :
    combined x g r w (ix2 n q)
      = Cert.Combine.entry (fun k => g (ix2 n k)) (fun k => Cert.Combine.number q.val (x (ix4 ⟨q.val % 512 / 128, by omega⟩ k n ⟨q.val % 128, by omega⟩))) (r (ix2 n q)) (w (ix3 ⟨n.val / 8192, by omega⟩ 0 q)) := by
  refine (joined_at _ r w n q).trans ?_
  have e : summed (opened x) g (ix2 n q) = ∑ k : Fin 4, g (ix2 n k) * Cert.Combine.number q.val (x (ix4 ⟨q.val % 512 / 128, by omega⟩ k n ⟨q.val % 128, by omega⟩)) :=
    (summed_at _ g n q).trans (Finset.sum_congr rfl fun k _ => (congrArg (· * g (ix2 n k)) (opened_at x k n q)).trans (mul_comm _ _))
  rw [e, Fin.sum_univ_four]
  rfl

end Cert.Plain3

end
-- ==== Proof.CombineEqual.lean ====
/-
  The combination's call against the plain combination: the two runs and the equality of their results.
-/
module

public import proofs.«01_k».proof.Defs
public import proofs.«01_k».proof.Proof.CombineWhole
public import proofs.«01_k».proof.Proof.CombinePlain
public import proofs.«01_k».proof.Proof.Gen.Kernel3
public import proofs.«01_k».proof.Proof.Gen.Kernel3Ideal
public import proofs.«01_k».proof.Proof.Gen.Reference3Ideal
public import Idealize.ShloMosaic.Adequacy
public import Idealize.ShloMosaic.Init

@[expose] public section

set_option maxRecDepth 16384

noncomputable section

namespace Cert.Combine

open Idealize.ShloMosaic Idealize.SL.Sem

/-- The plain combination runs to the end with every counter at zero and its arguments unchanged. -/
theorem frame_plain : Cert.quiescent_Reference3Ideal (hReference3Ideal := Cert.Reference3Ideal.Gen.facts) := fun m ρ _ =>
  (θ_run _ _ _).mono (fun _ h => ⟨fun c => (h c).2, sem_eq_zero_of_no_sems (by decide) _⟩) (Cert.Reference3Ideal.Value.run m ρ)

/-- From equal arguments the two results are equal. -/
theorem result_eq (m : (ℓ : Loc Cert.Kernel3Ideal.nD Cert.Kernel3Ideal.τ Cert.Kernel3Ideal.sig) → Buf (Elt Ideal) ℓ) (c : Dev Cert.Kernel3Ideal.nD)
    (x : IVec Cert.Reference3Ideal.S4x4x32768x128 32) (g : FVec Ideal Cert.Reference3Ideal.S32768x4 .f32) (r : FVec Ideal Cert.Reference3Ideal.S32768x1024 .f32)
    (w : FVec Ideal Cert.Reference3Ideal.S4x1x1024 .f32)
    (h0 : x = Cert.Kernel3Ideal.Gen.V m c Cert.Kernel3Ideal.main_arg0) (h1 : g = Cert.Kernel3Ideal.Gen.V m c Cert.Kernel3Ideal.main_arg1)
    (h2 : r = Cert.Kernel3Ideal.Gen.V m c Cert.Kernel3Ideal.main_arg2) (h3 : w = Cert.Kernel3Ideal.Gen.V m c Cert.Kernel3Ideal.main_arg3) :
    Cert.Plain3.combined x g r w = result m c := by
  subst h0 h1 h2 h3
  funext i
  refine (congrArg (Cert.Plain3.combined _ _ _ _) (eq_ix2 i)).trans ?_
  exact Cert.Plain3.combined_at _ _ _ _ (i 0) (i 1)

/-- From equal arguments the combination's call and the plain combination end with equal results. -/
theorem values : Cert.algebraic_Kernel3Ideal_Reference3Ideal (hKernel3Ideal := Cert.Kernel3Ideal.Gen.facts) (hReference3Ideal := Cert.Reference3Ideal.Gen.facts) := fun m g m' g' _ hagree =>
  ⟨fun c => result m c,
    (θ_run _ _ _).mono (fun _ h c => ⟨((h.1 c).1 4).trans (arr_result m c), h.2 c⟩)
      (θ_run_and (Cert.Kernel3Ideal.Gen.run_main m g) (Cert.Kernel3Ideal.Gen.unchanged m g)),
    (θ_run _ _ _).mono (fun _ h c => ⟨(h c).1.trans (result_eq m c _ _ _ _ (hagree c).1 (hagree c).2.1 (hagree c).2.2.1 (hagree c).2.2.2), (h c).2⟩) (Cert.Reference3Ideal.Value.run m' g')⟩

end Cert.Combine

end
-- ==== Proof.EnterSpec.lean ====
/-
  The layer's entry: an entry of the hybrid projection, over the extended reals.
-/
module

public import Idealize.ShloMosaic.Lib.Pointwise
public import Idealize.ShloMosaic.PureOps

@[expose] public section

noncomputable section

namespace Cert.Enter

open Idealize.ShloMosaic

/-- The reciprocal of a row's root mean square. -/
def factor (x : Fin 1024 → EReal) : EReal :=
  Ideal.rsqrt (Ideal.div (∑ k, x k * x k) (Ideal.ofBits .f32 1149239296#32) + Ideal.ofBits .f32 897988541#32)

/-- An entry of the projection: the row, normalized, scaled and shifted, against a column of the weights. -/
def entry (x g a s w : Fin 1024 → EReal) : EReal := ∑ k, (x k * factor x * g k * (1 + s k) + a k) * w k

end Cert.Enter

end
-- ==== Proof.EnterWhole.lean ====
/-
  The layer's entry: what the run leaves in the hybrid projection's array, at an index, over the extended reals.
-/
module

public import proofs.«01_k».proof.Proof.Gen.Kernel4Ideal.Frame
public import proofs.«01_k».proof.Proof.EnterSpec
public import Idealize.ShloMosaic.Lib.Pipeline.ValueKit
public import Idealize.ShloMosaic.Lib.Pipeline.Covers
public import Idealize.ShloMosaic.Lib.Pointwise

@[expose] public section

set_option maxRecDepth 16384

noncomputable section

namespace Cert.Enter

open Idealize.ShloMosaic Idealize.ShloMosaic.Pipeline Idealize.ShloMosaic.Rounds
open Cert.Kernel4Ideal Cert.Kernel4Ideal.Gen

/-- The root mean square's reciprocal of each row. -/
def scale (x0 : FVec Ideal S512x1024 .f32) : FVec Ideal S512x1 .f32 :=
  rsqrt (addf (divf (shapeCast S512x1 (multiReduction .add [1] S512 (mulf x0 x0) 0x00000000#32 reduces_S512x1024_S512 (.inl rfl) rfl) shapeCasts_S512_S512x1)
    (broadcast S512x1 (Scalar.ofBits .f32 0x44800000#32))) (broadcast S512x1 (Scalar.ofBits .f32 0x358637BD#32)))

/-- The normalized and modulated rows, from the rows' scale. -/
def rows (x0 : FVec Ideal S512x1024 .f32) (z : FVec Ideal S512x1 .f32) (x1 x2 : FVec Ideal S1x1x1024 .f32) (x3 : FVec Ideal S1x1024 .f32) : FVec Ideal S512x1024 .f32 :=
  addf (mulf (mulf (mulf x0 (broadcastTo S512x1024 z broadcasts_S512x1_S512x1024)) (broadcastTo S512x1024 x3 broadcasts_S1x1024_S512x1024))
    (broadcastTo S512x1024 (addf (broadcast S1x1024 (Scalar.ofBits .f32 0x3F800000#32)) (shapeCast S1x1024 x2 shapeCasts_S1x1x1024_S1x1024)) broadcasts_S1x1024_S512x1024))
    (broadcastTo S512x1024 (shapeCast S1x1024 x1 shapeCasts_S1x1x1024_S1x1024) broadcasts_S1x1024_S512x1024)

/-- The block of the projection. -/
def block (h : FVec Ideal S512x1024 .f32) (w : FVec Ideal S1024x1536 .bf16) : FVec Ideal S512x1536 .bf16 :=
  truncf .bf16 (matmul dot_S512x1024_S1024x1536_S512x1536_1_0_0_1_n_n none (truncf .bf16 h bitsLt_bf16_f32) w (constant S512x1536 .f32 0x00000000#32)) bitsLt_bf16_f32

theorem scale_at (x : FVec Ideal S512x1024 .f32) (p : Fin 512) :
    scale x (ix2 p 0) = factor fun k => x (ix2 p k) := by
  unfold factor
  pointwise [scale]

theorem rows_at (x0 : FVec Ideal S512x1024 .f32) (z : FVec Ideal S512x1 .f32) (x1 x2 : FVec Ideal S1x1x1024 .f32) (x3 : FVec Ideal S1x1024 .f32) (p : Fin 512) (k : Fin 1024) :
    rows x0 z x1 x2 x3 (ix2 p k) = x0 (ix2 p k) * z (ix2 p 0) * x3 (ix2 0 k) * (1 + x2 (ix3 0 0 k)) + x1 (ix3 0 0 k) := by
  pointwise [rows]

theorem block_at (h : FVec Ideal S512x1024 .f32) (w : FVec Ideal S1024x1536 .bf16) (p : Fin 512) (q : Fin 1536) :
    block h w (ix2 p q) = ∑ k : Fin 1024, h (ix2 p k) * w (ix2 k q) := by
  pointwise [block]

/-- The block at an index. -/
theorem entry_at (x0 : FVec Ideal S512x1024 .f32) (x1 x2 : FVec Ideal S1x1x1024 .f32) (x3 : FVec Ideal S1x1024 .f32) (w : FVec Ideal S1024x1536 .bf16) (p : Fin 512) (q : Fin 1536) :
    block (rows x0 (scale x0) x1 x2 x3) w (ix2 p q)
      = entry (fun k => x0 (ix2 p k)) (fun k => x3 (ix2 0 k)) (fun k => x1 (ix3 0 0 k)) (fun k => x2 (ix3 0 0 k)) (fun k => w (ix2 k q)) := by
  refine (block_at _ w p q).trans (Finset.sum_congr rfl fun k _ => congrArg (· * w (ix2 k q)) ?_)
  refine (rows_at x0 _ x1 x2 x3 p k).trans ?_
  rw [scale_at x0 p]

variable (m : (ℓ : Loc nD τ sig) → Buf (Elt Ideal) ℓ)

/-- What the body leaves in its first output block, at the first point. -/
theorem out_A (c : Dev nD) (t : Fin cfg0.N) (h0 : t.val % 65 = 0) : (outsAt0 m c t.val t.isLt).1 = block (rows (iblk m c 0 t) (scale (iblk m c 0 t)) (iblk m c 1 t) (iblk m c 2 t) (iblk m c 3 t)) (iblk m c 4 t) := by
  rw [outsAt0_A m c t h0]
  dsimp only
  funext y
  frame_out
  rfl

/-- What the body leaves in its first output block, at the other points. -/
theorem out_B (c : Dev nD) (t : Fin cfg0.N) (h0 : ¬ t.val % 65 = 0) : (outsAt0 m c t.val t.isLt).1 = block (rows (iblk m c 0 t) (scale (iblk m c 0 t)) (iblk m c 1 t) (iblk m c 2 t) (iblk m c 3 t)) (iblk m c 4 t) := by
  rw [outsAt0_B m c t h0]
  dsimp only
  funext y
  frame_out
  rfl

theorem index_0 : ∀ t : Fin cfg0.N, (cfg0.win 0).index t = ![min t.val 63, 0] := by decide +kernel
theorem index_1 : ∀ t : Fin cfg0.N, (cfg0.win 1).index t = ![min t.val 63 / 16, 0, 0] := by decide +kernel
theorem index_2 : ∀ t : Fin cfg0.N, (cfg0.win 2).index t = ![min t.val 63 / 16, 0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_17 : ∀ t : Fin cfg0.N, (cfg0.win 17).index t = ![min t.val 63, 0] := by decide +kernel

theorem covers_17 : (cfg0.win 17).Covers := by decide +kernel

/-- The result array. -/
def result (c : Dev nD) : Vec Ideal S32768x1536 .bf16 := fun i =>
  entry (fun k => (show FVec Ideal S32768x1024 .f32 from V m c main_arg0) (ix2 (i 0 : Fin 32768) k))
    (fun k => (show FVec Ideal S1x1024 .f32 from V m c main_arg3) (ix2 0 k))
    (fun k => (show FVec Ideal S4x1x1024 .f32 from V m c main_arg1) (ix3 ⟨(i 0 : Fin 32768).val / 8192, Nat.div_lt_of_lt_mul (i 0).isLt⟩ 0 k))
    (fun k => (show FVec Ideal S4x1x1024 .f32 from V m c main_arg2) (ix3 ⟨(i 0 : Fin 32768).val / 8192, Nat.div_lt_of_lt_mul (i 0).isLt⟩ 0 k))
    (fun k => (show FVec Ideal S1024x1536 .bf16 from V m c main_arg4) (ix2 k (i 1 : Fin 1536)))

theorem iblk_0 (c : Dev nD) (t : Fin cfg0.N) (p : Fin 512) (k : Fin 1024) (n : Fin 32768) (hn : n.val = min t.val 63 * 512 + p.val) :
    iblk m c 0 t (ix2 p k) = V m c main_arg0 (ix2 n k) := by
  blk_ext [iblk, index_0 t]

theorem iblk_1 (c : Dev nD) (t : Fin cfg0.N) (k : Fin 1024) (b : Fin 4) (hb : b.val = min t.val 63 / 16) :
    iblk m c 1 t (ix3 0 0 k) = V m c main_arg1 (ix3 b 0 k) := by
  blk_ext [iblk, index_1 t]

theorem iblk_2 (c : Dev nD) (t : Fin cfg0.N) (k : Fin 1024) (b : Fin 4) (hb : b.val = min t.val 63 / 16) :
    iblk m c 2 t (ix3 0 0 k) = V m c main_arg2 (ix3 b 0 k) := by
  blk_ext [iblk, index_2 t]

theorem iblk_3 (c : Dev nD) (t : Fin cfg0.N) (k : Fin 1024) : iblk m c 3 t (ix2 0 k) = V m c main_arg3 (ix2 0 k) := by
  blk_ext [iblk, index_3 t]

theorem iblk_4 (c : Dev nD) (t : Fin cfg0.N) (k : Fin 1024) (q : Fin 1536) : iblk m c 4 t (ix2 k q) = V m c main_arg4 (ix2 k q) := by
  blk_ext [iblk, index_4 t]

/-- Where an output block lies in the result array. -/
theorem emb_17 (t : Fin cfg0.N) (y : S512x1536.Idx) :
    ((((cfg0.win 17).blk t).view.emb y (0 : Fin 2) : ℕ)) = min t.val 63 * 512 + (y 0).val ∧ ((((cfg0.win 17).blk t).view.emb y (1 : Fin 2) : ℕ)) = (y 1).val := by
  refine ⟨?_, ?_⟩ <;> blk_simp [index_17 t]

theorem idx_rows (y : S512x1536.Idx) : y = ix2 (y 0 : Fin 512) (y 1 : Fin 1536) := by
  funext a
  fin_cases a <;> rfl

/-- What the body leaves in its first output block, at any point. -/
theorem out_at (c : Dev nD) (t : Fin cfg0.N) :
    (outsAt0 m c t.val t.isLt).1 = block (rows (iblk m c 0 t) (scale (iblk m c 0 t)) (iblk m c 1 t) (iblk m c 2 t) (iblk m c 3 t)) (iblk m c 4 t) := by
  by_cases h : t.val % 65 = 0
  · exact out_A m c t h
  · exact out_B m c t h

/-- The result at an index, by where its coordinates lie. -/
theorem result_ix (c : Dev nD) (t : Fin cfg0.N) (p : Fin 512) (q : Fin 1536) (i : S32768x1536.Idx) (h0 : (i 0).val = min t.val 63 * 512 + p.val) (h1 : (i 1).val = q.val) :
    (outsAt0 m c t.val t.isLt).1 (ix2 p q) = result m c i := by
  have hi : (i 0 : Fin 32768).val = min t.val 63 * 512 + p.val := h0
  have hq : q = (i 1 : Fin 1536) := Fin.ext h1.symm
  subst hq
  have hd : (i 0 : Fin 32768).val / 8192 = min t.val 63 / 16 := by omega
  have x := fun k => iblk_0 m c t p k (i 0 : Fin 32768) hi
  have a := fun k => iblk_1 m c t k ⟨(i 0 : Fin 32768).val / 8192, Nat.div_lt_of_lt_mul (i 0 : Fin 32768).isLt⟩ hd
  have s := fun k => iblk_2 m c t k ⟨(i 0 : Fin 32768).val / 8192, Nat.div_lt_of_lt_mul (i 0 : Fin 32768).isLt⟩ hd
  have g := fun k => iblk_3 m c t k
  have w := fun k => iblk_4 m c t k (i 1 : Fin 1536)
  have e := entry_at (iblk m c 0 t) (iblk m c 1 t) (iblk m c 2 t) (iblk m c 3 t) (iblk m c 4 t) p (i 1 : Fin 1536)
  refine (congrFun (out_at m c t) _).trans (e.trans ?_)
  exact congr (congr (congr (congr (congrArg entry (funext x)) (funext g)) (funext a)) (funext s)) (funext w)

/-- The result array after the run. -/
theorem arr_result (c : Dev nD) : (dats m 0 c).arrAt 17 cfg0.N = result m c := by
  refine (dats m 0 c).arrAt_eq_of_covers 17 _ covers_17 fun t hf y => ?_
  blk_simp
  rw [after0_17]
  exact (congrArg _ (idx_rows y)).trans (result_ix m c t (y 0) (y 1) _ (emb_17 t y).1 (emb_17 t y).2)

end Cert.Enter

end
-- ==== Proof.EnterPlain.lean ====
/-
  The plain entry, read at an index.
-/
module

public import proofs.«01_k».proof.Proof.Gen.Reference4Ideal.Run
public import proofs.«01_k».proof.Proof.EnterSpec
public import Idealize.ShloMosaic.Lib.Pipeline.ValueKit
public import Idealize.ShloMosaic.Lib.Pointwise

@[expose] public section

set_option maxRecDepth 16384

noncomputable section

namespace Cert.Plain4

open Idealize.ShloMosaic Cert.Reference4Ideal Cert.Reference4Ideal.Gen

/-- The root mean square's reciprocal of each row. -/
def scale (x : FVec Ideal S32768x1024 .f32) : FVec Ideal S32768x1 .f32 :=
  Host.rsqrt (addf (Host.divf (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32)))

/-- The normalized and modulated rows, from the rows' scale. -/
def rows (x : FVec Ideal S32768x1024 .f32) (z : FVec Ideal S32768x1 .f32) (a s : FVec Ideal S4x1x1024 .f32) (g : FVec Ideal S1x1024 .f32) : FVec Ideal S32768x1024 .f32 :=
  shapeCast _ (addf (mulf (shapeCast _ (mulf (mulf x (broadcastInDim S32768x1024 ![0, 1] bcast_S32768x1_S32768x1024_0_1 z)) (broadcastInDim S32768x1024 ![0, 1] bcast_S1x1024_S32768x1024_0_1 g)) shapeCasts_S32768x1024_S4x8192x1024)
    (broadcastInDim S4x8192x1024 ![0, 1, 2] bcast_S4x1x1024_S4x8192x1024_0_1_2 (addf (broadcastInDim S4x1x1024 ![] bcast_S_S4x1x1024 (constant S_ .f32 0x3F800000#32)) s)))
    (broadcastInDim S4x8192x1024 ![0, 1, 2] bcast_S4x1x1024_S4x8192x1024_0_1_2 a)) shapeCasts_S4x8192x1024_S32768x1024

/-- The projection of the rows. -/
def product (h : FVec Ideal S32768x1024 .f32) (w : FVec Ideal S1024x1536 .bf16) : FVec Ideal S32768x1536 .bf16 :=
  truncf .bf16 (Host.dotGeneral dot_S32768x1024_S1024x1536_S32768x1536_1_0_0_1_n_n none h (extf .f32 w bitsLt_bf16_f32)) bitsLt_bf16_f32

theorem scale_at (x : FVec Ideal S32768x1024 .f32) (n : Fin 32768) :
    scale x (ix2 n 0) = Cert.Enter.factor fun k => x (ix2 n k) := by
  unfold Cert.Enter.factor
  pointwise [scale]

theorem rows_at (x : FVec Ideal S32768x1024 .f32) (z : FVec Ideal S32768x1 .f32) (a s : FVec Ideal S4x1x1024 .f32) (g : FVec Ideal S1x1024 .f32) (n : Fin 32768) (k : Fin 1024) :
    rows x z a s g (ix2 n k) = x (ix2 n k) * z (ix2 n 0) * g (ix2 0 k) * (1 + s (ix3 ⟨n.val / 8192, by omega⟩ 0 k)) + a (ix3 ⟨n.val / 8192, by omega⟩ 0 k) := by
  pointwise [rows]

theorem product_at (h : FVec Ideal S32768x1024 .f32) (w : FVec Ideal S1024x1536 .bf16) (n : Fin 32768) (q : Fin 1536) :
    product h w (ix2 n q) = ∑ k : Fin 1024, h (ix2 n k) * w (ix2 k q) := by
  pointwise [product]

/-- The plain entry's result. -/
def entered (x : FVec Ideal S32768x1024 .f32) (a s : FVec Ideal S4x1x1024 .f32) (g : FVec Ideal S1x1024 .f32) (w : FVec Ideal S1024x1536 .bf16) : FVec Ideal S32768x1536 .bf16 :=
  product (rows x (scale x) a s g) w

/-- The plain entry's result at an index. -/
theorem entered_at (x : FVec Ideal S32768x1024 .f32) (a s : FVec Ideal S4x1x1024 .f32) (g : FVec Ideal S1x1024 .f32) (w : FVec Ideal S1024x1536 .bf16) (n : Fin 32768) (q : Fin 1536) :
    entered x a s g w (ix2 n q) = Cert.Enter.entry (fun k => x (ix2 n k)) (fun k => g (ix2 0 k)) (fun k => a (ix3 ⟨n.val / 8192, by omega⟩ 0 k))
      (fun k => s (ix3 ⟨n.val / 8192, by omega⟩ 0 k)) (fun k => w (ix2 k q)) := by
  refine (product_at _ w n q).trans (Finset.sum_congr rfl fun k _ => congrArg (· * w (ix2 k q)) ?_)
  refine (rows_at x _ a s g n k).trans ?_
  rw [scale_at x n]

end Cert.Plain4

end
-- ==== Proof.EnterEqual.lean ====
/-
  The entry's call against the plain entry: the two runs and the equality of their results.
-/
module

public import proofs.«01_k».proof.Defs
public import proofs.«01_k».proof.Proof.EnterWhole
public import proofs.«01_k».proof.Proof.EnterPlain
public import proofs.«01_k».proof.Proof.Gen.Kernel4
public import proofs.«01_k».proof.Proof.Gen.Kernel4Ideal
public import proofs.«01_k».proof.Proof.Gen.Reference4Ideal
public import Idealize.ShloMosaic.Adequacy
public import Idealize.ShloMosaic.Init

@[expose] public section

set_option maxRecDepth 16384

noncomputable section

namespace Cert.Enter

open Idealize.ShloMosaic Idealize.SL.Sem

/-- The plain entry runs to the end with every counter at zero and its arguments unchanged. -/
theorem frame_plain : Cert.quiescent_Reference4Ideal (hReference4Ideal := Cert.Reference4Ideal.Gen.facts) := fun m ρ _ =>
  (θ_run _ _ _).mono (fun _ h => ⟨fun c => (h c).2, sem_eq_zero_of_no_sems (by decide) _⟩) (Cert.Reference4Ideal.Value.run m ρ)

/-- From equal arguments the two results are equal. -/
theorem result_eq (m : (ℓ : Loc Cert.Kernel4Ideal.nD Cert.Kernel4Ideal.τ Cert.Kernel4Ideal.sig) → Buf (Elt Ideal) ℓ) (c : Dev Cert.Kernel4Ideal.nD)
    (x : FVec Ideal Cert.Reference4Ideal.S32768x1024 .f32) (a : FVec Ideal Cert.Reference4Ideal.S4x1x1024 .f32) (s : FVec Ideal Cert.Reference4Ideal.S4x1x1024 .f32) (g : FVec Ideal Cert.Reference4Ideal.S1x1024 .f32) (w : FVec Ideal Cert.Reference4Ideal.S1024x1536 .bf16)
    (h0 : x = Cert.Kernel4Ideal.Gen.V m c Cert.Kernel4Ideal.main_arg0) (h1 : a = Cert.Kernel4Ideal.Gen.V m c Cert.Kernel4Ideal.main_arg1) (h2 : s = Cert.Kernel4Ideal.Gen.V m c Cert.Kernel4Ideal.main_arg2) (h3 : g = Cert.Kernel4Ideal.Gen.V m c Cert.Kernel4Ideal.main_arg3) (h4 : w = Cert.Kernel4Ideal.Gen.V m c Cert.Kernel4Ideal.main_arg4) :
    Cert.Plain4.entered x a s g w = result m c := by
  subst h0 h1 h2 h3 h4
  funext i
  refine (congrArg (Cert.Plain4.entered _ _ _ _ _) (eq_ix2 i)).trans ?_
  exact Cert.Plain4.entered_at _ _ _ _ _ (i 0) (i 1)

/-- From equal arguments the entry's call and the plain entry end with equal results. -/
theorem values : Cert.algebraic_Kernel4Ideal_Reference4Ideal (hKernel4Ideal := Cert.Kernel4Ideal.Gen.facts) (hReference4Ideal := Cert.Reference4Ideal.Gen.facts) := fun m g m' g' _ hagree =>
  ⟨fun c => result m c,
    (θ_run _ _ _).mono (fun _ h c => ⟨((h.1 c).1 17).trans (arr_result m c), h.2 c⟩)
      (θ_run_and (Cert.Kernel4Ideal.Gen.run_main m g) (Cert.Kernel4Ideal.Gen.unchanged m g)),
    (θ_run _ _ _).mono (fun _ h c => ⟨(h c).1.trans (result_eq m c _ _ _ _ _ (hagree c).1 (hagree c).2.1 (hagree c).2.2.1 (hagree c).2.2.2.1 (hagree c).2.2.2.2.1), (h c).2⟩) (Cert.Reference4Ideal.Value.run m' g')⟩

end Cert.Enter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.ReferenceIdeal.Run
public import proofs.«01_k».proof.Proof.Gen.Reference2Ideal
public import proofs.«01_k».proof.Proof.Gen.Reference2Ideal.Run
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.AttendRun
public import proofs.«01_k».proof.Proof.Whole
public import proofs.«01_k».proof.Proof.Plain
public import proofs.«01_k».proof.Proof.Equal
public import proofs.«01_k».proof.Proof.Finite
public import proofs.«01_k».proof.Proof.ExpertsEqual
public import proofs.«01_k».proof.Proof.CombineEqual
public import proofs.«01_k».proof.Proof.EnterEqual
public import Idealize.ShloMosaic.Adequacy
public import Idealize.ShloMosaic.Init

@[expose] public section

noncomputable section

namespace Cert.Proof

open Idealize.ShloMosaic Idealize.SL.Sem Cert.Kernel

/-- The kernel's run: the result array ends at the attention, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6) = Cert.Flash.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨(h c).1.trans (Cert.Flash.arr_result m c), (h c).2⟩) (Cert.Flash.run_out m ρ)

/-- The reference runs to the end with every counter at zero and its arguments unchanged. -/
theorem reference_frame : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run m ρ)

/-- From equal arguments with finite queries and keys, the kernel and the plain softmax attention end with equal results. -/
theorem values : Cert.algebraic_KernelIdeal_ReferenceIdeal_pre_finite (hKernelIdeal := Cert.KernelIdeal.Gen.facts) (hReferenceIdeal := Cert.ReferenceIdeal.Gen.facts)
    (hPre_finite := Cert.Finite.facts) := fun m g m' g' hpre hagree =>
  ⟨fun c => Cert.Flash.result m c, kernel_run m g, (θ_run _ _ _).mono (fun _ h c =>
    ⟨(h c).1.trans (Eq.symm (Cert.Flash.result_eq m c _ _ _ _ _ (hagree c).1.symm (hagree c).2.1.symm (hagree c).2.2.1.symm (hagree c).2.2.2.1.symm (hagree c).2.2.2.2.symm
      (fun i => (congrArg (fun f => ∃ r : ℝ, f i = (r : EReal)) (hagree c).1).mpr (Cert.Finite.queries _ _ _ _ _ (hpre c) i))
      (fun i => (congrArg (fun f => ∃ r : ℝ, f i = (r : EReal)) (hagree c).2.1).mpr (Cert.Finite.keys _ _ _ _ _ (hpre c) i))
      (fun i => (congrArg (fun f => ∃ r : ℝ, f i = (r : EReal)) (hagree c).2.2.2.1).mpr (Cert.Finite.conds _ _ _ _ _ (hpre c) i)))), (h c).2⟩)
    (Cert.ReferenceIdeal.Value.run m' g')⟩

/-- The kernels and the references run to the end with every counter at zero and their arguments unchanged; the idealization rewrote nothing; the results
    of the attention, of the experts and of the combination are those of the plain programs. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Finite.facts, Cert.Pre_routed.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ ⟨⟩,
  Cert.Experts.frame_bits, Cert.Experts.frame_ideal, Cert.Experts.frame_plain, fun m ρ _ => Cert.Experts.frame_plain m ρ ⟨⟩,
  fun m ρ _ => Cert.Kernel3.Gen.frame m ρ, fun m ρ _ => Cert.Kernel3Ideal.Gen.frame m ρ, Cert.Combine.frame_plain,
  fun m ρ _ => Cert.Kernel4.Gen.frame m ρ, fun m ρ _ => Cert.Kernel4Ideal.Gen.frame m ρ, Cert.Enter.frame_plain,
  trivial, values, trivial, Cert.Experts.values, trivial, Cert.Combine.values, trivial, Cert.Enter.values⟩

end Cert.Proof

end
